-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_in_range [hPre_x_in_range : Cert.Pre_x_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_x_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_in_range [hPre_x_in_range : Cert.Pre_x_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_x_in_range [hKernelIdeal : Cert.KernelIdeal.Facts] [hPre_x_in_range : Cert.Pre_x_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_x_in_range [hReferenceIdeal : Cert.ReferenceIdeal.Facts] [hPre_x_in_range : Cert.Pre_x_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_x_in_range [hKernelIdeal : Cert.KernelIdeal.Facts] [hReferenceIdeal : Cert.ReferenceIdeal.Facts] [hPre_x_in_range : Cert.Pre_x_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213_0) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_v215) = v2 c
          ∧ r.2.mem ((c.tc : Thread Cert.ReferenceIdeal.nD Cert.ReferenceIdeal.τ).loc Cert.ReferenceIdeal.main_v216) = v3 c
          ∧ r.2.mem ((c.tc : Thread Cert.ReferenceIdeal.nD Cert.ReferenceIdeal.τ).loc Cert.ReferenceIdeal.main_v57_0) = v4 c
          ∧ r.2.mem ((c.tc : Thread Cert.ReferenceIdeal.nD Cert.ReferenceIdeal.τ).loc Cert.ReferenceIdeal.main_v217) = v5 c
          ∧ r.2.mem ((c.tc : Thread Cert.ReferenceIdeal.nD Cert.ReferenceIdeal.τ).loc Cert.ReferenceIdeal.main_v218) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_x_in_range : Cert.Pre_x_in_range.Facts),
    quiescent_Kernel (hKernel := hKernel)
    ∧ quiescent_KernelIdeal (hKernelIdeal := hKernelIdeal)
    ∧ quiescent_KernelIdeal_pre_x_in_range (hKernelIdeal := hKernelIdeal) (hPre_x_in_range := hPre_x_in_range)
    ∧ quiescent_ReferenceIdeal (hReferenceIdeal := hReferenceIdeal)
    ∧ quiescent_ReferenceIdeal_pre_x_in_range (hReferenceIdeal := hReferenceIdeal) (hPre_x_in_range := hPre_x_in_range)
    ∧ preserves_Kernel_KernelIdeal
    ∧ algebraic_KernelIdeal_ReferenceIdeal_pre_x_in_range (hKernelIdeal := hKernelIdeal) (hReferenceIdeal := hReferenceIdeal) (hPre_x_in_range := hPre_x_in_range)
-- ==== Pre_x_in_range.lean ====
abbrev S1x256x3584 : Shape := ⟨3, ![1, 256, 3584]⟩
abbrev S3584x18944 : Shape := ⟨2, ![3584, 18944]⟩
abbrev S18944 : Shape := ⟨1, ![18944]⟩
abbrev S_ : Shape := ⟨0, ![]⟩

class Facts : Prop where
  bcast_S_S1x256x3584 : S_.BroadcastsInDim S1x256x3584 (![] : Fin 0 → Fin S1x256x3584.rank)

variable [Facts]

def fn {F : FTy → Type} [FloatOps F] (main_arg0 : IVec S1x256x3584 32) (main_arg1 : IVec S3584x18944 8) (main_arg2 : IVec S3584x18944 8) (main_arg3 : IVec S18944 32) (main_arg4 : IVec S18944 32) : IVec S1x256x3584 1 :=
  let main_c : IVec S_ 32 := constantI S_ 32 4286578689#32
  let main_v0 : IVec S1x256x3584 32 := broadcastInDim S1x256x3584 ![] bcast_S_S1x256x3584 main_c
  let main_v1 : IVec S1x256x3584 1 := cmpi .sge main_arg0 main_v0
  let main_c_0 : IVec S_ 32 := constantI S_ 32 8388607#32
  let main_v2 : IVec S1x256x3584 32 := broadcastInDim S1x256x3584 ![] bcast_S_S1x256x3584 main_c_0
  let main_v3 : IVec S1x256x3584 1 := cmpi .sle main_arg0 main_v2
  let main_v4 : IVec S1x256x3584 1 := andi main_v1 main_v3
  main_v4
-- ==== Kernel.lean ====
abbrev S1x256x3584 : Shape := ⟨3, ![1, 256, 3584]⟩
abbrev S3584x18944 : Shape := ⟨2, ![3584, 18944]⟩
abbrev S18944 : Shape := ⟨1, ![18944]⟩
abbrev S256x3584 : Shape := ⟨2, ![256, 3584]⟩
abbrev S1x18944 : Shape := ⟨2, ![1, 18944]⟩
abbrev S256x18944 : Shape := ⟨2, ![256, 18944]⟩
abbrev S256x1 : Shape := ⟨2, ![256, 1]⟩
abbrev S3584x512 : Shape := ⟨2, ![3584, 512]⟩
abbrev S1x512 : Shape := ⟨2, ![1, 512]⟩
abbrev S256x128 : Shape := ⟨2, ![256, 128]⟩
abbrev S148x256x128 : Shape := ⟨3, ![148, 256, 128]⟩
abbrev S32x3584 : Shape := ⟨2, ![32, 3584]⟩
abbrev S32 : Shape := ⟨1, ![32]⟩
abbrev S32x1 : Shape := ⟨2, ![32, 1]⟩
abbrev S32x128 : Shape := ⟨2, ![32, 128]⟩
abbrev S256x1024 : Shape := ⟨2, ![256, 1024]⟩
abbrev S1024x512 : Shape := ⟨2, ![1024, 512]⟩
abbrev S256x512 : Shape := ⟨2, ![256, 512]⟩
abbrev S512x512 : Shape := ⟨2, ![512, 512]⟩
abbrev S1x128 : Shape := ⟨2, ![1, 128]⟩
abbrev S1x256x128 : Shape := ⟨3, ![1, 256, 128]⟩
abbrev S256 : Shape := ⟨1, ![256]⟩

abbrev nBuf : Space → Nat
  | .hbm => 15
  | .vmem => 22
  | .smem => 0
  | _ => 0

abbrev bufTy : (tb : Table) → Fin (tcTables nBuf tb) → BufTy
  | .hbm, ⟨0, _⟩ => ⟨S1x256x3584, .i32⟩
  | .hbm, ⟨1, _⟩ => ⟨S3584x18944, .i8⟩
  | .hbm, ⟨2, _⟩ => ⟨S3584x18944, .i8⟩
  | .hbm, ⟨3, _⟩ => ⟨S18944, .i32⟩
  | .hbm, ⟨4, _⟩ => ⟨S18944, .i32⟩
  | .hbm, ⟨5, _⟩ => ⟨S256x3584, .i32⟩
  | .hbm, ⟨6, _⟩ => ⟨S1x18944, .i32⟩
  | .hbm, ⟨7, _⟩ => ⟨S1x18944, .i32⟩
  | .hbm, ⟨8, _⟩ => ⟨S256x18944, .i8⟩
  | .hbm, ⟨9, _⟩ => ⟨S256x1, .i32⟩
  | .hbm, ⟨10, _⟩ => ⟨S256x1, .i32⟩
  | .hbm, ⟨11, _⟩ => ⟨S256x1, .i32⟩
  | .hbm, ⟨12, _⟩ => ⟨S256x3584, .i8⟩
  | .hbm, ⟨13, _⟩ => ⟨S256x1, .i32⟩
  | .hbm, ⟨14, _⟩ => ⟨S256x1, .i32⟩
  | .local _ .vmem, ⟨0, _⟩ => ⟨S256x3584, .i32⟩
  | .local _ .vmem, ⟨1, _⟩ => ⟨S3584x512, .i8⟩
  | .local _ .vmem, ⟨2, _⟩ => ⟨S3584x512, .i8⟩
  | .local _ .vmem, ⟨3, _⟩ => ⟨S3584x512, .i8⟩
  | .local _ .vmem, ⟨4, _⟩ => ⟨S3584x512, .i8⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S1x512, .i32⟩
  | .local _ .vmem, ⟨9, _⟩ => ⟨S256x18944, .i8⟩
  | .local _ .vmem, ⟨10, _⟩ => ⟨S256x1, .i32⟩
  | .local _ .vmem, ⟨11, _⟩ => ⟨S256x1, .i32⟩
  | .local _ .vmem, ⟨12, _⟩ => ⟨S256x1, .i32⟩
  | .local _ .vmem, ⟨13, _⟩ => ⟨S256x3584, .i8⟩
  | .local _ .vmem, ⟨14, _⟩ => ⟨S256x1, .i32⟩
  | .local _ .vmem, ⟨15, _⟩ => ⟨S256x1, .i32⟩
  | .local _ .vmem, ⟨16, _⟩ => ⟨S256x3584, .bf16⟩
  | .local _ .vmem, ⟨17, _⟩ => ⟨S256x128, .i32⟩
  | .local _ .vmem, ⟨18, _⟩ => ⟨S256x128, .i32⟩
  | .local _ .vmem, ⟨19, _⟩ => ⟨S148x256x128, .f32⟩
  | .local _ .vmem, ⟨20, _⟩ => ⟨S256x128, .f32⟩
  | .local _ .vmem, ⟨21, _⟩ => ⟨S256x128, .f32⟩
  | _, _ => ⟨S1x256x3584, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![37], ![false]⟩

def k0_off1 (i : grid0.Coords) (c0_i32_67 : BitVec 32) : Fin 3 → Nat :=
  let arg0 : BitVec 32 := BitVec.ofNat 32 (i 0).val
  let c4_i32_66 : BitVec 32 := 4#32
  let v129 : BitVec 32 := Scalar.muli arg0 c4_i32_66
  let v130 : BitVec 32 := Scalar.addi v129 c0_i32_67
  let v131 : Index := Scalar.indexCast v130
  let c0_68 : Index := 0#32
  let c0_69 : Index := 0#32
  ![v131.toNat, 0, 0]
def k0_cond2 (i : grid0.Coords) : BitVec 1 :=
  let arg0 : BitVec 32 := BitVec.ofNat 32 (i 0).val
  let c36_i32 : BitVec 32 := 36#32
  let v393 : BitVec 1 := Scalar.cmpi .eq arg0 c36_i32
  let v394 : BitVec 32 := Scalar.extui v393
  let c0_i32_182 : BitVec 32 := 0#32
  let v395 : BitVec 1 := Scalar.cmpi .ne v394 c0_i32_182
  v395

@[reducible] def k0_t1_loop : Scf.Loop 32 :=
  let c0_i32_209 : BitVec 32 := 0#32
  let c148_i32 : BitVec 32 := 148#32
  let v460 : BitVec 32 := Scalar.addi c0_i32_209 c148_i32
  let c1_i32_210 : BitVec 32 := 1#32
  ⟨c0_i32_209, v460, c1_i32_210⟩
def k0_off2 (k0_t1 : Fin k0_t1_loop.trips) : Fin 3 → Nat :=
  let c0_i32_209 : BitVec 32 := 0#32
  let c1_i32_210 : BitVec 32 := 1#32
  let arg19 : BitVec 32 := Scf.iv c0_i32_209 c1_i32_210 k0_t1
  let v461 : Index := Scalar.indexCast arg19
  let c0_212 : Index := 0#32
  let c0_213 : Index := 0#32
  ![v461.toNat, 0, 0]
def k0_mult1 (k0_t1 : Fin k0_t1_loop.trips) : BitVec 32 :=
  let c0_i32_209 : BitVec 32 := 0#32
  let c1_i32_210 : BitVec 32 := 1#32
  let arg19 : BitVec 32 := Scf.iv c0_i32_209 c1_i32_210 k0_t1
  let c128_i32 : BitVec 32 := 128#32
  let v475 : BitVec 32 := Scalar.muli arg19 c128_i32
  v475
def k0_off3 (k0_t1 : Fin k0_t1_loop.trips) : Fin 2 → Nat :=
  let c0_220 : Index := 0#32
  let c0_i32_209 : BitVec 32 := 0#32
  let c1_i32_210 : BitVec 32 := 1#32
  let arg19 : BitVec 32 := Scf.iv c0_i32_209 c1_i32_210 k0_t1
  let c128_i32 : BitVec 32 := 128#32
  let v475 : BitVec 32 := Scalar.muli arg19 c128_i32
  let v476 : BitVec 32 := v475
  let v477 : Index := Scalar.indexCast v476
  ![0, v477.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3584 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3584x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x18944 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x3584 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S1x256x3584 : Shape := ⟨3, ![1, 256, 3584]⟩
abbrev S3584x18944 : Shape := ⟨2, ![3584, 18944]⟩
abbrev S18944 : Shape := ⟨1, ![18944]⟩
abbrev S256x3584 : Shape := ⟨2, ![256, 3584]⟩
abbrev S_ : Shape := ⟨0, ![]⟩
abbrev S256 : Shape := ⟨1, ![256]⟩
abbrev S256x1 : Shape := ⟨2, ![256, 1]⟩
abbrev S256x3584x1 : Shape := ⟨3, ![256, 3584, 1]⟩
abbrev S1x3584x18944 : Shape := ⟨3, ![1, 3584, 18944]⟩
abbrev S256x3584x18944 : Shape := ⟨3, ![256, 3584, 18944]⟩
abbrev S256x18944 : Shape := ⟨2, ![256, 18944]⟩
abbrev S1x18944 : Shape := ⟨2, ![1, 18944]⟩

abbrev nBuf : Space → Nat
  | .hbm => 344
  | .vmem => 0
  | .smem => 0
  | _ => 0

abbrev hbmTy0_0 (i : Nat) : BufTy := match i % 128 with
  | 0 => ⟨S1x256x3584, .i32⟩
  | 1 => ⟨S3584x18944, .i8⟩
  | 2 => ⟨S3584x18944, .i8⟩
  | 3 => ⟨S18944, .i32⟩
  | 4 => ⟨S18944, .i32⟩
  | 5 => ⟨S256x3584, .i32⟩
  | 6 => ⟨S256x3584, .i32⟩
  | 7 => ⟨S_, .i32⟩
  | 8 => ⟨S256, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i32⟩
  | 16 => ⟨S_, .i32⟩
  | 17 => ⟨S256, .i32⟩
  | 18 => ⟨S256, .i32⟩
  | 19 => ⟨S256, .i32⟩
  | 20 => ⟨S_, .i32⟩
  | 21 => ⟨S256, .i32⟩
  | 22 => ⟨S256, .i32⟩
  | 23 => ⟨S_, .i32⟩
  | 24 => ⟨S_, .i32⟩
  | 25 => ⟨S256, .i32⟩
  | 26 => ⟨S256, .i32⟩
  | 27 => ⟨S256, .i32⟩
  | 28 => ⟨S_, .i32⟩
  | 29 => ⟨S256, .i32⟩
  | 30 => ⟨S256, .i1⟩
  | 31 => ⟨S256, .i32⟩
  | 32 => ⟨S256, .i32⟩
  | 33 => ⟨S_, .i32⟩
  | 34 => ⟨S256, .i32⟩
  | 35 => ⟨S256, .i1⟩
  | 36 => ⟨S256, .i1⟩
  | 37 => ⟨S_, .i32⟩
  | 38 => ⟨S256, .i32⟩
  | 39 => ⟨S256, .i32⟩
  | 40 => ⟨S256, .i32⟩
  | 41 => ⟨S_, .i32⟩
  | 42 => ⟨S256, .i32⟩
  | 43 => ⟨S256, .i32⟩
  | 44 => ⟨S_, .i32⟩
  | 45 => ⟨S256, .i32⟩
  | 46 => ⟨S256, .i32⟩
  | 47 => ⟨S_, .i32⟩
  | 48 => ⟨S256, .i32⟩
  | 49 => ⟨S256, .i32⟩
  | 50 => ⟨S256x1, .i32⟩
  | 51 => ⟨S256x3584, .i32⟩
  | 52 => ⟨S_, .i32⟩
  | 53 => ⟨S256, .i32⟩
  | 54 => ⟨S256, .i32⟩
  | 55 => ⟨S256x1, .i32⟩
  | 56 => ⟨S256x3584, .i32⟩
  | 57 => ⟨S256x3584, .i32⟩
  | 58 => ⟨S_, .i32⟩
  | 59 => ⟨S256x1, .i32⟩
  | 60 => ⟨S256x1, .i32⟩
  | 61 => ⟨S256x3584, .i32⟩
  | 62 => ⟨S256x3584, .i32⟩
  | 63 => ⟨S256x3584, .f32⟩
  | 64 => ⟨S256x1, .f32⟩
  | 65 => ⟨S256x3584, .f32⟩
  | 66 => ⟨S256x3584, .f32⟩
  | 67 => ⟨S256x3584, .f32⟩
  | 68 => ⟨S256x3584, .i32⟩
  | 69 => ⟨S256x3584, .i32⟩
  | 70 => ⟨S256x3584, .i32⟩
  | 71 => ⟨S256x3584, .i32⟩
  | 72 => ⟨S_, .i32⟩
  | 73 => ⟨S256x3584, .i32⟩
  | 74 => ⟨S256x3584, .i1⟩
  | 75 => ⟨S_, .i32⟩
  | 76 => ⟨S256x3584, .i32⟩
  | 77 => ⟨S256x3584, .i32⟩
  | 78 => ⟨S256x3584, .i32⟩
  | 79 => ⟨S256x3584, .i32⟩
  | 80 => ⟨S256x3584, .i32⟩
  | 81 => ⟨S256x3584, .i32⟩
  | 82 => ⟨S256x3584, .i32⟩
  | 83 => ⟨S256x3584, .i1⟩
  | 84 => ⟨S_, .i32⟩
  | 85 => ⟨S256x3584, .i32⟩
  | 86 => ⟨S256x3584, .i32⟩
  | 87 => ⟨S256x3584, .i32⟩
  | 88 => ⟨S256x3584, .i32⟩
  | 89 => ⟨S256x3584, .i32⟩
  | 90 => ⟨S_, .i32⟩
  | 91 => ⟨S_, .i32⟩
  | 92 => ⟨S_, .i32⟩
  | 93 => ⟨S256x3584, .i32⟩
  | 94 => ⟨S256x3584, .i32⟩
  | 95 => ⟨S_, .i32⟩
  | 96 => ⟨S256x3584, .i32⟩
  | 97 => ⟨S256x3584, .i32⟩
  | 98 => ⟨S256x3584, .i8⟩
  | 99 => ⟨S256x3584, .i8⟩
  | 100 => ⟨S256, .i32⟩
  | 101 => ⟨S256, .i32⟩
  | 102 => ⟨S256x3584, .i32⟩
  | 103 => ⟨S256x3584x1, .i32⟩
  | 104 => ⟨S3584x18944, .i32⟩
  | 105 => ⟨S1x3584x18944, .i32⟩
  | 106 => ⟨S256x3584x18944, .i32⟩
  | 107 => ⟨S256x3584x18944, .i32⟩
  | 108 => ⟨S256x3584x18944, .i32⟩
  | 109 => ⟨S_, .i32⟩
  | 110 => ⟨S256x18944, .i32⟩
  | 111 => ⟨S256x1, .i32⟩
  | 112 => ⟨S1x18944, .i32⟩
  | 113 => ⟨S256x18944, .i32⟩
  | 114 => ⟨S256x18944, .i32⟩
  | 115 => ⟨S256x18944, .i32⟩
  | 116 => ⟨S_, .i32⟩
  | 117 => ⟨S256x18944, .i32⟩
  | 118 => ⟨S256x18944, .i32⟩
  | 119 => ⟨S256x1, .i32⟩
  | 120 => ⟨S256x18944, .i32⟩
  | 121 => ⟨S256x18944, .i32⟩
  | 122 => ⟨S_, .i32⟩
  | 123 => ⟨S256x18944, .i32⟩
  | 124 => ⟨S256x18944, .i32⟩
  | 125 => ⟨S_, .i32⟩
  | 126 => ⟨S256x18944, .i32⟩
  | 127 => ⟨S256x18944, .i32⟩
  | _ => ⟨S1x256x3584, .i32⟩

abbrev hbmTy0_1 (i : Nat) : BufTy := match i % 128 with
  | 0 => ⟨S256x18944, .i32⟩
  | 1 => ⟨S256x18944, .i32⟩
  | 2 => ⟨S256x3584, .i32⟩
  | 3 => ⟨S256x3584x1, .i32⟩
  | 4 => ⟨S3584x18944, .i32⟩
  | 5 => ⟨S1x3584x18944, .i32⟩
  | 6 => ⟨S256x3584x18944, .i32⟩
  | 7 => ⟨S256x3584x18944, .i32⟩
  | 8 => ⟨S256x3584x18944, .i32⟩
  | 9 => ⟨S_, .i32⟩
  | 10 => ⟨S256x18944, .i32⟩
  | 11 => ⟨S256x1, .i32⟩
  | 12 => ⟨S1x18944, .i32⟩
  | 13 => ⟨S256x18944, .i32⟩
  | 14 => ⟨S256x18944, .i32⟩
  | 15 => ⟨S256x18944, .i32⟩
  | 16 => ⟨S_, .i32⟩
  | 17 => ⟨S256x18944, .i32⟩
  | 18 => ⟨S256x18944, .i32⟩
  | 19 => ⟨S256x1, .i32⟩
  | 20 => ⟨S256x18944, .i32⟩
  | 21 => ⟨S256x18944, .i32⟩
  | 22 => ⟨S_, .i32⟩
  | 23 => ⟨S256x18944, .i32⟩
  | 24 => ⟨S256x18944, .i32⟩
  | 25 => ⟨S_, .i32⟩
  | 26 => ⟨S256x18944, .i32⟩
  | 27 => ⟨S256x18944, .i32⟩
  | 28 => ⟨S256x18944, .i32⟩
  | 29 => ⟨S256x18944, .i32⟩
  | 30 => ⟨S_, .i32⟩
  | 31 => ⟨S_, .i32⟩
  | 32 => ⟨S_, .i32⟩
  | 33 => ⟨S256x18944, .i32⟩
  | 34 => ⟨S256x18944, .i32⟩
  | 35 => ⟨S_, .i32⟩
  | 36 => ⟨S256x18944, .i32⟩
  | 37 => ⟨S256x18944, .i32⟩
  | 38 => ⟨S_, .i32⟩
  | 39 => ⟨S_, .i32⟩
  | 40 => ⟨S_, .i32⟩
  | 41 => ⟨S256x18944, .i32⟩
  | 42 => ⟨S256x18944, .i32⟩
  | 43 => ⟨S_, .i32⟩
  | 44 => ⟨S256x18944, .i32⟩
  | 45 => ⟨S256x18944, .i32⟩
  | 46 => ⟨S256x18944, .i32⟩
  | 47 => ⟨S_, .i32⟩
  | 48 => ⟨S256x18944, .i32⟩
  | 49 => ⟨S256x18944, .i32⟩
  | 50 => ⟨S256x18944, .i32⟩
  | 51 => ⟨S_, .i32⟩
  | 52 => ⟨S256x18944, .i32⟩
  | 53 => ⟨S256x18944, .i32⟩
  | 54 => ⟨S256x18944, .i32⟩
  | 55 => ⟨S_, .i32⟩
  | 56 => ⟨S256x18944, .i32⟩
  | 57 => ⟨S256x18944, .i32⟩
  | 58 => ⟨S_, .i32⟩
  | 59 => ⟨S256x18944, .i32⟩
  | 60 => ⟨S256x18944, .i32⟩
  | 61 => ⟨S_, .i32⟩
  | 62 => ⟨S256x18944, .i32⟩
  | 63 => ⟨S256x18944, .i32⟩
  | 64 => ⟨S_, .i32⟩
  | 65 => ⟨S256x18944, .i32⟩
  | 66 => ⟨S256x18944, .i32⟩
  | 67 => ⟨S256x18944, .i32⟩
  | 68 => ⟨S_, .i32⟩
  | 69 => ⟨S256x18944, .i32⟩
  | 70 => ⟨S256x18944, .i1⟩
  | 71 => ⟨S_, .i32⟩
  | 72 => ⟨S_, .i32⟩
  | 73 => ⟨S256x18944, .i32⟩
  | 74 => ⟨S256x18944, .i32⟩
  | 75 => ⟨S_, .i32⟩
  | 76 => ⟨S256x18944, .i32⟩
  | 77 => ⟨S256x18944, .i32⟩
  | 78 => ⟨S256x18944, .i32⟩
  | 79 => ⟨S_, .i32⟩
  | 80 => ⟨S256x18944, .i32⟩
  | 81 => ⟨S256x18944, .i32⟩
  | 82 => ⟨S256x18944, .i32⟩
  | 83 => ⟨S256x18944, .f32⟩
  | 84 => ⟨S256x18944, .f32⟩
  | 85 => ⟨S256x18944, .f32⟩
  | 86 => ⟨S256x18944, .f32⟩
  | 87 => ⟨S256x18944, .i32⟩
  | 88 => ⟨S256x18944, .i32⟩
  | 89 => ⟨S256x18944, .i32⟩
  | 90 => ⟨S_, .i32⟩
  | 91 => ⟨S256x18944, .i32⟩
  | 92 => ⟨S256x18944, .i1⟩
  | 93 => ⟨S_, .i32⟩
  | 94 => ⟨S256x18944, .i32⟩
  | 95 => ⟨S256x18944, .i32⟩
  | 96 => ⟨S256x18944, .i32⟩
  | 97 => ⟨S256x18944, .i32⟩
  | 98 => ⟨S256x18944, .i32⟩
  | 99 => ⟨S256x18944, .i1⟩
  | 100 => ⟨S_, .i32⟩
  | 101 => ⟨S256x18944, .i32⟩
  | 102 => ⟨S256x18944, .i32⟩
  | 103 => ⟨S256x18944, .i32⟩
  | 104 => ⟨S256x18944, .i32⟩
  | 105 => ⟨S_, .i32⟩
  | 106 => ⟨S_, .i32⟩
  | 107 => ⟨S_, .i32⟩
  | 108 => ⟨S_, .i32⟩
  | 109 => ⟨S_, .i32⟩
  | 110 => ⟨S256x18944, .i32⟩
  | 111 => ⟨S256x18944, .i32⟩
  | 112 => ⟨S_, .i32⟩
  | 113 => ⟨S256x18944, .i32⟩
  | 114 => ⟨S256x18944, .i32⟩
  | 115 => ⟨S_, .i32⟩
  | 116 => ⟨S256, .i32⟩
  | 117 => ⟨S_, .i32⟩
  | 118 => ⟨S256, .i32⟩
  | 119 => ⟨S256, .i32⟩
  | 120 => ⟨S_, .i32⟩
  | 121 => ⟨S256, .i32⟩
  | 122 => ⟨S256, .i32⟩
  | 123 => ⟨S256, .i32⟩
  | 124 => ⟨S_, .i32⟩
  | 125 => ⟨S256, .i32⟩
  | 126 => ⟨S256, .i32⟩
  | 127 => ⟨S_, .i32⟩
  | _ => ⟨S1x256x3584, .i32⟩

abbrev hbmTy0_2 (i : Nat) : BufTy := match i % 128 with
  | 0 => ⟨S256, .i32⟩
  | 1 => ⟨S256, .i32⟩
  | 2 => ⟨S256, .i32⟩
  | 3 => ⟨S_, .i32⟩
  | 4 => ⟨S256, .i32⟩
  | 5 => ⟨S256, .i32⟩
  | 6 => ⟨S_, .i32⟩
  | 7 => ⟨S_, .i32⟩
  | 8 => ⟨S256, .i32⟩
  | 9 => ⟨S256, .i32⟩
  | 10 => ⟨S256, .i32⟩
  | 11 => ⟨S_, .i32⟩
  | 12 => ⟨S256, .i32⟩
  | 13 => ⟨S256, .i1⟩
  | 14 => ⟨S256, .i32⟩
  | 15 => ⟨S256, .i32⟩
  | 16 => ⟨S_, .i32⟩
  | 17 => ⟨S256, .i32⟩
  | 18 => ⟨S256, .i1⟩
  | 19 => ⟨S256, .i1⟩
  | 20 => ⟨S_, .i32⟩
  | 21 => ⟨S256, .i32⟩
  | 22 => ⟨S256, .i32⟩
  | 23 => ⟨S256, .i32⟩
  | 24 => ⟨S_, .i32⟩
  | 25 => ⟨S256, .i32⟩
  | 26 => ⟨S256, .i32⟩
  | 27 => ⟨S_, .i32⟩
  | 28 => ⟨S256, .i32⟩
  | 29 => ⟨S256, .i32⟩
  | 30 => ⟨S256x1, .i32⟩
  | 31 => ⟨S256x1, .i32⟩
  | 32 => ⟨S256x18944, .i32⟩
  | 33 => ⟨S256x18944, .i32⟩
  | 34 => ⟨S_, .i32⟩
  | 35 => ⟨S256, .i32⟩
  | 36 => ⟨S256, .i32⟩
  | 37 => ⟨S256x1, .i32⟩
  | 38 => ⟨S256x18944, .i32⟩
  | 39 => ⟨S256x18944, .i32⟩
  | 40 => ⟨S_, .i32⟩
  | 41 => ⟨S256x1, .i32⟩
  | 42 => ⟨S256x1, .i32⟩
  | 43 => ⟨S256x18944, .i32⟩
  | 44 => ⟨S256x18944, .i32⟩
  | 45 => ⟨S256x18944, .f32⟩
  | 46 => ⟨S256x1, .f32⟩
  | 47 => ⟨S256x18944, .f32⟩
  | 48 => ⟨S256x18944, .f32⟩
  | 49 => ⟨S256x18944, .f32⟩
  | 50 => ⟨S256x18944, .i32⟩
  | 51 => ⟨S256x18944, .i32⟩
  | 52 => ⟨S256x18944, .i32⟩
  | 53 => ⟨S256x18944, .i32⟩
  | 54 => ⟨S_, .i32⟩
  | 55 => ⟨S256x18944, .i32⟩
  | 56 => ⟨S256x18944, .i1⟩
  | 57 => ⟨S_, .i32⟩
  | 58 => ⟨S256x18944, .i32⟩
  | 59 => ⟨S256x18944, .i32⟩
  | 60 => ⟨S256x18944, .i32⟩
  | 61 => ⟨S256x18944, .i32⟩
  | 62 => ⟨S256x18944, .i32⟩
  | 63 => ⟨S256x18944, .i32⟩
  | 64 => ⟨S256x18944, .i32⟩
  | 65 => ⟨S256x18944, .i1⟩
  | 66 => ⟨S_, .i32⟩
  | 67 => ⟨S256x18944, .i32⟩
  | 68 => ⟨S256x18944, .i32⟩
  | 69 => ⟨S256x18944, .i32⟩
  | 70 => ⟨S_, .i32⟩
  | 71 => ⟨S_, .i32⟩
  | 72 => ⟨S_, .i32⟩
  | 73 => ⟨S256x18944, .i32⟩
  | 74 => ⟨S256x18944, .i32⟩
  | 75 => ⟨S_, .i32⟩
  | 76 => ⟨S256x18944, .i32⟩
  | 77 => ⟨S256x18944, .i32⟩
  | 78 => ⟨S256x18944, .i8⟩
  | 79 => ⟨S256x18944, .i8⟩
  | 80 => ⟨S256, .i32⟩
  | 81 => ⟨S256, .i32⟩
  | 82 => ⟨S256, .i32⟩
  | 83 => ⟨S256x1, .i32⟩
  | 84 => ⟨S256x1, .i32⟩
  | 85 => ⟨S256x1, .i32⟩
  | 86 => ⟨S256x1, .i32⟩
  | 87 => ⟨S256x1, .i32⟩
  | _ => ⟨S1x256x3584, .i32⟩

abbrev hbmTy (i : Nat) : BufTy := match i / 128 with
  | 0 => hbmTy0_0 i
  | 1 => hbmTy0_1 i
  | 2 => hbmTy0_2 i
  | _ => ⟨S1x256x3584, .i32⟩

abbrev bufTy : (tb : Table) → Fin (tcTables nBuf tb) → BufTy
  | .hbm, ⟨i, _⟩ => hbmTy i
  | _, _ => ⟨S1x256x3584, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v13 : Ref sig .tc := ⟨.hbm, 40, rfl⟩
abbrev main_c_5 : Ref sig .tc := ⟨.hbm, 41, rfl⟩
abbrev main_v14 : Ref sig .tc := ⟨.hbm, 42, rfl⟩
abbrev main_v15 : Ref sig .tc := ⟨.hbm, 43, rfl⟩
abbrev main_c_6 : Ref sig .tc := ⟨.hbm, 44, rfl⟩
abbrev main_v16 : Ref sig .tc := ⟨.hbm, 45, rfl⟩
abbrev main_v17 : Ref sig .tc := ⟨.hbm, 46, rfl⟩
abbrev main_c_7 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_8 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_9 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_v41 : Ref sig .tc := ⟨.hbm, 74, rfl⟩
abbrev main_c_11 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_12 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_13 : Ref sig .tc := ⟨.hbm, 90, rfl⟩
abbrev main_c_14 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v55 : Ref sig .tc := ⟨.hbm, 97, rfl⟩
abbrev main_v56 : Ref sig .tc := ⟨.hbm, 98, rfl⟩
abbrev main_v57_0 : Ref sig .tc := ⟨.hbm, 99, rfl⟩
abbrev main_v57_1 : Ref sig .tc := ⟨.hbm, 100, rfl⟩
abbrev main_v57_2 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_c_15 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_c_16 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_c_17 : Ref sig .tc := ⟨.hbm, 122, rfl⟩
abbrev main_v76 : Ref sig .tc := ⟨.hbm, 123, rfl⟩
abbrev main_v77 : Ref sig .tc := ⟨.hbm, 124, rfl⟩
abbrev main_c_18 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_c_19 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_20 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_c_21 : Ref sig .tc := ⟨.hbm, 150, rfl⟩
abbrev main_v100 : Ref sig .tc := ⟨.hbm, 151, rfl⟩
abbrev main_v101 : Ref sig .tc := ⟨.hbm, 152, rfl⟩
abbrev main_c_22 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_c_23 : Ref sig .tc := ⟨.hbm, 158, rfl⟩
abbrev main_c_24 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_v106 : Ref sig .tc := ⟨.hbm, 165, rfl⟩
abbrev main_c_25 : Ref sig .tc := ⟨.hbm, 166, rfl⟩
abbrev main_c_26 : Ref sig .tc := ⟨.hbm, 167, rfl⟩
abbrev main_call5_v0 : Ref sig .tc := ⟨.hbm, 168, rfl⟩
abbrev main_call5_v1 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_v107 : Ref sig .tc := ⟨.hbm, 173, rfl⟩
abbrev main_v108 : Ref sig .tc := ⟨.hbm, 174, rfl⟩
abbrev main_c_27 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_c_28 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_c_29 : Ref sig .tc := ⟨.hbm, 183, rfl⟩
abbrev main_v115 : Ref sig .tc := ⟨.hbm, 184, rfl⟩
abbrev main_v116 : Ref sig .tc := ⟨.hbm, 185, rfl⟩
abbrev main_c_30 : Ref sig .tc := ⟨.hbm, 186, rfl⟩
abbrev main_v117 : Ref sig .tc := ⟨.hbm, 187, rfl⟩
abbrev main_v118 : Ref sig .tc := ⟨.hbm, 188, rfl⟩
abbrev main_c_31 : Ref sig .tc := ⟨.hbm, 189, rfl⟩
abbrev main_v119 : Ref sig .tc := ⟨.hbm, 190, rfl⟩
abbrev main_v120 : Ref sig .tc := ⟨.hbm, 191, rfl⟩
abbrev main_c_32 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_c_33 : Ref sig .tc := ⟨.hbm, 196, rfl⟩
abbrev main_v124 : Ref sig .tc := ⟨.hbm, 197, rfl⟩
abbrev main_v125 : Ref sig .tc := ⟨.hbm, 198, rfl⟩
abbrev main_c_34 : Ref sig .tc := ⟨.hbm, 199, rfl⟩
abbrev main_call6_v0 : Ref sig .tc := ⟨.hbm, 200, rfl⟩
abbrev main_call6_v1 : Ref sig .tc := ⟨.hbm, 201, rfl⟩
abbrev main_v126 : Ref sig .tc := ⟨.hbm, 202, rfl⟩
abbrev main_c_35 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_c_36 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_c_37 : Ref sig .tc := ⟨.hbm, 218, rfl⟩
abbrev main_v140 : Ref sig .tc := ⟨.hbm, 219, rfl⟩
abbrev main_v141 : Ref sig .tc := ⟨.hbm, 220, rfl⟩
abbrev main_c_38 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_c_39 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_c_40 : Ref sig .tc := ⟨.hbm, 233, rfl⟩
abbrev main_c_41 : Ref sig .tc := ⟨.hbm, 234, rfl⟩
abbrev main_v152 : Ref sig .tc := ⟨.hbm, 235, rfl⟩
abbrev main_c_42 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_c_43 : Ref sig .tc := ⟨.hbm, 240, rfl⟩
abbrev main_v156 : Ref sig .tc := ⟨.hbm, 241, rfl⟩
abbrev main_v157 : Ref sig .tc := ⟨.hbm, 242, rfl⟩
abbrev main_c_44 : Ref sig .tc := ⟨.hbm, 243, rfl⟩
abbrev main_v158 : Ref sig .tc := ⟨.hbm, 244, rfl⟩
abbrev main_c_45 : Ref sig .tc := ⟨.hbm, 245, rfl⟩
abbrev main_v159 : Ref sig .tc := ⟨.hbm, 246, rfl⟩
abbrev main_v160 : Ref sig .tc := ⟨.hbm, 247, rfl⟩
abbrev main_c_46 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_c_47 : Ref sig .tc := ⟨.hbm, 252, rfl⟩
abbrev main_v164 : Ref sig .tc := ⟨.hbm, 253, rfl⟩
abbrev main_v165 : Ref sig .tc := ⟨.hbm, 254, rfl⟩
abbrev main_c_48 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_c_49 : Ref sig .tc := ⟨.hbm, 259, rfl⟩
abbrev main_v169 : Ref sig .tc := ⟨.hbm, 260, rfl⟩
abbrev main_v170 : Ref sig .tc := ⟨.hbm, 261, rfl⟩
abbrev main_c_50 : Ref sig .tc := ⟨.hbm, 262, rfl⟩
abbrev main_call9_v0 : Ref sig .tc := ⟨.hbm, 263, rfl⟩
abbrev main_call9_v1 : Ref sig .tc := ⟨.hbm, 264, rfl⟩
abbrev main_call9_v2 : Ref sig .tc := ⟨.hbm, 265, rfl⟩
abbrev main_call9_v3 : Ref sig .tc := ⟨.hbm, 266, rfl⟩
abbrev main_call9_v4 : Ref sig .tc := ⟨.hbm, 267, rfl⟩
abbrev main_call9_v5 : Ref sig .tc := ⟨.hbm, 268, rfl⟩
abbrev main_call9_v6 : Ref sig .tc := ⟨.hbm, 269, rfl⟩
abbrev main_call9_v7 : Ref sig .tc := ⟨.hbm, 270, rfl⟩
abbrev main_call9_v8 : Ref sig .tc := ⟨.hbm, 271, rfl⟩
abbrev main_call9_c : Ref sig .tc := ⟨.hbm, 272, rfl⟩
abbrev main_call9_v9 : Ref sig .tc := ⟨.hbm, 273, rfl⟩
abbrev main_call9_v10 : Ref sig .tc := ⟨.hbm, 274, rfl⟩
abbrev main_call9_v11 : Ref sig .tc := ⟨.hbm, 275, rfl⟩
abbrev main_call9_c_0 : Ref sig .tc := ⟨.hbm, 276, rfl⟩
abbrev main_call9_v12 : Ref sig .tc := ⟨.hbm, 277, rfl⟩
abbrev main_call9_v13 : Ref sig .tc := ⟨.hbm, 278, rfl⟩
abbrev main_v171 : Ref sig .tc := ⟨.hbm, 279, rfl⟩
abbrev main_c_51 : Ref sig .tc := ⟨.hbm, 280, rfl⟩
abbrev main_v172 : Ref sig .tc := ⟨.hbm, 281, rfl⟩
abbrev main_v173 : Ref sig .tc := ⟨.hbm, 282, rfl⟩
abbrev main_c_52 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_c_53 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_c_54 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_c_55 : Ref sig .tc := ⟨.hbm, 310, rfl⟩
abbrev main_v198 : Ref sig .tc := ⟨.hbm, 311, rfl⟩
abbrev main_v199 : Ref sig .tc := ⟨.hbm, 312, rfl⟩
abbrev main_c_56 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_c_57 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_c_58 : Ref sig .tc := ⟨.hbm, 326, rfl⟩
abbrev main_c_59 : Ref sig .tc := ⟨.hbm, 327, rfl⟩
abbrev main_call12_v0 : Ref sig .tc := ⟨.hbm, 328, rfl⟩
abbrev main_call12_v1 : Ref sig .tc := ⟨.hbm, 329, rfl⟩
abbrev main_call12_v2 : Ref sig .tc := ⟨.hbm, 330, rfl⟩
abbrev main_call12_v3 : Ref sig .tc := ⟨.hbm, 331, rfl⟩
abbrev main_call12_v4 : Ref sig .tc := ⟨.hbm, 332, rfl⟩
abbrev main_v211 : Ref sig .tc := ⟨.hbm, 333, rfl⟩
abbrev main_v212 : Ref sig .tc := ⟨.hbm, 334, rfl⟩
abbrev main_v213_0 : Ref sig .tc := ⟨.hbm, 335, rfl⟩
abbrev main_v213_1 : Ref sig .tc := ⟨.hbm, 336, rfl⟩
abbrev main_v213_2 : Ref sig .tc := ⟨.hbm, 337, rfl⟩
abbrev main_v213_3 : Ref sig .tc := ⟨.hbm, 338, rfl⟩
abbrev main_v214 : Ref sig .tc := ⟨.hbm, 339, rfl⟩
abbrev main_v215 : Ref sig .tc := ⟨.hbm, 340, rfl⟩
abbrev main_v216 : Ref sig .tc := ⟨.hbm, 341, rfl⟩
abbrev main_v217 : Ref sig .tc := ⟨.hbm, 342, rfl⟩
abbrev main_v218 : Ref sig .tc := ⟨.hbm, 343, rfl⟩

abbrev nD : Nat := 1
abbrev τ : Topo := Topo.v7x

variable {F : FTy → Type} [FloatOps F]
-- ==== Proof.KernelFrame.lean ====
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer the body touches, each whole at some contents. -/
abbrev Held (c : Dev nD)
    (arg1 : Memref sig .tc .vmem S256x3584 .i32)
    (arg2 : Memref sig .tc .vmem S3584x512 .i8)
    (arg3 : Memref sig .tc .vmem S3584x512 .i8)
    (arg4 : Memref sig .tc .vmem S1x512 .i32)
    (arg5 : Memref sig .tc .vmem S1x512 .i32)
    (arg6 : Memref sig .tc .vmem S256x18944 .i8)
    (arg7 : Memref sig .tc .vmem S256x1 .i32)
    (arg8 : Memref sig .tc .vmem S256x1 .i32)
    (arg9 : Memref sig .tc .vmem S256x1 .i32)
    (arg10 : Memref sig .tc .vmem S256x3584 .i8)
    (arg11 : Memref sig .tc .vmem S256x1 .i32)
    (arg12 : Memref sig .tc .vmem S256x1 .i32)
    (arg13 : Memref sig .tc .vmem S256x3584 .bf16)
    (arg14 : Memref sig .tc .vmem S256x128 .i32)
    (arg15 : Memref sig .tc .vmem S256x128 .i32)
    (arg16 : Memref sig .tc .vmem S148x256x128 .f32)
    (arg17 : Memref sig .tc .vmem S256x128 .f32)
    (arg18 : Memref sig .tc .vmem S256x128 .f32) : sProp 𝕄 :=
  iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))

/-- One run of the body at any grid point, from any buffer contents, hands every buffer back. -/
theorem kernelRun (c : Dev nD) (i : grid0.Coords)
    (arg1 : Memref sig .tc .vmem S256x3584 .i32) (harg1 : arg1.IsWhole)
    (arg2 : Memref sig .tc .vmem S3584x512 .i8) (harg2 : arg2.IsWhole)
    (arg3 : Memref sig .tc .vmem S3584x512 .i8) (harg3 : arg3.IsWhole)
    (arg4 : Memref sig .tc .vmem S1x512 .i32) (harg4 : arg4.IsWhole)
    (arg5 : Memref sig .tc .vmem S1x512 .i32) (harg5 : arg5.IsWhole)
    (arg6 : Memref sig .tc .vmem S256x18944 .i8) (harg6 : arg6.IsWhole)
    (arg7 : Memref sig .tc .vmem S256x1 .i32) (harg7 : arg7.IsWhole)
    (arg8 : Memref sig .tc .vmem S256x1 .i32) (harg8 : arg8.IsWhole)
    (arg9 : Memref sig .tc .vmem S256x1 .i32) (harg9 : arg9.IsWhole)
    (arg10 : Memref sig .tc .vmem S256x3584 .i8) (harg10 : arg10.IsWhole)
    (arg11 : Memref sig .tc .vmem S256x1 .i32) (harg11 : arg11.IsWhole)
    (arg12 : Memref sig .tc .vmem S256x1 .i32) (harg12 : arg12.IsWhole)
    (arg13 : Memref sig .tc .vmem S256x3584 .bf16) (harg13 : arg13.IsWhole)
    (arg14 : Memref sig .tc .vmem S256x128 .i32) (harg14 : arg14.IsWhole)
    (arg15 : Memref sig .tc .vmem S256x128 .i32) (harg15 : arg15.IsWhole)
    (arg16 : Memref sig .tc .vmem S148x256x128 .f32) (harg16 : arg16.IsWhole)
    (arg17 : Memref sig .tc .vmem S256x128 .f32) (harg17 : arg17.IsWhole)
    (arg18 : Memref sig .tc .vmem S256x128 .f32) (harg18 : arg18.IsWhole) (K : PUnit → sProp 𝕄) :
    iprop(Held (F := F) c arg1 arg2 arg3 arg4 arg5 arg6 arg7 arg8 arg9 arg10 arg11 arg12 arg13 arg14 arg15 arg16 arg17 arg18 ∗ (Held (F := F) c arg1 arg2 arg3 arg4 arg5 arg6 arg7 arg8 arg9 arg10 arg11 arg12 arg13 arg14 arg15 arg16 arg17 arg18 -∗ K ⟨⟩))
      ⊢ wp frame (wpE (defs₀ (F := F)) Variants.none c none) Set.univ (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_int_swiglu_eq_skeleton]; unfold cc0_int_swiglu_skel
  unfold Held owns
  iintro ⟨⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩⟩, Hk⟩
  by_cases h2 : k0_cond2 i = 1#1
  · sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl
  · sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

/-- The proof data on core `c`: the arrays as the region finds them, nothing said of what the body leaves in a window. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    (rdat (F := F) m c).BodyObligation (defs₀ (F := F)) Variants.none () Set.univ := by
  intro t Y _
  rw [bigSep_W0, bigSep_W0, defs₀_row]
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  unfold Pipeline.ΦA
  rw [scopedRest0_eq]
  simp only [show ∀ w Y X, (rdat m c).after w t Y X = True from fun _ _ _ => rfl]
  iintro ⟨⟨⟨⟨%g13, G13⟩, ⟨%g14, G14⟩, ⟨%g15, G15⟩, ⟨%g16, G16⟩, ⟨%g17, G17⟩, ⟨%g18, G18⟩⟩, Hr⟩, HO, G1, G2, G3, G4, G5, G6, G7, G8, G9, G10, G11, G12⟩
  iapply (kernelRun c _ _ _ _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) _)
  unfold Held
  simp only [owns_whole]
  isplitl [G1 G2 G3 G4 G5 G6 G7 G8 G9 G10 G11 G12 G13 G14 G15 G16 G17 G18]
  · isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    isplitl [G8]; · iexists _; iexact G8
    isplitl [G9]; · iexists _; iexact G9
    isplitl [G10]; · iexists _; iexact G10
    isplitl [G11]; · iexists _; iexact G11
    isplitl [G12]; · iexists _; iexact G12
    isplitl [G13]; · iexists _; iexact G13
    isplitl [G14]; · iexists _; iexact G14
    isplitl [G15]; · iexists _; iexact G15
    isplitl [G16]; · iexists _; iexact G16
    isplitl [G17]; · iexists _; iexact G17
    iexists _; iexact G18
  iintro ⟨⟨%e1, G1⟩, ⟨%e2, G2⟩, ⟨%e3, G3⟩, ⟨%e4, G4⟩, ⟨%e5, G5⟩, ⟨%e6, G6⟩, ⟨%e7, G7⟩, ⟨%e8, G8⟩, ⟨%e9, G9⟩, ⟨%e10, G10⟩, ⟨%e11, G11⟩, ⟨%e12, G12⟩, ⟨%e13, G13⟩, ⟨%e14, G14⟩, ⟨%e15, G15⟩, ⟨%e16, G16⟩, ⟨%e17, G17⟩, ⟨%e18, G18⟩⟩
  isplitl [Hr G13 G14 G15 G16 G17 G18]
  · isplitr [Hr]
    · isplitl [G13]; · iexists _; iexact G13
      isplitl [G14]; · iexists _; iexact G14
      isplitl [G15]; · iexists _; iexact G15
      isplitl [G16]; · iexists _; iexact G16
      isplitl [G17]; · iexists _; iexact G17
      iexists _; iexact G18
    iexact Hr
  isplitl [HO]; · iexact HO
  isplitl [G1]
  · iexists _; isplitr; swap; · iexact G1
    ipureintro; trivial
  isplitl [G2]
  · iexists _; isplitr; swap; · iexact G2
    ipureintro; trivial
  isplitl [G3]
  · iexists _; isplitr; swap; · iexact G3
    ipureintro; trivial
  isplitl [G4]
  · iexists _; isplitr; swap; · iexact G4
    ipureintro; trivial
  isplitl [G5]
  · iexists _; isplitr; swap; · iexact G5
    ipureintro; trivial
  isplitl [G6]
  · iexists _; isplitr; swap; · iexact G6
    ipureintro; trivial
  isplitl [G7]
  · iexists _; isplitr; swap; · iexact G7
    ipureintro; trivial
  isplitl [G8]
  · iexists _; isplitr; swap; · iexact G8
    ipureintro; trivial
  isplitl [G9]
  · iexists _; isplitr; swap; · iexact G9
    ipureintro; trivial
  isplitl [G10]
  · iexists _; isplitr; swap; · iexact G10
    ipureintro; trivial
  isplitl [G11]
  · iexists _; isplitr; swap; · iexact G11
    ipureintro; trivial
  iexists _; isplitr; swap; · iexact G12
  ipureintro; trivial

set_option backward.isDefEq.respectTransparency.types false in
/-- From any memory with zero counters every weakly fair execution of the program terminates, with every buffer that is no
    output's at its launch contents and every semaphore counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame: the five argument arrays end as they began and every semaphore counter ends at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨((h.1 c).2 main_arg0 (Pipeline.mem_restRefs_of main_arg0 (by decide) (by decide))).trans (V_main_arg0 m c),
      (cast (congrFun ((rdat m c).ArrAt_in 1 rfl _) _) ((h.1 c).1 1)).trans (V_main_arg1 m c),
      (cast (congrFun ((rdat m c).ArrAt_in 2 rfl _) _) ((h.1 c).1 2)).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel.Hand

end
-- ==== Proof.KernelIdealFrame.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer the body touches, each whole at some contents. -/
abbrev Held (c : Dev nD)
    (arg1 : Memref sig .tc .vmem S256x3584 .i32)
    (arg2 : Memref sig .tc .vmem S3584x512 .i8)
    (arg3 : Memref sig .tc .vmem S3584x512 .i8)
    (arg4 : Memref sig .tc .vmem S1x512 .i32)
    (arg5 : Memref sig .tc .vmem S1x512 .i32)
    (arg6 : Memref sig .tc .vmem S256x18944 .i8)
    (arg7 : Memref sig .tc .vmem S256x1 .i32)
    (arg8 : Memref sig .tc .vmem S256x1 .i32)
    (arg9 : Memref sig .tc .vmem S256x1 .i32)
    (arg10 : Memref sig .tc .vmem S256x3584 .i8)
    (arg11 : Memref sig .tc .vmem S256x1 .i32)
    (arg12 : Memref sig .tc .vmem S256x1 .i32)
    (arg13 : Memref sig .tc .vmem S256x3584 .bf16)
    (arg14 : Memref sig .tc .vmem S256x128 .i32)
    (arg15 : Memref sig .tc .vmem S256x128 .i32)
    (arg16 : Memref sig .tc .vmem S148x256x128 .f32)
    (arg17 : Memref sig .tc .vmem S256x128 .f32)
    (arg18 : Memref sig .tc .vmem S256x128 .f32) : sProp 𝕄 :=
  iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))

/-- One run of the body at any grid point, from any buffer contents, hands every buffer back. -/
theorem kernelRun (c : Dev nD) (i : grid0.Coords)
    (arg1 : Memref sig .tc .vmem S256x3584 .i32) (harg1 : arg1.IsWhole)
    (arg2 : Memref sig .tc .vmem S3584x512 .i8) (harg2 : arg2.IsWhole)
    (arg3 : Memref sig .tc .vmem S3584x512 .i8) (harg3 : arg3.IsWhole)
    (arg4 : Memref sig .tc .vmem S1x512 .i32) (harg4 : arg4.IsWhole)
    (arg5 : Memref sig .tc .vmem S1x512 .i32) (harg5 : arg5.IsWhole)
    (arg6 : Memref sig .tc .vmem S256x18944 .i8) (harg6 : arg6.IsWhole)
    (arg7 : Memref sig .tc .vmem S256x1 .i32) (harg7 : arg7.IsWhole)
    (arg8 : Memref sig .tc .vmem S256x1 .i32) (harg8 : arg8.IsWhole)
    (arg9 : Memref sig .tc .vmem S256x1 .i32) (harg9 : arg9.IsWhole)
    (arg10 : Memref sig .tc .vmem S256x3584 .i8) (harg10 : arg10.IsWhole)
    (arg11 : Memref sig .tc .vmem S256x1 .i32) (harg11 : arg11.IsWhole)
    (arg12 : Memref sig .tc .vmem S256x1 .i32) (harg12 : arg12.IsWhole)
    (arg13 : Memref sig .tc .vmem S256x3584 .bf16) (harg13 : arg13.IsWhole)
    (arg14 : Memref sig .tc .vmem S256x128 .i32) (harg14 : arg14.IsWhole)
    (arg15 : Memref sig .tc .vmem S256x128 .i32) (harg15 : arg15.IsWhole)
    (arg16 : Memref sig .tc .vmem S148x256x128 .f32) (harg16 : arg16.IsWhole)
    (arg17 : Memref sig .tc .vmem S256x128 .f32) (harg17 : arg17.IsWhole)
    (arg18 : Memref sig .tc .vmem S256x128 .f32) (harg18 : arg18.IsWhole) (K : PUnit → sProp 𝕄) :
    iprop(Held (F := F) c arg1 arg2 arg3 arg4 arg5 arg6 arg7 arg8 arg9 arg10 arg11 arg12 arg13 arg14 arg15 arg16 arg17 arg18 ∗ (Held (F := F) c arg1 arg2 arg3 arg4 arg5 arg6 arg7 arg8 arg9 arg10 arg11 arg12 arg13 arg14 arg15 arg16 arg17 arg18 -∗ K ⟨⟩))
      ⊢ wp frame (wpE (defs₀ (F := F)) Variants.none c none) Set.univ (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_int_swiglu_eq_skeleton]; unfold cc0_int_swiglu_skel
  unfold Held owns
  iintro ⟨⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩⟩, Hk⟩
  by_cases h2 : k0_cond2 i = 1#1
  · sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl
  · sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

/-- The proof data on core `c`: the arrays as the region finds them, nothing said of what the body leaves in a window. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    (rdat (F := F) m c).BodyObligation (defs₀ (F := F)) Variants.none () Set.univ := by
  intro t Y _
  rw [bigSep_W0, bigSep_W0, defs₀_row]
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  unfold Pipeline.ΦA
  rw [scopedRest0_eq]
  simp only [show ∀ w Y X, (rdat m c).after w t Y X = True from fun _ _ _ => rfl]
  iintro ⟨⟨⟨⟨%g13, G13⟩, ⟨%g14, G14⟩, ⟨%g15, G15⟩, ⟨%g16, G16⟩, ⟨%g17, G17⟩, ⟨%g18, G18⟩⟩, Hr⟩, HO, G1, G2, G3, G4, G5, G6, G7, G8, G9, G10, G11, G12⟩
  iapply (kernelRun c _ _ _ _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) _)
  unfold Held
  simp only [owns_whole]
  isplitl [G1 G2 G3 G4 G5 G6 G7 G8 G9 G10 G11 G12 G13 G14 G15 G16 G17 G18]
  · isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    isplitl [G8]; · iexists _; iexact G8
    isplitl [G9]; · iexists _; iexact G9
    isplitl [G10]; · iexists _; iexact G10
    isplitl [G11]; · iexists _; iexact G11
    isplitl [G12]; · iexists _; iexact G12
    isplitl [G13]; · iexists _; iexact G13
    isplitl [G14]; · iexists _; iexact G14
    isplitl [G15]; · iexists _; iexact G15
    isplitl [G16]; · iexists _; iexact G16
    isplitl [G17]; · iexists _; iexact G17
    iexists _; iexact G18
  iintro ⟨⟨%e1, G1⟩, ⟨%e2, G2⟩, ⟨%e3, G3⟩, ⟨%e4, G4⟩, ⟨%e5, G5⟩, ⟨%e6, G6⟩, ⟨%e7, G7⟩, ⟨%e8, G8⟩, ⟨%e9, G9⟩, ⟨%e10, G10⟩, ⟨%e11, G11⟩, ⟨%e12, G12⟩, ⟨%e13, G13⟩, ⟨%e14, G14⟩, ⟨%e15, G15⟩, ⟨%e16, G16⟩, ⟨%e17, G17⟩, ⟨%e18, G18⟩⟩
  isplitl [Hr G13 G14 G15 G16 G17 G18]
  · isplitr [Hr]
    · isplitl [G13]; · iexists _; iexact G13
      isplitl [G14]; · iexists _; iexact G14
      isplitl [G15]; · iexists _; iexact G15
      isplitl [G16]; · iexists _; iexact G16
      isplitl [G17]; · iexists _; iexact G17
      iexists _; iexact G18
    iexact Hr
  isplitl [HO]; · iexact HO
  isplitl [G1]
  · iexists _; isplitr; swap; · iexact G1
    ipureintro; trivial
  isplitl [G2]
  · iexists _; isplitr; swap; · iexact G2
    ipureintro; trivial
  isplitl [G3]
  · iexists _; isplitr; swap; · iexact G3
    ipureintro; trivial
  isplitl [G4]
  · iexists _; isplitr; swap; · iexact G4
    ipureintro; trivial
  isplitl [G5]
  · iexists _; isplitr; swap; · iexact G5
    ipureintro; trivial
  isplitl [G6]
  · iexists _; isplitr; swap; · iexact G6
    ipureintro; trivial
  isplitl [G7]
  · iexists _; isplitr; swap; · iexact G7
    ipureintro; trivial
  isplitl [G8]
  · iexists _; isplitr; swap; · iexact G8
    ipureintro; trivial
  isplitl [G9]
  · iexists _; isplitr; swap; · iexact G9
    ipureintro; trivial
  isplitl [G10]
  · iexists _; isplitr; swap; · iexact G10
    ipureintro; trivial
  isplitl [G11]
  · iexists _; isplitr; swap; · iexact G11
    ipureintro; trivial
  iexists _; isplitr; swap; · iexact G12
  ipureintro; trivial

set_option backward.isDefEq.respectTransparency.types false in
/-- From any memory with zero counters every weakly fair execution of the program terminates, with every buffer that is no
    output's at its launch contents and every semaphore counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame: the five argument arrays end as they began and every semaphore counter ends at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨((h.1 c).2 main_arg0 (Pipeline.mem_restRefs_of main_arg0 (by decide) (by decide))).trans (V_main_arg0 m c),
      (cast (congrFun ((rdat m c).ArrAt_in 1 rfl _) _) ((h.1 c).1 1)).trans (V_main_arg1 m c),
      (cast (congrFun ((rdat m c).ArrAt_in 2 rfl _) _) ((h.1 c).1 2)).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Hand

end
-- ==== Proof.KernelIdealPoint.lean ====
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen

/-- Rounded division of a word by a constant, as the kernel computes it: multiply by the reciprocal `c`, take the
    floor, and correct the quotient by one where the remainder says so. -/
def fdc (v : BitVec 32) (c d : BitVec 32) : BitVec 32 :=
  IntOp.subi
    (IntOp.addi (FloatOps.fptosi (F := Ideal) (φ := .f32) 32 (Ideal.liftRound Int.floor (FloatOps.sitofp (F := Ideal) .f32 v * Ideal.ofBits .f32 c)))
      (Scalar.select (IntOp.cmpi .sge (IntOp.subi v (IntOp.muli (FloatOps.fptosi (F := Ideal) (φ := .f32) 32 (Ideal.liftRound Int.floor (FloatOps.sitofp (F := Ideal) .f32 v * Ideal.ofBits .f32 c))) d)) d) 1#32 0#32))
    (Scalar.select (IntOp.cmpi .slt (IntOp.subi v (IntOp.muli (FloatOps.fptosi (F := Ideal) (φ := .f32) 32 (Ideal.liftRound Int.floor (FloatOps.sitofp (F := Ideal) .f32 v * Ideal.ofBits .f32 c))) d)) 0#32) 1#32 0#32)

/-- The largest absolute value of a row of `x`, at least one. -/
def kA (row : Fin 3584 → BitVec 32) : BitVec 32 :=
  IntOp.maxsi (Finset.univ.fold IntOp.maxsi 2147483648#32 fun k => IntOp.absi (row k)) 1#32

/-- The bit length of a positive word. -/
def kN (A : BitVec 32) : BitVec 32 := IntOp.subi 32#32 (IntOp.ctlz A)

/-- The mantissa of a row's scale. -/
def kM (A : BitVec 32) : BitVec 32 :=
  fdc (IntOp.addi (IntOp.shli .vector A (IntOp.subi 23#32 (kN A))) 16256#32) 0x38010204#32 32512#32

/-- The exponent of a row's scale. -/
def kK (A : BitVec 32) : BitVec 32 := IntOp.addi (IntOp.subi 15#32 (kN A)) 10#32

/-- A quotient's floor from its reciprocal, corrected by one as the remainder says. -/
def fdf (t d : EReal) : EReal :=
  Ideal.liftRound Int.floor (t * Ideal.div 1 d) + (if d ≤ t - Ideal.liftRound Int.floor (t * Ideal.div 1 d) * d then 1 else 0)
    - (if t - Ideal.liftRound Int.floor (t * Ideal.div 1 d) * d < 0 then 1 else 0)

/-- The size of the code of the element `v` of a row whose largest value is `A`, as a float. -/
def kQabs (v A : BitVec 32) : EReal :=
  min (fdf (FloatOps.absf (F := Ideal) (φ := .f32) (FloatOps.sitofp (F := Ideal) .f32 v) * FloatOps.sitofp (F := Ideal) .f32 (IntOp.shli .vector 1#32 (IntOp.subi 23#32 (kN A)))
    + Ideal.ofBits .f32 0x3F000000#32 * FloatOps.sitofp (F := Ideal) .f32 (IntOp.shli .vector (kM A) 8#32))
    (FloatOps.sitofp (F := Ideal) .f32 (IntOp.shli .vector (kM A) 8#32))) (Ideal.ofBits .f32 0x42FE0000#32)

/-- The code of the element `v` of a row whose largest value is `A`, as a float. -/
def kQ (v A : BitVec 32) : EReal := Scalar.select (IntOp.cmpi .slt v 0#32) (0 - kQabs v A) (kQabs v A)

theorem pay8_at (x : S32x3584.Idx → BitVec 32) (r : Fin 32) (z : Fin 1) :
    k0_pay8 (F := Ideal) x (ix2 r z) = kA fun k => x (ix2 r k) := by
  pointwise [k0_pay8, k0_pay7, kA]

theorem pay9_at (x : S32x3584.Idx → BitVec 32) (r : Fin 32) (z : Fin 1) :
    k0_pay9 (F := Ideal) x (ix2 r z) = kN (kA fun k => x (ix2 r k)) := by
  pointwise [k0_pay9]; rw [pay8_at]; rfl

theorem pay10_at (x : S32x3584.Idx → BitVec 32) (r : Fin 32) (z : Fin 1) :
    k0_pay10 (F := Ideal) x (ix2 r z) = kM (kA fun k => x (ix2 r k)) := by
  pointwise [k0_pay10]; rw [pay8_at, pay9_at]; rfl

theorem pay11_at (x : S32x3584.Idx → BitVec 32) (r : Fin 32) (z : Fin 1) :
    k0_pay11 (F := Ideal) x (ix2 r z) = kK (kA fun k => x (ix2 r k)) := by
  pointwise [k0_pay11]; rw [pay9_at]; rfl

theorem pay12_at (x : S32x3584.Idx → BitVec 32) (r : Fin 32) (z : Fin 1) :
    k0_pay12 (F := Ideal) x (ix2 r z) = FloatOps.sitofp (F := Ideal) .f32 (IntOp.shli .vector (kM (kA fun k => x (ix2 r k))) 8#32) := by
  pointwise [k0_pay12]; rw [pay10_at]

theorem pay13_at (x : S32x3584.Idx → BitVec 32) (r : Fin 32) (c : Fin 3584) :
    k0_pay13 (F := Ideal) (k0_pay7 (F := Ideal) x) (k0_pay9 (F := Ideal) x) (k0_pay12 x) (ix2 r c) = kQ (x (ix2 r c)) (kA fun k => x (ix2 r k)) := by
  pointwise [k0_pay13, k0_pay7]; simp only [pay9_at, pay12_at]; rfl

theorem pay14_at (x : S32x3584.Idx → BitVec 32) (r : Fin 32) (c : Fin 3584) :
    k0_pay14 (F := Ideal) (k0_pay7 (F := Ideal) x) (k0_pay9 (F := Ideal) x) (k0_pay12 x) (ix2 r c) = kQ (x (ix2 r c)) (kA fun k => x (ix2 r k)) := by
  pointwise [k0_pay14]; exact pay13_at x r c

theorem pay16_at (x : S32x3584.Idx → BitVec 32) (r : Fin 32) (c : Fin 3584) :
    k0_pay16 (k0_pay15 (F := Ideal) (k0_pay7 (F := Ideal) x) (k0_pay9 (F := Ideal) x) (k0_pay12 x)) (ix2 r c)
      = BitVec.setWidth 8 (FloatOps.fptosi (F := Ideal) (φ := .f32) 32 (kQ (x (ix2 r c)) (kA fun k => x (ix2 r k)))) := by
  pointwise [k0_pay16, k0_pay15]; rw [pay13_at]

theorem pay17_at (x : S32x1.Idx → BitVec 32) (r : Fin 32) (c : Fin 128) : k0_pay17 x (ix2 r c) = x (ix2 r 0) := by
  pointwise [k0_pay17]

theorem pay18_at (x : S32x1.Idx → BitVec 32) (r : Fin 32) (c : Fin 128) : k0_pay18 x (ix2 r c) = x (ix2 r 0) := by
  pointwise [k0_pay18]

/-- A rescaled product: `(acc · m + half) >> s` at the shift `s = k − 8 + e`, held to ±4095. -/
def kR (acc m k e : BitVec 32) : EReal :=
  min (max (FloatOps.sitofp (F := Ideal) .f32 (IntOp.shrsi .vector
    (IntOp.addi (IntOp.muli acc m) (IntOp.shrsi .vector (IntOp.shli .vector 1#32 (IntOp.addi (IntOp.subi k 8#32) e)) 1#32))
    (IntOp.addi (IntOp.subi k 8#32) e))) (Ideal.ofBits .f32 0xC57FF000#32)) (Ideal.ofBits .f32 0x457FF000#32)

/-- The word whose top bits are the power of two that the gate's exponential stands on. -/
def kEbits (g : EReal) : BitVec 32 :=
  IntOp.shli .vector (IntOp.subi 35584#32 (IntOp.subi
    (IntOp.addi (FloatOps.fptosi (F := Ideal) (φ := .f32) 32 (FloatOps.absf (F := Ideal) (φ := .f32) g))
      (IntOp.shrsi .vector (FloatOps.fptosi (F := Ideal) (φ := .f32) 32 (FloatOps.absf (F := Ideal) (φ := .f32) g)) 1#32))
    (IntOp.shrsi .vector (FloatOps.fptosi (F := Ideal) (φ := .f32) 32 (FloatOps.absf (F := Ideal) (φ := .f32) g)) 4#32))) 15#32

/-- The gate's exponential. -/
def kE (g : EReal) : EReal := Ideal.liftRound Int.floor (Ideal.ofBits .f32 (kEbits g))

/-- The gated product of a gate and an up value. -/
def kH (g u : EReal) : EReal :=
  Ideal.liftRound Int.floor
    ((Ideal.liftRound Int.floor (Ideal.ofBits .f32 0x3F00029F#32
        - FloatOps.absf (F := Ideal) (φ := .f32) g * kE g * Ideal.div 1 (Ideal.ofBits .f32 0x45800000#32 + kE g))
      + max g 0) * u * Ideal.ofBits .f32 0x3C800000#32 + Ideal.ofBits .f32 0x3F000000#32)

variable (g u : S256x512.Idx → BitVec 32) (M K : S256x128.Idx → BitVec 32) (e f : S1x128.Idx → BitVec 32)

theorem h0_at (a : Fin 256) (b : Fin 128) :
    k0_pay150 (F := Ideal) (k0_pay146 (k0_pay145 g M K e) (FloatOps.ofBits FTy.f32 3313496064#32)) (k0_pay147 u M (k0_pay144 (F := Ideal) K) f)
      (k0_pay148 (k0_pay145 g M K e) (FloatOps.ofBits FTy.f32 3313496064#32)) k0_pay149 (ix2 a b)
    = kH (kR (g (ix2 a ⟨b.val, by omega⟩)) (M (ix2 a b)) (K (ix2 a b)) (e (ix2 0 b)))
        (kR (u (ix2 a ⟨b.val, by omega⟩)) (M (ix2 a b)) (K (ix2 a b)) (f (ix2 0 b))) := by
  pointwise [k0_pay150, k0_pay146, k0_pay145, k0_pay147, k0_pay144, k0_pay148, k0_pay149]
  rfl

theorem h1_at (a : Fin 256) (b : Fin 128) :
    k0_pay165 (F := Ideal) (k0_pay158 M (k0_pay155 g) (k0_pay156 (F := Ideal) K e) (k0_pay157 (F := Ideal) K e)) (k0_pay159 u M (k0_pay154 (F := Ideal) K) f)
      (k0_pay162 M (k0_pay155 g) (k0_pay156 (F := Ideal) K e) (k0_pay157 (F := Ideal) K e))
      (k0_pay163 M (k0_pay155 g) (k0_pay156 (F := Ideal) K e) (k0_pay157 (F := Ideal) K e)) k0_pay164 (ix2 a b)
    = kH (kR (g (ix2 a ⟨128 + b.val, by omega⟩)) (M (ix2 a b)) (K (ix2 a b)) (e (ix2 0 b)))
        (kR (u (ix2 a ⟨128 + b.val, by omega⟩)) (M (ix2 a b)) (K (ix2 a b)) (f (ix2 0 b))) := by
  pointwise [k0_pay165, k0_pay158, k0_pay155, k0_pay156, k0_pay157, k0_pay159, k0_pay154, k0_pay162, k0_pay163, k0_pay160, k0_pay161, k0_pay164]
  rfl

theorem h2_at (a : Fin 256) (b : Fin 128) :
    k0_pay175 (F := Ideal) (k0_pay171 M (k0_pay169 (F := Ideal) K) (k0_pay170 g) e) (k0_pay172 u M (k0_pay169 (F := Ideal) K) f)
      (k0_pay173 M (k0_pay169 (F := Ideal) K) (k0_pay170 g) e) (k0_pay174 (F := Ideal) M (k0_pay169 (F := Ideal) K) (k0_pay170 g) e) (ix2 a b)
    = kH (kR (g (ix2 a ⟨256 + b.val, by omega⟩)) (M (ix2 a b)) (K (ix2 a b)) (e (ix2 0 b)))
        (kR (u (ix2 a ⟨256 + b.val, by omega⟩)) (M (ix2 a b)) (K (ix2 a b)) (f (ix2 0 b))) := by
  pointwise [k0_pay175, k0_pay171, k0_pay169, k0_pay170, k0_pay172, k0_pay173, k0_pay174]
  rfl

theorem h3_at (a : Fin 256) (b : Fin 128) :
    k0_pay186 (F := Ideal) (k0_pay180 g M K e) (k0_pay181 u M K f) (k0_pay182 g M K e) (k0_pay183 (F := Ideal) g M K e) (k0_pay184 (F := Ideal) g M K e) k0_pay185 (ix2 a b)
    = kH (kR (g (ix2 a ⟨384 + b.val, by omega⟩)) (M (ix2 a b)) (K (ix2 a b)) (e (ix2 0 b)))
        (kR (u (ix2 a ⟨384 + b.val, by omega⟩)) (M (ix2 a b)) (K (ix2 a b)) (f (ix2 0 b))) := by
  pointwise [k0_pay186, k0_pay180, k0_pay181, k0_pay182, k0_pay183, k0_pay184, k0_pay185]
  rfl

end Cert.KernelIdeal.Hand
end
-- ==== Proof.KernelIdealBlocks.lean ====
module

public import proofs.«01_k».proof.Proof.Gen.KernelIdeal.Skeleton
public import Idealize.ShloMosaic.Lib.Pointwise
public import proofs.«01_k».proof.Proof.KernelIdealPoint
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen

variable {e : EltTy} (x : S32x3584.Idx → BitVec 32)

theorem xb_eq1 : k0_pay35 (k0_pay19 (F := Ideal) x) (k0_pay29 (F := Ideal) (k0_pay19 (F := Ideal) x) (k0_pay21 (F := Ideal) x) (k0_pay22 (F := Ideal) x) (k0_pay23 (F := Ideal) x) (k0_pay24 (F := Ideal) x)) (k0_pay30 (F := Ideal) (k0_pay19 (F := Ideal) x) (k0_pay21 (F := Ideal) x) (k0_pay22 (F := Ideal) x) (k0_pay23 (F := Ideal) x) (k0_pay24 (F := Ideal) x)) (k0_pay31 (F := Ideal) (k0_pay19 (F := Ideal) x) (k0_pay21 (F := Ideal) x) (k0_pay22 (F := Ideal) x) (k0_pay23 (F := Ideal) x) (k0_pay24 (F := Ideal) x)) k0_pay32 k0_pay33
    = k0_pay14 (k0_pay7 (F := Ideal) x) (k0_pay9 (F := Ideal) x) (k0_pay12 x) := rfl
theorem xc_eq1 : k0_pay36 (F := Ideal) (k0_pay19 (F := Ideal) x) (k0_pay29 (F := Ideal) (k0_pay19 (F := Ideal) x) (k0_pay21 (F := Ideal) x) (k0_pay22 (F := Ideal) x) (k0_pay23 (F := Ideal) x) (k0_pay24 (F := Ideal) x)) (k0_pay30 (F := Ideal) (k0_pay19 (F := Ideal) x) (k0_pay21 (F := Ideal) x) (k0_pay22 (F := Ideal) x) (k0_pay23 (F := Ideal) x) (k0_pay24 (F := Ideal) x)) (k0_pay31 (F := Ideal) (k0_pay19 (F := Ideal) x) (k0_pay21 (F := Ideal) x) (k0_pay22 (F := Ideal) x) (k0_pay23 (F := Ideal) x) (k0_pay24 (F := Ideal) x)) k0_pay32 k0_pay33
    = k0_pay16 (k0_pay15 (F := Ideal) (k0_pay7 (F := Ideal) x) (k0_pay9 (F := Ideal) x) (k0_pay12 x)) := rfl
theorem xm_eq1 : k0_pay25 (k0_pay22 (F := Ideal) x) (k0_pay23 (F := Ideal) x) (k0_pay24 (F := Ideal) x) = k0_pay10 (F := Ideal) x := rfl
theorem xk_eq1 : k0_pay26 (k0_pay21 (F := Ideal) x) = k0_pay11 (F := Ideal) x := rfl

theorem xb_eq2 : k0_pay47 (k0_pay39 (F := Ideal) x) (k0_pay41 (F := Ideal) x) (k0_pay44 x) (k0_pay45 (F := Ideal))
    = k0_pay14 (k0_pay7 (F := Ideal) x) (k0_pay9 (F := Ideal) x) (k0_pay12 x) := rfl
theorem xc_eq2 : k0_pay48 (F := Ideal) (k0_pay39 (F := Ideal) x) (k0_pay41 (F := Ideal) x) (k0_pay44 x) (k0_pay45 (F := Ideal))
    = k0_pay16 (k0_pay15 (F := Ideal) (k0_pay7 (F := Ideal) x) (k0_pay9 (F := Ideal) x) (k0_pay12 x)) := rfl
theorem xm_eq2 : k0_pay42 (F := Ideal) x = k0_pay10 (F := Ideal) x := rfl
theorem xk_eq2 : k0_pay43 (F := Ideal) x = k0_pay11 (F := Ideal) x := rfl

theorem xb_eq3 : k0_pay65 (k0_pay51 (F := Ideal) x) (k0_pay62 (F := Ideal) (k0_pay51 (F := Ideal) x) (k0_pay53 (F := Ideal) x) (k0_pay55 (F := Ideal) x) (k0_pay56 (F := Ideal) x) 32512#32) (k0_pay63 (F := Ideal) (k0_pay51 (F := Ideal) x) (k0_pay53 (F := Ideal) x) (k0_pay55 (F := Ideal) x) (k0_pay56 (F := Ideal) x) 32512#32)
    = k0_pay14 (k0_pay7 (F := Ideal) x) (k0_pay9 (F := Ideal) x) (k0_pay12 x) := rfl
theorem xc_eq3 : k0_pay66 (F := Ideal) (k0_pay51 (F := Ideal) x) (k0_pay62 (F := Ideal) (k0_pay51 (F := Ideal) x) (k0_pay53 (F := Ideal) x) (k0_pay55 (F := Ideal) x) (k0_pay56 (F := Ideal) x) 32512#32) (k0_pay63 (F := Ideal) (k0_pay51 (F := Ideal) x) (k0_pay53 (F := Ideal) x) (k0_pay55 (F := Ideal) x) (k0_pay56 (F := Ideal) x) 32512#32)
    = k0_pay16 (k0_pay15 (F := Ideal) (k0_pay7 (F := Ideal) x) (k0_pay9 (F := Ideal) x) (k0_pay12 x)) := rfl
theorem xm_eq3 : k0_pay57 (k0_pay55 (F := Ideal) x) (k0_pay56 (F := Ideal) x) 32512#32 = k0_pay10 (F := Ideal) x := rfl
theorem xk_eq3 : k0_pay58 (k0_pay53 (F := Ideal) x) = k0_pay11 (F := Ideal) x := rfl

theorem xb_eq4 : k0_pay77 (k0_pay69 (F := Ideal) x) (k0_pay71 (k0_pay69 (F := Ideal) x)) (k0_pay74 (F := Ideal) (k0_pay69 (F := Ideal) x)) (k0_pay75 (F := Ideal) (k0_pay69 (F := Ideal) x)) 23#32
    = k0_pay14 (k0_pay7 (F := Ideal) x) (k0_pay9 (F := Ideal) x) (k0_pay12 x) := rfl
theorem xc_eq4 : k0_pay78 (F := Ideal) (k0_pay69 (F := Ideal) x) (k0_pay71 (k0_pay69 (F := Ideal) x)) (k0_pay74 (F := Ideal) (k0_pay69 (F := Ideal) x)) (k0_pay75 (F := Ideal) (k0_pay69 (F := Ideal) x)) 23#32
    = k0_pay16 (k0_pay15 (F := Ideal) (k0_pay7 (F := Ideal) x) (k0_pay9 (F := Ideal) x) (k0_pay12 x)) := rfl
theorem xm_eq4 : k0_pay72 (F := Ideal) (k0_pay69 (F := Ideal) x) = k0_pay10 (F := Ideal) x := rfl
theorem xk_eq4 : k0_pay73 (k0_pay69 (F := Ideal) x) = k0_pay11 (F := Ideal) x := rfl

theorem xb_eq5 : k0_pay97 (k0_pay81 (F := Ideal) x) (k0_pay93 (F := Ideal) (k0_pay81 (F := Ideal) x) (k0_pay83 (F := Ideal) x) (k0_pay85 (F := Ideal) x) (k0_pay86 (F := Ideal) x) (k0_pay87 (F := Ideal) x)) (k0_pay94 (F := Ideal) (k0_pay81 (F := Ideal) x) (k0_pay83 (F := Ideal) x) (k0_pay85 (F := Ideal) x) (k0_pay86 (F := Ideal) x) (k0_pay87 (F := Ideal) x)) k0_pay95
    = k0_pay14 (k0_pay7 (F := Ideal) x) (k0_pay9 (F := Ideal) x) (k0_pay12 x) := rfl
theorem xc_eq5 : k0_pay98 (F := Ideal) (k0_pay81 (F := Ideal) x) (k0_pay93 (F := Ideal) (k0_pay81 (F := Ideal) x) (k0_pay83 (F := Ideal) x) (k0_pay85 (F := Ideal) x) (k0_pay86 (F := Ideal) x) (k0_pay87 (F := Ideal) x)) (k0_pay94 (F := Ideal) (k0_pay81 (F := Ideal) x) (k0_pay83 (F := Ideal) x) (k0_pay85 (F := Ideal) x) (k0_pay86 (F := Ideal) x) (k0_pay87 (F := Ideal) x)) k0_pay95
    = k0_pay16 (k0_pay15 (F := Ideal) (k0_pay7 (F := Ideal) x) (k0_pay9 (F := Ideal) x) (k0_pay12 x)) := rfl
theorem xm_eq5 : k0_pay88 (k0_pay85 (F := Ideal) x) (k0_pay86 (F := Ideal) x) (k0_pay87 (F := Ideal) x) = k0_pay10 (F := Ideal) x := rfl
theorem xk_eq5 : k0_pay89 (k0_pay83 (F := Ideal) x) = k0_pay11 (F := Ideal) x := rfl

theorem xb_eq6 : k0_pay111 (k0_pay101 (F := Ideal) x) (k0_pay107 (F := Ideal) (k0_pay102 (F := Ideal) x)) (k0_pay108 (F := Ideal) (k0_pay102 (F := Ideal) x)) (k0_pay109 (k0_pay102 (F := Ideal) x))
    = k0_pay14 (k0_pay7 (F := Ideal) x) (k0_pay9 (F := Ideal) x) (k0_pay12 x) := rfl
theorem xc_eq6 : k0_pay112 (F := Ideal) (k0_pay101 (F := Ideal) x) (k0_pay107 (F := Ideal) (k0_pay102 (F := Ideal) x)) (k0_pay108 (F := Ideal) (k0_pay102 (F := Ideal) x)) (k0_pay109 (k0_pay102 (F := Ideal) x))
    = k0_pay16 (k0_pay15 (F := Ideal) (k0_pay7 (F := Ideal) x) (k0_pay9 (F := Ideal) x) (k0_pay12 x)) := rfl
theorem xm_eq6 : k0_pay105 (F := Ideal) (k0_pay102 (F := Ideal) x) = k0_pay10 (F := Ideal) x := rfl
theorem xk_eq6 : k0_pay106 (k0_pay102 (F := Ideal) x) = k0_pay11 (F := Ideal) x := rfl

theorem xb_eq7 : k0_pay131 (k0_pay115 (F := Ideal) x) (k0_pay128 (F := Ideal) (k0_pay115 (F := Ideal) x) (k0_pay117 (F := Ideal) x) (k0_pay119 (F := Ideal) x) (k0_pay120 (F := Ideal) x) (k0_pay121 (F := Ideal) x) 1#32 0#32) (k0_pay129 (F := Ideal) (k0_pay115 (F := Ideal) x) (k0_pay117 (F := Ideal) x) (k0_pay119 (F := Ideal) x) (k0_pay120 (F := Ideal) x) (k0_pay121 (F := Ideal) x) 1#32 0#32) (FloatOps.ofBits FTy.f32 1065353216#32)
    = k0_pay14 (k0_pay7 (F := Ideal) x) (k0_pay9 (F := Ideal) x) (k0_pay12 x) := rfl
theorem xc_eq7 : k0_pay132 (F := Ideal) (k0_pay115 (F := Ideal) x) (k0_pay128 (F := Ideal) (k0_pay115 (F := Ideal) x) (k0_pay117 (F := Ideal) x) (k0_pay119 (F := Ideal) x) (k0_pay120 (F := Ideal) x) (k0_pay121 (F := Ideal) x) 1#32 0#32) (k0_pay129 (F := Ideal) (k0_pay115 (F := Ideal) x) (k0_pay117 (F := Ideal) x) (k0_pay119 (F := Ideal) x) (k0_pay120 (F := Ideal) x) (k0_pay121 (F := Ideal) x) 1#32 0#32) (FloatOps.ofBits FTy.f32 1065353216#32)
    = k0_pay16 (k0_pay15 (F := Ideal) (k0_pay7 (F := Ideal) x) (k0_pay9 (F := Ideal) x) (k0_pay12 x)) := rfl
theorem xm_eq7 : k0_pay122 (k0_pay119 (F := Ideal) x) (k0_pay120 (F := Ideal) x) (k0_pay121 (F := Ideal) x) 1#32 0#32 = k0_pay10 (F := Ideal) x := rfl
theorem xk_eq7 : k0_pay123 (k0_pay117 (F := Ideal) x) = k0_pay11 (F := Ideal) x := rfl

/-! ## Boxes of a whole view -/

/-- A box of a two-dimensional array read at `(r, c)`. -/
theorem box_at {N M n m : ℕ} (v : View sig .tc .vmem (⟨2, ![N, M]⟩ : Shape) e) (f : v.ty.Contents (Elt Ideal)) (o p : ℕ)
    (inb : ∀ a, (![o, p] : Fin 2 → ℕ) a + (![n, m] : Fin 2 → ℕ) a ≤ (⟨2, ![N, M]⟩ : Shape).size a)
    (r : Fin n) (c : Fin m) (h0 : o + r.val < N) (h1 : p + c.val < M) :
    v.readAt (Elt Ideal) (Rect.unit (s := (⟨2, ![N, M]⟩ : Shape)) ![o, p] ![n, m] inb).toLoadRect f (ix2 r c)
      = v.read (Elt Ideal) f (ix2 ⟨o + r.val, h0⟩ ⟨p + c.val, h1⟩) := by
  rw [View.readAt_apply]
  congr 1
  funext a
  refine Fin.cases ?_ (fun a => Fin.cases ?_ (fun a => a.elim0) a) a
  · exact Fin.ext (show o + 1 * r.val = o + r.val by omega)
  · exact Fin.ext (show p + 1 * c.val = p + c.val by omega)

/-- Eight 32-row tiles of one function stored over a 256-row array leave that function. -/
theorem rows_read {m : ℕ} (v : View sig .tc .vmem (⟨2, ![256, m]⟩ : Shape) e) (f : v.ty.Contents (Elt Ideal))
    (G : (⟨2, ![256, m]⟩ : Shape).Idx → Elt Ideal e)
    (i0 : ∀ a, (![0, 0] : Fin 2 → ℕ) a + (![32, m] : Fin 2 → ℕ) a ≤ (⟨2, ![256, m]⟩ : Shape).size a) (p0 : (⟨2, ![32, m]⟩ : Shape).Idx → Elt Ideal e)
    (h0 : ∀ (r : Fin 32) (c : Fin m), p0 (ix2 r c) = G (ix2 ⟨0 + r.val, by omega⟩ c))
    (i1 : ∀ a, (![32, 0] : Fin 2 → ℕ) a + (![32, m] : Fin 2 → ℕ) a ≤ (⟨2, ![256, m]⟩ : Shape).size a) (p1 : (⟨2, ![32, m]⟩ : Shape).Idx → Elt Ideal e)
    (h1 : ∀ (r : Fin 32) (c : Fin m), p1 (ix2 r c) = G (ix2 ⟨32 + r.val, by omega⟩ c))
    (i2 : ∀ a, (![64, 0] : Fin 2 → ℕ) a + (![32, m] : Fin 2 → ℕ) a ≤ (⟨2, ![256, m]⟩ : Shape).size a) (p2 : (⟨2, ![32, m]⟩ : Shape).Idx → Elt Ideal e)
    (h2 : ∀ (r : Fin 32) (c : Fin m), p2 (ix2 r c) = G (ix2 ⟨64 + r.val, by omega⟩ c))
    (i3 : ∀ a, (![96, 0] : Fin 2 → ℕ) a + (![32, m] : Fin 2 → ℕ) a ≤ (⟨2, ![256, m]⟩ : Shape).size a) (p3 : (⟨2, ![32, m]⟩ : Shape).Idx → Elt Ideal e)
    (h3 : ∀ (r : Fin 32) (c : Fin m), p3 (ix2 r c) = G (ix2 ⟨96 + r.val, by omega⟩ c))
    (i4 : ∀ a, (![128, 0] : Fin 2 → ℕ) a + (![32, m] : Fin 2 → ℕ) a ≤ (⟨2, ![256, m]⟩ : Shape).size a) (p4 : (⟨2, ![32, m]⟩ : Shape).Idx → Elt Ideal e)
    (h4 : ∀ (r : Fin 32) (c : Fin m), p4 (ix2 r c) = G (ix2 ⟨128 + r.val, by omega⟩ c))
    (i5 : ∀ a, (![160, 0] : Fin 2 → ℕ) a + (![32, m] : Fin 2 → ℕ) a ≤ (⟨2, ![256, m]⟩ : Shape).size a) (p5 : (⟨2, ![32, m]⟩ : Shape).Idx → Elt Ideal e)
    (h5 : ∀ (r : Fin 32) (c : Fin m), p5 (ix2 r c) = G (ix2 ⟨160 + r.val, by omega⟩ c))
    (i6 : ∀ a, (![192, 0] : Fin 2 → ℕ) a + (![32, m] : Fin 2 → ℕ) a ≤ (⟨2, ![256, m]⟩ : Shape).size a) (p6 : (⟨2, ![32, m]⟩ : Shape).Idx → Elt Ideal e)
    (h6 : ∀ (r : Fin 32) (c : Fin m), p6 (ix2 r c) = G (ix2 ⟨192 + r.val, by omega⟩ c))
    (i7 : ∀ a, (![224, 0] : Fin 2 → ℕ) a + (![32, m] : Fin 2 → ℕ) a ≤ (⟨2, ![256, m]⟩ : Shape).size a) (p7 : (⟨2, ![32, m]⟩ : Shape).Idx → Elt Ideal e)
    (h7 : ∀ (r : Fin 32) (c : Fin m), p7 (ix2 r c) = G (ix2 ⟨224 + r.val, by omega⟩ c))
    : v.read (Elt Ideal) (v.writes (Elt Ideal) f [(⟨Rect.unit (s := (⟨2, ![256, m]⟩ : Shape)) ![224, 0] ![32, m] i7, p7⟩ : View.Piece (Elt Ideal) _ e), (⟨Rect.unit (s := (⟨2, ![256, m]⟩ : Shape)) ![192, 0] ![32, m] i6, p6⟩ : View.Piece (Elt Ideal) _ e), (⟨Rect.unit (s := (⟨2, ![256, m]⟩ : Shape)) ![160, 0] ![32, m] i5, p5⟩ : View.Piece (Elt Ideal) _ e), (⟨Rect.unit (s := (⟨2, ![256, m]⟩ : Shape)) ![128, 0] ![32, m] i4, p4⟩ : View.Piece (Elt Ideal) _ e), (⟨Rect.unit (s := (⟨2, ![256, m]⟩ : Shape)) ![96, 0] ![32, m] i3, p3⟩ : View.Piece (Elt Ideal) _ e), (⟨Rect.unit (s := (⟨2, ![256, m]⟩ : Shape)) ![64, 0] ![32, m] i2, p2⟩ : View.Piece (Elt Ideal) _ e), (⟨Rect.unit (s := (⟨2, ![256, m]⟩ : Shape)) ![32, 0] ![32, m] i1, p1⟩ : View.Piece (Elt Ideal) _ e), (⟨Rect.unit (s := (⟨2, ![256, m]⟩ : Shape)) ![0, 0] ![32, m] i0, p0⟩ : View.Piece (Elt Ideal) _ e)]) = G := by
  have key : ∀ (o : ℕ) (i : ∀ a, (![o, 0] : Fin 2 → ℕ) a + (![32, m] : Fin 2 → ℕ) a ≤ (⟨2, ![256, m]⟩ : Shape).size a)
      (p : (⟨2, ![32, m]⟩ : Shape).Idx → Elt Ideal e) (ho : o + 32 ≤ 256)
      (h : ∀ (r : Fin 32) (c : Fin m), p (ix2 r c) = G (ix2 ⟨o + r.val, by omega⟩ c))
      (x : (Rect.unit (s := (⟨2, ![256, m]⟩ : Shape)) ![o, 0] ![32, m] i).shape.Idx),
      p x = G ((Rect.unit (s := (⟨2, ![256, m]⟩ : Shape)) ![o, 0] ![32, m] i).emb x) := by
    intro o i p ho h x
    have hx : x = ix2 (n0 := 32) (n1 := m) (x 0) (x 1) := by
      funext a
      refine Fin.cases rfl (fun a => Fin.cases rfl (fun a => a.elim0) a) a
    rw [hx]
    refine (h (x 0) (x 1)).trans (congrArg G ?_)
    funext a
    refine Fin.cases ?_ (fun a => Fin.cases ?_ (fun a => a.elim0) a) a
    · exact Fin.ext (show o + (x 0).val = o + 1 * (x 0).val by omega)
    · exact Fin.ext (show (x 1).val = 0 + 1 * (x 1).val by omega)
  have mem : ∀ (o : ℕ) (i : ∀ a, (![o, 0] : Fin 2 → ℕ) a + (![32, m] : Fin 2 → ℕ) a ≤ (⟨2, ![256, m]⟩ : Shape).size a)
      (y : (⟨2, ![256, m]⟩ : Shape).Idx), o ≤ (y 0).val → (y 0).val < o + 32 →
      y ∈ (Rect.unit (s := (⟨2, ![256, m]⟩ : Shape)) ![o, 0] ![32, m] i).set := by
    intro o i y h1 h2
    rw [Rect.mem_set_unit]
    intro a
    refine Fin.cases ⟨h1, h2⟩ (fun a => Fin.cases ⟨Nat.zero_le _, ?_⟩ (fun a => a.elim0) a) a
    have := (y 1).isLt
    show (y 1).val < 0 + m
    rw [Nat.zero_add]; exact this
  have cov : ∀ y : (⟨2, ![256, m]⟩ : Shape).Idx, ∃ p ∈ [(⟨Rect.unit (s := (⟨2, ![256, m]⟩ : Shape)) ![224, 0] ![32, m] i7, p7⟩ : View.Piece (Elt Ideal) _ e), (⟨Rect.unit (s := (⟨2, ![256, m]⟩ : Shape)) ![192, 0] ![32, m] i6, p6⟩ : View.Piece (Elt Ideal) _ e), (⟨Rect.unit (s := (⟨2, ![256, m]⟩ : Shape)) ![160, 0] ![32, m] i5, p5⟩ : View.Piece (Elt Ideal) _ e), (⟨Rect.unit (s := (⟨2, ![256, m]⟩ : Shape)) ![128, 0] ![32, m] i4, p4⟩ : View.Piece (Elt Ideal) _ e), (⟨Rect.unit (s := (⟨2, ![256, m]⟩ : Shape)) ![96, 0] ![32, m] i3, p3⟩ : View.Piece (Elt Ideal) _ e), (⟨Rect.unit (s := (⟨2, ![256, m]⟩ : Shape)) ![64, 0] ![32, m] i2, p2⟩ : View.Piece (Elt Ideal) _ e), (⟨Rect.unit (s := (⟨2, ![256, m]⟩ : Shape)) ![32, 0] ![32, m] i1, p1⟩ : View.Piece (Elt Ideal) _ e), (⟨Rect.unit (s := (⟨2, ![256, m]⟩ : Shape)) ![0, 0] ![32, m] i0, p0⟩ : View.Piece (Elt Ideal) _ e)], y ∈ p.1.set := by
    intro y
    have hy : (y 0).val < 256 := (y 0).isLt
    rcases (by omega : (0 ≤ (y 0).val ∧ (y 0).val < 32) ∨ (32 ≤ (y 0).val ∧ (y 0).val < 64) ∨ (64 ≤ (y 0).val ∧ (y 0).val < 96) ∨ (96 ≤ (y 0).val ∧ (y 0).val < 128) ∨ (128 ≤ (y 0).val ∧ (y 0).val < 160) ∨ (160 ≤ (y 0).val ∧ (y 0).val < 192) ∨ (192 ≤ (y 0).val ∧ (y 0).val < 224) ∨ (224 ≤ (y 0).val ∧ (y 0).val < 256)) with hq | hq | hq | hq | hq | hq | hq | hq
    · exact ⟨_, .tail _ (.tail _ (.tail _ (.tail _ (.tail _ (.tail _ (.tail _ (.head _))))))), mem 0 i0 y hq.1 hq.2⟩
    · exact ⟨_, .tail _ (.tail _ (.tail _ (.tail _ (.tail _ (.tail _ (.head _)))))), mem 32 i1 y hq.1 hq.2⟩
    · exact ⟨_, .tail _ (.tail _ (.tail _ (.tail _ (.tail _ (.head _))))), mem 64 i2 y hq.1 hq.2⟩
    · exact ⟨_, .tail _ (.tail _ (.tail _ (.tail _ (.head _)))), mem 96 i3 y hq.1 hq.2⟩
    · exact ⟨_, .tail _ (.tail _ (.tail _ (.head _))), mem 128 i4 y hq.1 hq.2⟩
    · exact ⟨_, .tail _ (.tail _ (.head _)), mem 160 i5 y hq.1 hq.2⟩
    · exact ⟨_, .tail _ (.head _), mem 192 i6 y hq.1 hq.2⟩
    · exact ⟨_, .head _, mem 224 i7 y hq.1 hq.2⟩
  rw [View.read_writes_eq_canon _ _ _ cov]
  funext y
  refine View.canon_apply_of_pieces G _ ?_ y (cov y)
  refine List.forall_mem_cons.2 ⟨key 224 i7 p7 (by omega) h7, ?_⟩
  refine List.forall_mem_cons.2 ⟨key 192 i6 p6 (by omega) h6, ?_⟩
  refine List.forall_mem_cons.2 ⟨key 160 i5 p5 (by omega) h5, ?_⟩
  refine List.forall_mem_cons.2 ⟨key 128 i4 p4 (by omega) h4, ?_⟩
  refine List.forall_mem_cons.2 ⟨key 96 i3 p3 (by omega) h3, ?_⟩
  refine List.forall_mem_cons.2 ⟨key 64 i2 p2 (by omega) h2, ?_⟩
  refine List.forall_mem_cons.2 ⟨key 32 i1 p1 (by omega) h1, ?_⟩
  refine List.forall_mem_cons.2 ⟨key 0 i0 p0 (by omega) h0, ?_⟩
  exact fun p hp => absurd hp (List.not_mem_nil)

/-! ## The quantised activations over the whole array -/

/-- The quantised activations as the kernel's floats hold them. -/
def XB (X : S256x3584.Idx → BitVec 32) : S256x3584.Idx → EReal :=
  fun y => kQ (X y) (kA fun k => X (ix2 (n0 := 256) (n1 := 3584) (y 0) k))
/-- The activations' 8-bit codes. -/
def XC (X : S256x3584.Idx → BitVec 32) : S256x3584.Idx → BitVec 8 :=
  fun y => BitVec.setWidth 8 (FloatOps.fptosi (F := Ideal) (φ := .f32) 32 (XB X y))
/-- Each row's multiplier, -/
def XM (X : S256x3584.Idx → BitVec 32) (a : Fin 256) : BitVec 32 := kM (kA fun k => X (ix2 (n0 := 256) (n1 := 3584) a k))
/-- and its shift. -/
def XK (X : S256x3584.Idx → BitVec 32) (a : Fin 256) : BitVec 32 := kK (kA fun k => X (ix2 (n0 := 256) (n1 := 3584) a k))

variable (v1 : View sig .tc .vmem S256x3584 .i32) (f1 : v1.ty.Contents (Elt Ideal))

/-- A 32-row block of the activations. -/
abbrev xBlk (o : ℕ) (inb : ∀ a, (![o, 0] : Fin 2 → ℕ) a + S32x3584.size a ≤ S256x3584.size a) : S32x3584.Idx → BitVec 32 :=
  v1.readAt (Elt Ideal) (Rect.unit (s := S256x3584) ![o, 0] S32x3584.size inb).toLoadRect f1

theorem xblk_at (o : ℕ) (inb : ∀ a, (![o, 0] : Fin 2 → ℕ) a + S32x3584.size a ≤ S256x3584.size a) (r : Fin 32) (c : Fin 3584) (h : o + r.val < 256) :
    v1.readAt (Elt Ideal) (Rect.unit (s := S256x3584) ![o, 0] S32x3584.size inb).toLoadRect f1 (ix2 r c)
      = v1.read (Elt Ideal) f1 (ix2 ⟨o + r.val, h⟩ c) := by
  refine (box_at (n := 32) (m := 3584) v1 f1 o 0 inb r c h (by omega)).trans ?_
  exact congrArg _ (congrArg _ (Fin.ext (Nat.zero_add _)))

/-- The tiles `xb_read` reads. -/
def xb_readL : List (View.Piece (Elt Ideal) S256x3584 .bf16) := [⟨Rect.unit (s := S256x3584) ![224, 0] S32x3584.size inb_S256x3584_S32x3584_224_0, k0_pay131 (F := Ideal) (k0_pay115 (F := Ideal) (xBlk v1 f1 224 inb_S256x3584_S32x3584_224_0)) (k0_pay128 (F := Ideal) (k0_pay115 (F := Ideal) (xBlk v1 f1 224 inb_S256x3584_S32x3584_224_0)) (k0_pay117 (F := Ideal) (xBlk v1 f1 224 inb_S256x3584_S32x3584_224_0)) (k0_pay119 (F := Ideal) (xBlk v1 f1 224 inb_S256x3584_S32x3584_224_0)) (k0_pay120 (F := Ideal) (xBlk v1 f1 224 inb_S256x3584_S32x3584_224_0)) (k0_pay121 (F := Ideal) (xBlk v1 f1 224 inb_S256x3584_S32x3584_224_0)) 1#32 0#32) (k0_pay129 (F := Ideal) (k0_pay115 (F := Ideal) (xBlk v1 f1 224 inb_S256x3584_S32x3584_224_0)) (k0_pay117 (F := Ideal) (xBlk v1 f1 224 inb_S256x3584_S32x3584_224_0)) (k0_pay119 (F := Ideal) (xBlk v1 f1 224 inb_S256x3584_S32x3584_224_0)) (k0_pay120 (F := Ideal) (xBlk v1 f1 224 inb_S256x3584_S32x3584_224_0)) (k0_pay121 (F := Ideal) (xBlk v1 f1 224 inb_S256x3584_S32x3584_224_0)) 1#32 0#32) (FloatOps.ofBits FTy.f32 1065353216#32)⟩,
      ⟨Rect.unit (s := S256x3584) ![192, 0] S32x3584.size inb_S256x3584_S32x3584_192_0, k0_pay111 (F := Ideal) (k0_pay101 (F := Ideal) (xBlk v1 f1 192 inb_S256x3584_S32x3584_192_0)) (k0_pay107 (F := Ideal) (k0_pay102 (F := Ideal) (xBlk v1 f1 192 inb_S256x3584_S32x3584_192_0))) (k0_pay108 (F := Ideal) (k0_pay102 (F := Ideal) (xBlk v1 f1 192 inb_S256x3584_S32x3584_192_0))) (k0_pay109 (k0_pay102 (F := Ideal) (xBlk v1 f1 192 inb_S256x3584_S32x3584_192_0)))⟩,
      ⟨Rect.unit (s := S256x3584) ![160, 0] S32x3584.size inb_S256x3584_S32x3584_160_0, k0_pay97 (F := Ideal) (k0_pay81 (F := Ideal) (xBlk v1 f1 160 inb_S256x3584_S32x3584_160_0)) (k0_pay93 (F := Ideal) (k0_pay81 (F := Ideal) (xBlk v1 f1 160 inb_S256x3584_S32x3584_160_0)) (k0_pay83 (F := Ideal) (xBlk v1 f1 160 inb_S256x3584_S32x3584_160_0)) (k0_pay85 (F := Ideal) (xBlk v1 f1 160 inb_S256x3584_S32x3584_160_0)) (k0_pay86 (F := Ideal) (xBlk v1 f1 160 inb_S256x3584_S32x3584_160_0)) (k0_pay87 (F := Ideal) (xBlk v1 f1 160 inb_S256x3584_S32x3584_160_0))) (k0_pay94 (F := Ideal) (k0_pay81 (F := Ideal) (xBlk v1 f1 160 inb_S256x3584_S32x3584_160_0)) (k0_pay83 (F := Ideal) (xBlk v1 f1 160 inb_S256x3584_S32x3584_160_0)) (k0_pay85 (F := Ideal) (xBlk v1 f1 160 inb_S256x3584_S32x3584_160_0)) (k0_pay86 (F := Ideal) (xBlk v1 f1 160 inb_S256x3584_S32x3584_160_0)) (k0_pay87 (F := Ideal) (xBlk v1 f1 160 inb_S256x3584_S32x3584_160_0))) k0_pay95⟩,
      ⟨Rect.unit (s := S256x3584) ![128, 0] S32x3584.size inb_S256x3584_S32x3584_128_0, k0_pay77 (F := Ideal) (k0_pay69 (F := Ideal) (xBlk v1 f1 128 inb_S256x3584_S32x3584_128_0)) (k0_pay71 (k0_pay69 (F := Ideal) (xBlk v1 f1 128 inb_S256x3584_S32x3584_128_0))) (k0_pay74 (F := Ideal) (k0_pay69 (F := Ideal) (xBlk v1 f1 128 inb_S256x3584_S32x3584_128_0))) (k0_pay75 (F := Ideal) (k0_pay69 (F := Ideal) (xBlk v1 f1 128 inb_S256x3584_S32x3584_128_0))) 23#32⟩,
      ⟨Rect.unit (s := S256x3584) ![96, 0] S32x3584.size inb_S256x3584_S32x3584_96_0, k0_pay65 (F := Ideal) (k0_pay51 (F := Ideal) (xBlk v1 f1 96 inb_S256x3584_S32x3584_96_0)) (k0_pay62 (F := Ideal) (k0_pay51 (F := Ideal) (xBlk v1 f1 96 inb_S256x3584_S32x3584_96_0)) (k0_pay53 (F := Ideal) (xBlk v1 f1 96 inb_S256x3584_S32x3584_96_0)) (k0_pay55 (F := Ideal) (xBlk v1 f1 96 inb_S256x3584_S32x3584_96_0)) (k0_pay56 (F := Ideal) (xBlk v1 f1 96 inb_S256x3584_S32x3584_96_0)) 32512#32) (k0_pay63 (F := Ideal) (k0_pay51 (F := Ideal) (xBlk v1 f1 96 inb_S256x3584_S32x3584_96_0)) (k0_pay53 (F := Ideal) (xBlk v1 f1 96 inb_S256x3584_S32x3584_96_0)) (k0_pay55 (F := Ideal) (xBlk v1 f1 96 inb_S256x3584_S32x3584_96_0)) (k0_pay56 (F := Ideal) (xBlk v1 f1 96 inb_S256x3584_S32x3584_96_0)) 32512#32)⟩,
      ⟨Rect.unit (s := S256x3584) ![64, 0] S32x3584.size inb_S256x3584_S32x3584_64_0, k0_pay47 (F := Ideal) (k0_pay39 (F := Ideal) (xBlk v1 f1 64 inb_S256x3584_S32x3584_64_0)) (k0_pay41 (F := Ideal) (xBlk v1 f1 64 inb_S256x3584_S32x3584_64_0)) (k0_pay44 (xBlk v1 f1 64 inb_S256x3584_S32x3584_64_0)) (k0_pay45 (F := Ideal))⟩,
      ⟨Rect.unit (s := S256x3584) ![32, 0] S32x3584.size inb_S256x3584_S32x3584_32_0, k0_pay35 (F := Ideal) (k0_pay19 (F := Ideal) (xBlk v1 f1 32 inb_S256x3584_S32x3584_32_0)) (k0_pay29 (F := Ideal) (k0_pay19 (F := Ideal) (xBlk v1 f1 32 inb_S256x3584_S32x3584_32_0)) (k0_pay21 (F := Ideal) (xBlk v1 f1 32 inb_S256x3584_S32x3584_32_0)) (k0_pay22 (F := Ideal) (xBlk v1 f1 32 inb_S256x3584_S32x3584_32_0)) (k0_pay23 (F := Ideal) (xBlk v1 f1 32 inb_S256x3584_S32x3584_32_0)) (k0_pay24 (F := Ideal) (xBlk v1 f1 32 inb_S256x3584_S32x3584_32_0))) (k0_pay30 (F := Ideal) (k0_pay19 (F := Ideal) (xBlk v1 f1 32 inb_S256x3584_S32x3584_32_0)) (k0_pay21 (F := Ideal) (xBlk v1 f1 32 inb_S256x3584_S32x3584_32_0)) (k0_pay22 (F := Ideal) (xBlk v1 f1 32 inb_S256x3584_S32x3584_32_0)) (k0_pay23 (F := Ideal) (xBlk v1 f1 32 inb_S256x3584_S32x3584_32_0)) (k0_pay24 (F := Ideal) (xBlk v1 f1 32 inb_S256x3584_S32x3584_32_0))) (k0_pay31 (F := Ideal) (k0_pay19 (F := Ideal) (xBlk v1 f1 32 inb_S256x3584_S32x3584_32_0)) (k0_pay21 (F := Ideal) (xBlk v1 f1 32 inb_S256x3584_S32x3584_32_0)) (k0_pay22 (F := Ideal) (xBlk v1 f1 32 inb_S256x3584_S32x3584_32_0)) (k0_pay23 (F := Ideal) (xBlk v1 f1 32 inb_S256x3584_S32x3584_32_0)) (k0_pay24 (F := Ideal) (xBlk v1 f1 32 inb_S256x3584_S32x3584_32_0))) k0_pay32 k0_pay33⟩,
      ⟨Rect.unit (s := S256x3584) ![0, 0] S32x3584.size inb_S256x3584_S32x3584_0_0, k0_pay14 (F := Ideal) (k0_pay7 (F := Ideal) (xBlk v1 f1 0 inb_S256x3584_S32x3584_0_0)) (k0_pay9 (F := Ideal) (xBlk v1 f1 0 inb_S256x3584_S32x3584_0_0)) (k0_pay12 (xBlk v1 f1 0 inb_S256x3584_S32x3584_0_0))⟩]

theorem xb_read (v : View sig .tc .vmem S256x3584 .bf16) (f : v.ty.Contents (Elt Ideal)) :
    v.read (Elt Ideal) (v.writes (Elt Ideal) f (xb_readL v1 f1))
    = XB (v1.read (Elt Ideal) f1) :=
  rows_read (e := .bf16) (m := 3584) v f (XB (v1.read (Elt Ideal) f1))
    _ _ (fun r c => by
      refine (pay14_at _ r c).trans ?_
      simp only [xblk_at v1 f1 0 inb_S256x3584_S32x3584_0_0 _ _ (by omega : 0 + r.val < 256)]; rfl)
    _ _ (fun r c => by
      refine ((congrFun (xb_eq1 _) (ix2 r c)).trans (pay14_at _ r c)).trans ?_
      simp only [xblk_at v1 f1 32 inb_S256x3584_S32x3584_32_0 _ _ (by omega : 32 + r.val < 256)]; rfl)
    _ _ (fun r c => by
      refine ((congrFun (xb_eq2 _) (ix2 r c)).trans (pay14_at _ r c)).trans ?_
      simp only [xblk_at v1 f1 64 inb_S256x3584_S32x3584_64_0 _ _ (by omega : 64 + r.val < 256)]; rfl)
    _ _ (fun r c => by
      refine ((congrFun (xb_eq3 _) (ix2 r c)).trans (pay14_at _ r c)).trans ?_
      simp only [xblk_at v1 f1 96 inb_S256x3584_S32x3584_96_0 _ _ (by omega : 96 + r.val < 256)]; rfl)
    _ _ (fun r c => by
      refine ((congrFun (xb_eq4 _) (ix2 r c)).trans (pay14_at _ r c)).trans ?_
      simp only [xblk_at v1 f1 128 inb_S256x3584_S32x3584_128_0 _ _ (by omega : 128 + r.val < 256)]; rfl)
    _ _ (fun r c => by
      refine ((congrFun (xb_eq5 _) (ix2 r c)).trans (pay14_at _ r c)).trans ?_
      simp only [xblk_at v1 f1 160 inb_S256x3584_S32x3584_160_0 _ _ (by omega : 160 + r.val < 256)]; rfl)
    _ _ (fun r c => by
      refine ((congrFun (xb_eq6 _) (ix2 r c)).trans (pay14_at _ r c)).trans ?_
      simp only [xblk_at v1 f1 192 inb_S256x3584_S32x3584_192_0 _ _ (by omega : 192 + r.val < 256)]; rfl)
    _ _ (fun r c => by
      refine ((congrFun (xb_eq7 _) (ix2 r c)).trans (pay14_at _ r c)).trans ?_
      simp only [xblk_at v1 f1 224 inb_S256x3584_S32x3584_224_0 _ _ (by omega : 224 + r.val < 256)]; rfl)

/-- The tiles `xc_read` reads. -/
def xc_readL : List (View.Piece (Elt Ideal) S256x3584 .i8) := [⟨Rect.unit (s := S256x3584) ![224, 0] S32x3584.size inb_S256x3584_S32x3584_224_0, k0_pay132 (F := Ideal) (k0_pay115 (F := Ideal) (xBlk v1 f1 224 inb_S256x3584_S32x3584_224_0)) (k0_pay128 (F := Ideal) (k0_pay115 (F := Ideal) (xBlk v1 f1 224 inb_S256x3584_S32x3584_224_0)) (k0_pay117 (F := Ideal) (xBlk v1 f1 224 inb_S256x3584_S32x3584_224_0)) (k0_pay119 (F := Ideal) (xBlk v1 f1 224 inb_S256x3584_S32x3584_224_0)) (k0_pay120 (F := Ideal) (xBlk v1 f1 224 inb_S256x3584_S32x3584_224_0)) (k0_pay121 (F := Ideal) (xBlk v1 f1 224 inb_S256x3584_S32x3584_224_0)) 1#32 0#32) (k0_pay129 (F := Ideal) (k0_pay115 (F := Ideal) (xBlk v1 f1 224 inb_S256x3584_S32x3584_224_0)) (k0_pay117 (F := Ideal) (xBlk v1 f1 224 inb_S256x3584_S32x3584_224_0)) (k0_pay119 (F := Ideal) (xBlk v1 f1 224 inb_S256x3584_S32x3584_224_0)) (k0_pay120 (F := Ideal) (xBlk v1 f1 224 inb_S256x3584_S32x3584_224_0)) (k0_pay121 (F := Ideal) (xBlk v1 f1 224 inb_S256x3584_S32x3584_224_0)) 1#32 0#32) (FloatOps.ofBits FTy.f32 1065353216#32)⟩,
      ⟨Rect.unit (s := S256x3584) ![192, 0] S32x3584.size inb_S256x3584_S32x3584_192_0, k0_pay112 (F := Ideal) (k0_pay101 (F := Ideal) (xBlk v1 f1 192 inb_S256x3584_S32x3584_192_0)) (k0_pay107 (F := Ideal) (k0_pay102 (F := Ideal) (xBlk v1 f1 192 inb_S256x3584_S32x3584_192_0))) (k0_pay108 (F := Ideal) (k0_pay102 (F := Ideal) (xBlk v1 f1 192 inb_S256x3584_S32x3584_192_0))) (k0_pay109 (k0_pay102 (F := Ideal) (xBlk v1 f1 192 inb_S256x3584_S32x3584_192_0)))⟩,
      ⟨Rect.unit (s := S256x3584) ![160, 0] S32x3584.size inb_S256x3584_S32x3584_160_0, k0_pay98 (F := Ideal) (k0_pay81 (F := Ideal) (xBlk v1 f1 160 inb_S256x3584_S32x3584_160_0)) (k0_pay93 (F := Ideal) (k0_pay81 (F := Ideal) (xBlk v1 f1 160 inb_S256x3584_S32x3584_160_0)) (k0_pay83 (F := Ideal) (xBlk v1 f1 160 inb_S256x3584_S32x3584_160_0)) (k0_pay85 (F := Ideal) (xBlk v1 f1 160 inb_S256x3584_S32x3584_160_0)) (k0_pay86 (F := Ideal) (xBlk v1 f1 160 inb_S256x3584_S32x3584_160_0)) (k0_pay87 (F := Ideal) (xBlk v1 f1 160 inb_S256x3584_S32x3584_160_0))) (k0_pay94 (F := Ideal) (k0_pay81 (F := Ideal) (xBlk v1 f1 160 inb_S256x3584_S32x3584_160_0)) (k0_pay83 (F := Ideal) (xBlk v1 f1 160 inb_S256x3584_S32x3584_160_0)) (k0_pay85 (F := Ideal) (xBlk v1 f1 160 inb_S256x3584_S32x3584_160_0)) (k0_pay86 (F := Ideal) (xBlk v1 f1 160 inb_S256x3584_S32x3584_160_0)) (k0_pay87 (F := Ideal) (xBlk v1 f1 160 inb_S256x3584_S32x3584_160_0))) k0_pay95⟩,
      ⟨Rect.unit (s := S256x3584) ![128, 0] S32x3584.size inb_S256x3584_S32x3584_128_0, k0_pay78 (F := Ideal) (k0_pay69 (F := Ideal) (xBlk v1 f1 128 inb_S256x3584_S32x3584_128_0)) (k0_pay71 (k0_pay69 (F := Ideal) (xBlk v1 f1 128 inb_S256x3584_S32x3584_128_0))) (k0_pay74 (F := Ideal) (k0_pay69 (F := Ideal) (xBlk v1 f1 128 inb_S256x3584_S32x3584_128_0))) (k0_pay75 (F := Ideal) (k0_pay69 (F := Ideal) (xBlk v1 f1 128 inb_S256x3584_S32x3584_128_0))) 23#32⟩,
      ⟨Rect.unit (s := S256x3584) ![96, 0] S32x3584.size inb_S256x3584_S32x3584_96_0, k0_pay66 (F := Ideal) (k0_pay51 (F := Ideal) (xBlk v1 f1 96 inb_S256x3584_S32x3584_96_0)) (k0_pay62 (F := Ideal) (k0_pay51 (F := Ideal) (xBlk v1 f1 96 inb_S256x3584_S32x3584_96_0)) (k0_pay53 (F := Ideal) (xBlk v1 f1 96 inb_S256x3584_S32x3584_96_0)) (k0_pay55 (F := Ideal) (xBlk v1 f1 96 inb_S256x3584_S32x3584_96_0)) (k0_pay56 (F := Ideal) (xBlk v1 f1 96 inb_S256x3584_S32x3584_96_0)) 32512#32) (k0_pay63 (F := Ideal) (k0_pay51 (F := Ideal) (xBlk v1 f1 96 inb_S256x3584_S32x3584_96_0)) (k0_pay53 (F := Ideal) (xBlk v1 f1 96 inb_S256x3584_S32x3584_96_0)) (k0_pay55 (F := Ideal) (xBlk v1 f1 96 inb_S256x3584_S32x3584_96_0)) (k0_pay56 (F := Ideal) (xBlk v1 f1 96 inb_S256x3584_S32x3584_96_0)) 32512#32)⟩,
      ⟨Rect.unit (s := S256x3584) ![64, 0] S32x3584.size inb_S256x3584_S32x3584_64_0, k0_pay48 (F := Ideal) (k0_pay39 (F := Ideal) (xBlk v1 f1 64 inb_S256x3584_S32x3584_64_0)) (k0_pay41 (F := Ideal) (xBlk v1 f1 64 inb_S256x3584_S32x3584_64_0)) (k0_pay44 (xBlk v1 f1 64 inb_S256x3584_S32x3584_64_0)) (k0_pay45 (F := Ideal))⟩,
      ⟨Rect.unit (s := S256x3584) ![32, 0] S32x3584.size inb_S256x3584_S32x3584_32_0, k0_pay36 (F := Ideal) (k0_pay19 (F := Ideal) (xBlk v1 f1 32 inb_S256x3584_S32x3584_32_0)) (k0_pay29 (F := Ideal) (k0_pay19 (F := Ideal) (xBlk v1 f1 32 inb_S256x3584_S32x3584_32_0)) (k0_pay21 (F := Ideal) (xBlk v1 f1 32 inb_S256x3584_S32x3584_32_0)) (k0_pay22 (F := Ideal) (xBlk v1 f1 32 inb_S256x3584_S32x3584_32_0)) (k0_pay23 (F := Ideal) (xBlk v1 f1 32 inb_S256x3584_S32x3584_32_0)) (k0_pay24 (F := Ideal) (xBlk v1 f1 32 inb_S256x3584_S32x3584_32_0))) (k0_pay30 (F := Ideal) (k0_pay19 (F := Ideal) (xBlk v1 f1 32 inb_S256x3584_S32x3584_32_0)) (k0_pay21 (F := Ideal) (xBlk v1 f1 32 inb_S256x3584_S32x3584_32_0)) (k0_pay22 (F := Ideal) (xBlk v1 f1 32 inb_S256x3584_S32x3584_32_0)) (k0_pay23 (F := Ideal) (xBlk v1 f1 32 inb_S256x3584_S32x3584_32_0)) (k0_pay24 (F := Ideal) (xBlk v1 f1 32 inb_S256x3584_S32x3584_32_0))) (k0_pay31 (F := Ideal) (k0_pay19 (F := Ideal) (xBlk v1 f1 32 inb_S256x3584_S32x3584_32_0)) (k0_pay21 (F := Ideal) (xBlk v1 f1 32 inb_S256x3584_S32x3584_32_0)) (k0_pay22 (F := Ideal) (xBlk v1 f1 32 inb_S256x3584_S32x3584_32_0)) (k0_pay23 (F := Ideal) (xBlk v1 f1 32 inb_S256x3584_S32x3584_32_0)) (k0_pay24 (F := Ideal) (xBlk v1 f1 32 inb_S256x3584_S32x3584_32_0))) k0_pay32 k0_pay33⟩,
      ⟨Rect.unit (s := S256x3584) ![0, 0] S32x3584.size inb_S256x3584_S32x3584_0_0, k0_pay16 (k0_pay15 (F := Ideal) (k0_pay7 (F := Ideal) (xBlk v1 f1 0 inb_S256x3584_S32x3584_0_0)) (k0_pay9 (F := Ideal) (xBlk v1 f1 0 inb_S256x3584_S32x3584_0_0)) (k0_pay12 (xBlk v1 f1 0 inb_S256x3584_S32x3584_0_0)))⟩]

theorem xc_read (v : View sig .tc .vmem S256x3584 .i8) (f : v.ty.Contents (Elt Ideal)) :
    v.read (Elt Ideal) (v.writes (Elt Ideal) f (xc_readL v1 f1))
    = XC (v1.read (Elt Ideal) f1) :=
  rows_read (e := .i8) (m := 3584) v f (XC (v1.read (Elt Ideal) f1))
    _ _ (fun r c => by
      refine (pay16_at _ r c).trans ?_
      simp only [xblk_at v1 f1 0 inb_S256x3584_S32x3584_0_0 _ _ (by omega : 0 + r.val < 256)]; rfl)
    _ _ (fun r c => by
      refine ((congrFun (xc_eq1 _) (ix2 r c)).trans (pay16_at _ r c)).trans ?_
      simp only [xblk_at v1 f1 32 inb_S256x3584_S32x3584_32_0 _ _ (by omega : 32 + r.val < 256)]; rfl)
    _ _ (fun r c => by
      refine ((congrFun (xc_eq2 _) (ix2 r c)).trans (pay16_at _ r c)).trans ?_
      simp only [xblk_at v1 f1 64 inb_S256x3584_S32x3584_64_0 _ _ (by omega : 64 + r.val < 256)]; rfl)
    _ _ (fun r c => by
      refine ((congrFun (xc_eq3 _) (ix2 r c)).trans (pay16_at _ r c)).trans ?_
      simp only [xblk_at v1 f1 96 inb_S256x3584_S32x3584_96_0 _ _ (by omega : 96 + r.val < 256)]; rfl)
    _ _ (fun r c => by
      refine ((congrFun (xc_eq4 _) (ix2 r c)).trans (pay16_at _ r c)).trans ?_
      simp only [xblk_at v1 f1 128 inb_S256x3584_S32x3584_128_0 _ _ (by omega : 128 + r.val < 256)]; rfl)
    _ _ (fun r c => by
      refine ((congrFun (xc_eq5 _) (ix2 r c)).trans (pay16_at _ r c)).trans ?_
      simp only [xblk_at v1 f1 160 inb_S256x3584_S32x3584_160_0 _ _ (by omega : 160 + r.val < 256)]; rfl)
    _ _ (fun r c => by
      refine ((congrFun (xc_eq6 _) (ix2 r c)).trans (pay16_at _ r c)).trans ?_
      simp only [xblk_at v1 f1 192 inb_S256x3584_S32x3584_192_0 _ _ (by omega : 192 + r.val < 256)]; rfl)
    _ _ (fun r c => by
      refine ((congrFun (xc_eq7 _) (ix2 r c)).trans (pay16_at _ r c)).trans ?_
      simp only [xblk_at v1 f1 224 inb_S256x3584_S32x3584_224_0 _ _ (by omega : 224 + r.val < 256)]; rfl)

/-- The tiles `xm_read` reads. -/
def xm_readL : List (View.Piece (Elt Ideal) S256x1 .i32) := [⟨Rect.unit (s := S256x1) ![224, 0] S32x1.size inb_S256x1_S32x1_224_0, k0_pay122 (k0_pay119 (F := Ideal) (xBlk v1 f1 224 inb_S256x3584_S32x3584_224_0)) (k0_pay120 (F := Ideal) (xBlk v1 f1 224 inb_S256x3584_S32x3584_224_0)) (k0_pay121 (F := Ideal) (xBlk v1 f1 224 inb_S256x3584_S32x3584_224_0)) 1#32 0#32⟩,
      ⟨Rect.unit (s := S256x1) ![192, 0] S32x1.size inb_S256x1_S32x1_192_0, k0_pay105 (F := Ideal) (k0_pay102 (F := Ideal) (xBlk v1 f1 192 inb_S256x3584_S32x3584_192_0))⟩,
      ⟨Rect.unit (s := S256x1) ![160, 0] S32x1.size inb_S256x1_S32x1_160_0, k0_pay88 (k0_pay85 (F := Ideal) (xBlk v1 f1 160 inb_S256x3584_S32x3584_160_0)) (k0_pay86 (F := Ideal) (xBlk v1 f1 160 inb_S256x3584_S32x3584_160_0)) (k0_pay87 (F := Ideal) (xBlk v1 f1 160 inb_S256x3584_S32x3584_160_0))⟩,
      ⟨Rect.unit (s := S256x1) ![128, 0] S32x1.size inb_S256x1_S32x1_128_0, k0_pay72 (F := Ideal) (k0_pay69 (F := Ideal) (xBlk v1 f1 128 inb_S256x3584_S32x3584_128_0))⟩,
      ⟨Rect.unit (s := S256x1) ![96, 0] S32x1.size inb_S256x1_S32x1_96_0, k0_pay57 (k0_pay55 (F := Ideal) (xBlk v1 f1 96 inb_S256x3584_S32x3584_96_0)) (k0_pay56 (F := Ideal) (xBlk v1 f1 96 inb_S256x3584_S32x3584_96_0)) 32512#32⟩,
      ⟨Rect.unit (s := S256x1) ![64, 0] S32x1.size inb_S256x1_S32x1_64_0, k0_pay42 (F := Ideal) (xBlk v1 f1 64 inb_S256x3584_S32x3584_64_0)⟩,
      ⟨Rect.unit (s := S256x1) ![32, 0] S32x1.size inb_S256x1_S32x1_32_0, k0_pay25 (k0_pay22 (F := Ideal) (xBlk v1 f1 32 inb_S256x3584_S32x3584_32_0)) (k0_pay23 (F := Ideal) (xBlk v1 f1 32 inb_S256x3584_S32x3584_32_0)) (k0_pay24 (F := Ideal) (xBlk v1 f1 32 inb_S256x3584_S32x3584_32_0))⟩,
      ⟨Rect.unit (s := S256x1) ![0, 0] S32x1.size inb_S256x1_S32x1_0_0, k0_pay10 (F := Ideal) (xBlk v1 f1 0 inb_S256x3584_S32x3584_0_0)⟩]

theorem xm_read (v : View sig .tc .vmem S256x1 .i32) (f : v.ty.Contents (Elt Ideal)) :
    v.read (Elt Ideal) (v.writes (Elt Ideal) f (xm_readL v1 f1))
    = (fun y : S256x1.Idx => XM (v1.read (Elt Ideal) f1) (y 0)) :=
  rows_read (e := .i32) (m := 1) v f ((fun y : S256x1.Idx => XM (v1.read (Elt Ideal) f1) (y 0)))
    _ _ (fun r c => by
      refine (pay10_at _ r c).trans ?_
      simp only [xblk_at v1 f1 0 inb_S256x3584_S32x3584_0_0 _ _ (by omega : 0 + r.val < 256)]; rfl)
    _ _ (fun r c => by
      refine ((congrFun (xm_eq1 _) (ix2 r c)).trans (pay10_at _ r c)).trans ?_
      simp only [xblk_at v1 f1 32 inb_S256x3584_S32x3584_32_0 _ _ (by omega : 32 + r.val < 256)]; rfl)
    _ _ (fun r c => by
      refine ((congrFun (xm_eq2 _) (ix2 r c)).trans (pay10_at _ r c)).trans ?_
      simp only [xblk_at v1 f1 64 inb_S256x3584_S32x3584_64_0 _ _ (by omega : 64 + r.val < 256)]; rfl)
    _ _ (fun r c => by
      refine ((congrFun (xm_eq3 _) (ix2 r c)).trans (pay10_at _ r c)).trans ?_
      simp only [xblk_at v1 f1 96 inb_S256x3584_S32x3584_96_0 _ _ (by omega : 96 + r.val < 256)]; rfl)
    _ _ (fun r c => by
      refine ((congrFun (xm_eq4 _) (ix2 r c)).trans (pay10_at _ r c)).trans ?_
      simp only [xblk_at v1 f1 128 inb_S256x3584_S32x3584_128_0 _ _ (by omega : 128 + r.val < 256)]; rfl)
    _ _ (fun r c => by
      refine ((congrFun (xm_eq5 _) (ix2 r c)).trans (pay10_at _ r c)).trans ?_
      simp only [xblk_at v1 f1 160 inb_S256x3584_S32x3584_160_0 _ _ (by omega : 160 + r.val < 256)]; rfl)
    _ _ (fun r c => by
      refine ((congrFun (xm_eq6 _) (ix2 r c)).trans (pay10_at _ r c)).trans ?_
      simp only [xblk_at v1 f1 192 inb_S256x3584_S32x3584_192_0 _ _ (by omega : 192 + r.val < 256)]; rfl)
    _ _ (fun r c => by
      refine ((congrFun (xm_eq7 _) (ix2 r c)).trans (pay10_at _ r c)).trans ?_
      simp only [xblk_at v1 f1 224 inb_S256x3584_S32x3584_224_0 _ _ (by omega : 224 + r.val < 256)]; rfl)

/-- The tiles `xk_read` reads. -/
def xk_readL : List (View.Piece (Elt Ideal) S256x1 .i32) := [⟨Rect.unit (s := S256x1) ![224, 0] S32x1.size inb_S256x1_S32x1_224_0, k0_pay123 (k0_pay117 (F := Ideal) (xBlk v1 f1 224 inb_S256x3584_S32x3584_224_0))⟩,
      ⟨Rect.unit (s := S256x1) ![192, 0] S32x1.size inb_S256x1_S32x1_192_0, k0_pay106 (k0_pay102 (F := Ideal) (xBlk v1 f1 192 inb_S256x3584_S32x3584_192_0))⟩,
      ⟨Rect.unit (s := S256x1) ![160, 0] S32x1.size inb_S256x1_S32x1_160_0, k0_pay89 (k0_pay83 (F := Ideal) (xBlk v1 f1 160 inb_S256x3584_S32x3584_160_0))⟩,
      ⟨Rect.unit (s := S256x1) ![128, 0] S32x1.size inb_S256x1_S32x1_128_0, k0_pay73 (k0_pay69 (F := Ideal) (xBlk v1 f1 128 inb_S256x3584_S32x3584_128_0))⟩,
      ⟨Rect.unit (s := S256x1) ![96, 0] S32x1.size inb_S256x1_S32x1_96_0, k0_pay58 (k0_pay53 (F := Ideal) (xBlk v1 f1 96 inb_S256x3584_S32x3584_96_0))⟩,
      ⟨Rect.unit (s := S256x1) ![64, 0] S32x1.size inb_S256x1_S32x1_64_0, k0_pay43 (F := Ideal) (xBlk v1 f1 64 inb_S256x3584_S32x3584_64_0)⟩,
      ⟨Rect.unit (s := S256x1) ![32, 0] S32x1.size inb_S256x1_S32x1_32_0, k0_pay26 (k0_pay21 (F := Ideal) (xBlk v1 f1 32 inb_S256x3584_S32x3584_32_0))⟩,
      ⟨Rect.unit (s := S256x1) ![0, 0] S32x1.size inb_S256x1_S32x1_0_0, k0_pay11 (F := Ideal) (xBlk v1 f1 0 inb_S256x3584_S32x3584_0_0)⟩]

theorem xk_read (v : View sig .tc .vmem S256x1 .i32) (f : v.ty.Contents (Elt Ideal)) :
    v.read (Elt Ideal) (v.writes (Elt Ideal) f (xk_readL v1 f1))
    = (fun y : S256x1.Idx => XK (v1.read (Elt Ideal) f1) (y 0)) :=
  rows_read (e := .i32) (m := 1) v f ((fun y : S256x1.Idx => XK (v1.read (Elt Ideal) f1) (y 0)))
    _ _ (fun r c => by
      refine (pay11_at _ r c).trans ?_
      simp only [xblk_at v1 f1 0 inb_S256x3584_S32x3584_0_0 _ _ (by omega : 0 + r.val < 256)]; rfl)
    _ _ (fun r c => by
      refine ((congrFun (xk_eq1 _) (ix2 r c)).trans (pay11_at _ r c)).trans ?_
      simp only [xblk_at v1 f1 32 inb_S256x3584_S32x3584_32_0 _ _ (by omega : 32 + r.val < 256)]; rfl)
    _ _ (fun r c => by
      refine ((congrFun (xk_eq2 _) (ix2 r c)).trans (pay11_at _ r c)).trans ?_
      simp only [xblk_at v1 f1 64 inb_S256x3584_S32x3584_64_0 _ _ (by omega : 64 + r.val < 256)]; rfl)
    _ _ (fun r c => by
      refine ((congrFun (xk_eq3 _) (ix2 r c)).trans (pay11_at _ r c)).trans ?_
      simp only [xblk_at v1 f1 96 inb_S256x3584_S32x3584_96_0 _ _ (by omega : 96 + r.val < 256)]; rfl)
    _ _ (fun r c => by
      refine ((congrFun (xk_eq4 _) (ix2 r c)).trans (pay11_at _ r c)).trans ?_
      simp only [xblk_at v1 f1 128 inb_S256x3584_S32x3584_128_0 _ _ (by omega : 128 + r.val < 256)]; rfl)
    _ _ (fun r c => by
      refine ((congrFun (xk_eq5 _) (ix2 r c)).trans (pay11_at _ r c)).trans ?_
      simp only [xblk_at v1 f1 160 inb_S256x3584_S32x3584_160_0 _ _ (by omega : 160 + r.val < 256)]; rfl)
    _ _ (fun r c => by
      refine ((congrFun (xk_eq6 _) (ix2 r c)).trans (pay11_at _ r c)).trans ?_
      simp only [xblk_at v1 f1 192 inb_S256x3584_S32x3584_192_0 _ _ (by omega : 192 + r.val < 256)]; rfl)
    _ _ (fun r c => by
      refine ((congrFun (xk_eq7 _) (ix2 r c)).trans (pay11_at _ r c)).trans ?_
      simp only [xblk_at v1 f1 224 inb_S256x3584_S32x3584_224_0 _ _ (by omega : 224 + r.val < 256)]; rfl)

/-- The tiles `xmb_read` reads. -/
def xmb_readL : List (View.Piece (Elt Ideal) S256x128 .i32) := [⟨Rect.unit (s := S256x128) ![224, 0] S32x128.size inb_S256x128_S32x128_224_0, k0_pay133 (k0_pay122 (k0_pay119 (F := Ideal) (xBlk v1 f1 224 inb_S256x3584_S32x3584_224_0)) (k0_pay120 (F := Ideal) (xBlk v1 f1 224 inb_S256x3584_S32x3584_224_0)) (k0_pay121 (F := Ideal) (xBlk v1 f1 224 inb_S256x3584_S32x3584_224_0)) 1#32 0#32)⟩,
      ⟨Rect.unit (s := S256x128) ![192, 0] S32x128.size inb_S256x128_S32x128_192_0, k0_pay113 (k0_pay105 (F := Ideal) (k0_pay102 (F := Ideal) (xBlk v1 f1 192 inb_S256x3584_S32x3584_192_0)))⟩,
      ⟨Rect.unit (s := S256x128) ![160, 0] S32x128.size inb_S256x128_S32x128_160_0, k0_pay99 (k0_pay88 (k0_pay85 (F := Ideal) (xBlk v1 f1 160 inb_S256x3584_S32x3584_160_0)) (k0_pay86 (F := Ideal) (xBlk v1 f1 160 inb_S256x3584_S32x3584_160_0)) (k0_pay87 (F := Ideal) (xBlk v1 f1 160 inb_S256x3584_S32x3584_160_0)))⟩,
      ⟨Rect.unit (s := S256x128) ![128, 0] S32x128.size inb_S256x128_S32x128_128_0, k0_pay79 (k0_pay72 (F := Ideal) (k0_pay69 (F := Ideal) (xBlk v1 f1 128 inb_S256x3584_S32x3584_128_0)))⟩,
      ⟨Rect.unit (s := S256x128) ![96, 0] S32x128.size inb_S256x128_S32x128_96_0, k0_pay67 (k0_pay57 (k0_pay55 (F := Ideal) (xBlk v1 f1 96 inb_S256x3584_S32x3584_96_0)) (k0_pay56 (F := Ideal) (xBlk v1 f1 96 inb_S256x3584_S32x3584_96_0)) 32512#32)⟩,
      ⟨Rect.unit (s := S256x128) ![64, 0] S32x128.size inb_S256x128_S32x128_64_0, k0_pay49 (k0_pay42 (F := Ideal) (xBlk v1 f1 64 inb_S256x3584_S32x3584_64_0))⟩,
      ⟨Rect.unit (s := S256x128) ![32, 0] S32x128.size inb_S256x128_S32x128_32_0, k0_pay37 (k0_pay25 (k0_pay22 (F := Ideal) (xBlk v1 f1 32 inb_S256x3584_S32x3584_32_0)) (k0_pay23 (F := Ideal) (xBlk v1 f1 32 inb_S256x3584_S32x3584_32_0)) (k0_pay24 (F := Ideal) (xBlk v1 f1 32 inb_S256x3584_S32x3584_32_0)))⟩,
      ⟨Rect.unit (s := S256x128) ![0, 0] S32x128.size inb_S256x128_S32x128_0_0, k0_pay17 (k0_pay10 (F := Ideal) (xBlk v1 f1 0 inb_S256x3584_S32x3584_0_0))⟩]

theorem xmb_read (v : View sig .tc .vmem S256x128 .i32) (f : v.ty.Contents (Elt Ideal)) :
    v.read (Elt Ideal) (v.writes (Elt Ideal) f (xmb_readL v1 f1))
    = (fun y : S256x128.Idx => XM (v1.read (Elt Ideal) f1) (y 0)) :=
  rows_read (e := .i32) (m := 128) v f ((fun y : S256x128.Idx => XM (v1.read (Elt Ideal) f1) (y 0)))
    _ _ (fun r c => by
      refine ((pay17_at _ r c).trans (pay10_at _ r 0)).trans ?_
      simp only [xblk_at v1 f1 0 inb_S256x3584_S32x3584_0_0 _ _ (by omega : 0 + r.val < 256)]; rfl)
    _ _ (fun r c => by
      refine ((pay17_at _ r c).trans ((congrFun (xm_eq1 _) (ix2 r 0)).trans (pay10_at _ r 0))).trans ?_
      simp only [xblk_at v1 f1 32 inb_S256x3584_S32x3584_32_0 _ _ (by omega : 32 + r.val < 256)]; rfl)
    _ _ (fun r c => by
      refine ((pay17_at _ r c).trans ((congrFun (xm_eq2 _) (ix2 r 0)).trans (pay10_at _ r 0))).trans ?_
      simp only [xblk_at v1 f1 64 inb_S256x3584_S32x3584_64_0 _ _ (by omega : 64 + r.val < 256)]; rfl)
    _ _ (fun r c => by
      refine ((pay17_at _ r c).trans ((congrFun (xm_eq3 _) (ix2 r 0)).trans (pay10_at _ r 0))).trans ?_
      simp only [xblk_at v1 f1 96 inb_S256x3584_S32x3584_96_0 _ _ (by omega : 96 + r.val < 256)]; rfl)
    _ _ (fun r c => by
      refine ((pay17_at _ r c).trans ((congrFun (xm_eq4 _) (ix2 r 0)).trans (pay10_at _ r 0))).trans ?_
      simp only [xblk_at v1 f1 128 inb_S256x3584_S32x3584_128_0 _ _ (by omega : 128 + r.val < 256)]; rfl)
    _ _ (fun r c => by
      refine ((pay17_at _ r c).trans ((congrFun (xm_eq5 _) (ix2 r 0)).trans (pay10_at _ r 0))).trans ?_
      simp only [xblk_at v1 f1 160 inb_S256x3584_S32x3584_160_0 _ _ (by omega : 160 + r.val < 256)]; rfl)
    _ _ (fun r c => by
      refine ((pay17_at _ r c).trans ((congrFun (xm_eq6 _) (ix2 r 0)).trans (pay10_at _ r 0))).trans ?_
      simp only [xblk_at v1 f1 192 inb_S256x3584_S32x3584_192_0 _ _ (by omega : 192 + r.val < 256)]; rfl)
    _ _ (fun r c => by
      refine ((pay17_at _ r c).trans ((congrFun (xm_eq7 _) (ix2 r 0)).trans (pay10_at _ r 0))).trans ?_
      simp only [xblk_at v1 f1 224 inb_S256x3584_S32x3584_224_0 _ _ (by omega : 224 + r.val < 256)]; rfl)

/-- The tiles `xkb_read` reads. -/
def xkb_readL : List (View.Piece (Elt Ideal) S256x128 .i32) := [⟨Rect.unit (s := S256x128) ![224, 0] S32x128.size inb_S256x128_S32x128_224_0, k0_pay134 (k0_pay123 (k0_pay117 (F := Ideal) (xBlk v1 f1 224 inb_S256x3584_S32x3584_224_0)))⟩,
      ⟨Rect.unit (s := S256x128) ![192, 0] S32x128.size inb_S256x128_S32x128_192_0, k0_pay114 (k0_pay106 (k0_pay102 (F := Ideal) (xBlk v1 f1 192 inb_S256x3584_S32x3584_192_0)))⟩,
      ⟨Rect.unit (s := S256x128) ![160, 0] S32x128.size inb_S256x128_S32x128_160_0, k0_pay100 (k0_pay89 (k0_pay83 (F := Ideal) (xBlk v1 f1 160 inb_S256x3584_S32x3584_160_0)))⟩,
      ⟨Rect.unit (s := S256x128) ![128, 0] S32x128.size inb_S256x128_S32x128_128_0, k0_pay80 (k0_pay73 (k0_pay69 (F := Ideal) (xBlk v1 f1 128 inb_S256x3584_S32x3584_128_0)))⟩,
      ⟨Rect.unit (s := S256x128) ![96, 0] S32x128.size inb_S256x128_S32x128_96_0, k0_pay68 (k0_pay58 (k0_pay53 (F := Ideal) (xBlk v1 f1 96 inb_S256x3584_S32x3584_96_0)))⟩,
      ⟨Rect.unit (s := S256x128) ![64, 0] S32x128.size inb_S256x128_S32x128_64_0, k0_pay50 (k0_pay43 (F := Ideal) (xBlk v1 f1 64 inb_S256x3584_S32x3584_64_0))⟩,
      ⟨Rect.unit (s := S256x128) ![32, 0] S32x128.size inb_S256x128_S32x128_32_0, k0_pay38 (k0_pay26 (k0_pay21 (F := Ideal) (xBlk v1 f1 32 inb_S256x3584_S32x3584_32_0)))⟩,
      ⟨Rect.unit (s := S256x128) ![0, 0] S32x128.size inb_S256x128_S32x128_0_0, k0_pay18 (k0_pay11 (F := Ideal) (xBlk v1 f1 0 inb_S256x3584_S32x3584_0_0))⟩]

theorem xkb_read (v : View sig .tc .vmem S256x128 .i32) (f : v.ty.Contents (Elt Ideal)) :
    v.read (Elt Ideal) (v.writes (Elt Ideal) f (xkb_readL v1 f1))
    = (fun y : S256x128.Idx => XK (v1.read (Elt Ideal) f1) (y 0)) :=
  rows_read (e := .i32) (m := 128) v f ((fun y : S256x128.Idx => XK (v1.read (Elt Ideal) f1) (y 0)))
    _ _ (fun r c => by
      refine ((pay18_at _ r c).trans (pay11_at _ r 0)).trans ?_
      simp only [xblk_at v1 f1 0 inb_S256x3584_S32x3584_0_0 _ _ (by omega : 0 + r.val < 256)]; rfl)
    _ _ (fun r c => by
      refine ((pay18_at _ r c).trans ((congrFun (xk_eq1 _) (ix2 r 0)).trans (pay11_at _ r 0))).trans ?_
      simp only [xblk_at v1 f1 32 inb_S256x3584_S32x3584_32_0 _ _ (by omega : 32 + r.val < 256)]; rfl)
    _ _ (fun r c => by
      refine ((pay18_at _ r c).trans ((congrFun (xk_eq2 _) (ix2 r 0)).trans (pay11_at _ r 0))).trans ?_
      simp only [xblk_at v1 f1 64 inb_S256x3584_S32x3584_64_0 _ _ (by omega : 64 + r.val < 256)]; rfl)
    _ _ (fun r c => by
      refine ((pay18_at _ r c).trans ((congrFun (xk_eq3 _) (ix2 r 0)).trans (pay11_at _ r 0))).trans ?_
      simp only [xblk_at v1 f1 96 inb_S256x3584_S32x3584_96_0 _ _ (by omega : 96 + r.val < 256)]; rfl)
    _ _ (fun r c => by
      refine ((pay18_at _ r c).trans ((congrFun (xk_eq4 _) (ix2 r 0)).trans (pay11_at _ r 0))).trans ?_
      simp only [xblk_at v1 f1 128 inb_S256x3584_S32x3584_128_0 _ _ (by omega : 128 + r.val < 256)]; rfl)
    _ _ (fun r c => by
      refine ((pay18_at _ r c).trans ((congrFun (xk_eq5 _) (ix2 r 0)).trans (pay11_at _ r 0))).trans ?_
      simp only [xblk_at v1 f1 160 inb_S256x3584_S32x3584_160_0 _ _ (by omega : 160 + r.val < 256)]; rfl)
    _ _ (fun r c => by
      refine ((pay18_at _ r c).trans ((congrFun (xk_eq6 _) (ix2 r 0)).trans (pay11_at _ r 0))).trans ?_
      simp only [xblk_at v1 f1 192 inb_S256x3584_S32x3584_192_0 _ _ (by omega : 192 + r.val < 256)]; rfl)
    _ _ (fun r c => by
      refine ((pay18_at _ r c).trans ((congrFun (xk_eq7 _) (ix2 r 0)).trans (pay11_at _ r 0))).trans ?_
      simp only [xblk_at v1 f1 224 inb_S256x3584_S32x3584_224_0 _ _ (by omega : 224 + r.val < 256)]; rfl)

end Cert.KernelIdeal.Hand
end
-- ==== Proof.KernelIdealMat.lean ====
module

public import proofs.«01_k».proof.Proof.Gen.KernelIdeal.Skeleton
public import Idealize.ShloMosaic.Lib.Pointwise
public import proofs.«01_k».proof.Proof.KernelIdealBlocks
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen

variable {e : EltTy}

/-- A box of whole rows' length read at `(r, c)`: the columns from `p` on; -/
theorem colBox_at {N M m : ℕ} (v : View sig .tc .vmem (⟨2, ![N, M]⟩ : Shape) e) (f : v.ty.Contents (Elt Ideal)) (p : ℕ)
    (inb : ∀ a, (![0, p] : Fin 2 → ℕ) a + (![N, m] : Fin 2 → ℕ) a ≤ (⟨2, ![N, M]⟩ : Shape).size a)
    (r : Fin N) (c : Fin m) (h1 : p + c.val < M) :
    v.readAt (Elt Ideal) (Rect.unit (s := (⟨2, ![N, M]⟩ : Shape)) ![0, p] ![N, m] inb).toLoadRect f (ix2 r c)
      = v.read (Elt Ideal) f (ix2 r ⟨p + c.val, h1⟩) := by
  refine (box_at v f 0 p inb r c (by omega) h1).trans ?_
  congr 2
  exact Fin.ext (Nat.zero_add _)

/-- and the rows from `o` on. -/
theorem rowBox_at {N M n : ℕ} (v : View sig .tc .vmem (⟨2, ![N, M]⟩ : Shape) e) (f : v.ty.Contents (Elt Ideal)) (o : ℕ)
    (inb : ∀ a, (![o, 0] : Fin 2 → ℕ) a + (![n, M] : Fin 2 → ℕ) a ≤ (⟨2, ![N, M]⟩ : Shape).size a)
    (r : Fin n) (c : Fin M) (h0 : o + r.val < N) :
    v.readAt (Elt Ideal) (Rect.unit (s := (⟨2, ![N, M]⟩ : Shape)) ![o, 0] ![n, M] inb).toLoadRect f (ix2 r c)
      = v.read (Elt Ideal) f (ix2 ⟨o + r.val, h0⟩ c) := by
  refine (box_at v f o 0 inb r c h0 (by omega)).trans ?_
  congr 2
  exact Fin.ext (Nat.zero_add _)

/-! ## The integer products -/

/-- One chunk of `n` products from `o` on, summed and read as an integer. -/
def gChunk (B : S256x3584.Idx → EReal) (W : S3584x512.Idx → BitVec 8) (a : Fin 256) (c : Fin 512) (o n : ℕ) (h : o + n ≤ 3584) : BitVec 32 :=
  FloatOps.fptosi (F := Ideal) (φ := .f32) 32 (∑ x : Fin n, B (ix2 (n0 := 256) (n1 := 3584) a ⟨o + x.val, by omega⟩)
    * FloatOps.sitofp (F := Ideal) .bf16 (W (ix2 (n0 := 3584) (n1 := 512) ⟨o + x.val, by omega⟩ c)))

/-- The whole product at `(a, c)`: the four chunks' integers added up. -/
def gAt (B : S256x3584.Idx → EReal) (W : S3584x512.Idx → BitVec 8) (a : Fin 256) (c : Fin 512) : BitVec 32 :=
  IntOp.addi (IntOp.addi (IntOp.addi (gChunk B W a c 0 1024 (by omega)) (gChunk B W a c 1024 1024 (by omega)))
    (gChunk B W a c 2048 1024 (by omega))) (gChunk B W a c 3072 512 (by omega))

variable (v13 : View sig .tc .vmem S256x3584 .bf16) (f13 : v13.ty.Contents (Elt Ideal))
  (vw : View sig .tc .vmem S3584x512 .i8) (fw : vw.ty.Contents (Elt Ideal))

/-- Chunk 0 of the activations' columns, -/
abbrev bC0 : S256x1024.Idx → EReal := v13.readAt (Elt Ideal) (Rect.unit (s := S256x3584) ![0, 0] S256x1024.size inb_S256x3584_S256x1024_0_0).toLoadRect f13
/-- and of the weights' rows. -/
abbrev wC0 : S1024x512.Idx → BitVec 8 := vw.readAt (Elt Ideal) (Rect.unit (s := S3584x512) ![0, 0] S1024x512.size inb_S3584x512_S1024x512_0_0).toLoadRect fw
/-- Chunk 1 of the activations' columns, -/
abbrev bC1 : S256x1024.Idx → EReal := v13.readAt (Elt Ideal) (Rect.unit (s := S256x3584) ![0, 1024] S256x1024.size inb_S256x3584_S256x1024_0_1024).toLoadRect f13
/-- and of the weights' rows. -/
abbrev wC1 : S1024x512.Idx → BitVec 8 := vw.readAt (Elt Ideal) (Rect.unit (s := S3584x512) ![1024, 0] S1024x512.size inb_S3584x512_S1024x512_1024_0).toLoadRect fw
/-- Chunk 2 of the activations' columns, -/
abbrev bC2 : S256x1024.Idx → EReal := v13.readAt (Elt Ideal) (Rect.unit (s := S256x3584) ![0, 2048] S256x1024.size inb_S256x3584_S256x1024_0_2048).toLoadRect f13
/-- and of the weights' rows. -/
abbrev wC2 : S1024x512.Idx → BitVec 8 := vw.readAt (Elt Ideal) (Rect.unit (s := S3584x512) ![2048, 0] S1024x512.size inb_S3584x512_S1024x512_2048_0).toLoadRect fw
/-- Chunk 3 of the activations' columns, -/
abbrev bC3 : S256x512.Idx → EReal := v13.readAt (Elt Ideal) (Rect.unit (s := S256x3584) ![0, 3072] S256x512.size inb_S256x3584_S256x512_0_3072).toLoadRect f13
/-- and of the weights' rows. -/
abbrev wC3 : S512x512.Idx → BitVec 8 := vw.readAt (Elt Ideal) (Rect.unit (s := S3584x512) ![3072, 0] S512x512.size inb_S3584x512_S512x512_3072_0).toLoadRect fw

theorem g_read (a : Fin 256) (c : Fin 512) : (k0_pay141 (F := Ideal) (bC0 v13 f13) (wC0 vw fw) (bC1 v13 f13) (wC1 vw fw) (bC2 v13 f13) (wC2 vw fw) (bC3 v13 f13) (wC3 vw fw)) (ix2 a c) = gAt (v13.read (Elt Ideal) f13) (vw.read (Elt Ideal) fw) a c := by
  pointwise [k0_pay141]
  unfold gAt gChunk
  simp only [show ∀ x : Fin 1024, bC0 v13 f13 (ix2 a x) = _ from fun x => colBox_at (N := 256) (M := 3584) (m := 1024) v13 f13 0 _ a x (by omega),
    show ∀ x : Fin 1024, wC0 vw fw (ix2 x c) = _ from fun x => rowBox_at (N := 3584) (M := 512) (n := 1024) vw fw 0 _ x c (by omega)]
  simp only [show ∀ x : Fin 1024, bC1 v13 f13 (ix2 a x) = _ from fun x => colBox_at (N := 256) (M := 3584) (m := 1024) v13 f13 1024 _ a x (by omega),
    show ∀ x : Fin 1024, wC1 vw fw (ix2 x c) = _ from fun x => rowBox_at (N := 3584) (M := 512) (n := 1024) vw fw 1024 _ x c (by omega)]
  simp only [show ∀ x : Fin 1024, bC2 v13 f13 (ix2 a x) = _ from fun x => colBox_at (N := 256) (M := 3584) (m := 1024) v13 f13 2048 _ a x (by omega),
    show ∀ x : Fin 1024, wC2 vw fw (ix2 x c) = _ from fun x => rowBox_at (N := 3584) (M := 512) (n := 1024) vw fw 2048 _ x c (by omega)]
  simp only [show ∀ x : Fin 512, bC3 v13 f13 (ix2 a x) = _ from fun x => colBox_at (N := 256) (M := 3584) (m := 512) v13 f13 3072 _ a x (by omega),
    show ∀ x : Fin 512, wC3 vw fw (ix2 x c) = _ from fun x => rowBox_at (N := 3584) (M := 512) (n := 512) vw fw 3072 _ x c (by omega)]

theorem u_read (a : Fin 256) (c : Fin 512) : (k0_pay143 (F := Ideal) (k0_pay142 (F := Ideal) (bC0 v13 f13) (wC0 vw fw)) (bC1 v13 f13) (wC1 vw fw) (bC2 v13 f13) (wC2 vw fw) (bC3 v13 f13) (wC3 vw fw)) (ix2 a c) = gAt (v13.read (Elt Ideal) f13) (vw.read (Elt Ideal) fw) a c := by
  pointwise [k0_pay143, k0_pay142]
  unfold gAt gChunk
  simp only [show ∀ x : Fin 1024, bC0 v13 f13 (ix2 a x) = _ from fun x => colBox_at (N := 256) (M := 3584) (m := 1024) v13 f13 0 _ a x (by omega),
    show ∀ x : Fin 1024, wC0 vw fw (ix2 x c) = _ from fun x => rowBox_at (N := 3584) (M := 512) (n := 1024) vw fw 0 _ x c (by omega)]
  simp only [show ∀ x : Fin 1024, bC1 v13 f13 (ix2 a x) = _ from fun x => colBox_at (N := 256) (M := 3584) (m := 1024) v13 f13 1024 _ a x (by omega),
    show ∀ x : Fin 1024, wC1 vw fw (ix2 x c) = _ from fun x => rowBox_at (N := 3584) (M := 512) (n := 1024) vw fw 1024 _ x c (by omega)]
  simp only [show ∀ x : Fin 1024, bC2 v13 f13 (ix2 a x) = _ from fun x => colBox_at (N := 256) (M := 3584) (m := 1024) v13 f13 2048 _ a x (by omega),
    show ∀ x : Fin 1024, wC2 vw fw (ix2 x c) = _ from fun x => rowBox_at (N := 3584) (M := 512) (n := 1024) vw fw 2048 _ x c (by omega)]
  simp only [show ∀ x : Fin 512, bC3 v13 f13 (ix2 a x) = _ from fun x => colBox_at (N := 256) (M := 3584) (m := 512) v13 f13 3072 _ a x (by omega),
    show ∀ x : Fin 512, wC3 vw fw (ix2 x c) = _ from fun x => rowBox_at (N := 3584) (M := 512) (n := 512) vw fw 3072 _ x c (by omega)]

/-! ## The hidden values -/

/-- The hidden value of block `r` of a grid point's columns, from the arrays the point reads. -/
def hBlk (B : S256x3584.Idx → EReal) (M K : S256x128.Idx → BitVec 32) (W1 W2 : S3584x512.Idx → BitVec 8) (E1 E2 : S1x512.Idx → BitVec 32)
    (r : Fin 4) (a : Fin 256) (b : Fin 128) : EReal :=
  kH (kR (gAt B W1 a ⟨128 * r.val + b.val, by omega⟩) (M (ix2 (n0 := 256) (n1 := 128) a b)) (K (ix2 (n0 := 256) (n1 := 128) a b))
      (E1 (ix2 (n0 := 1) (n1 := 512) 0 ⟨128 * r.val + b.val, by omega⟩)))
    (kR (gAt B W2 a ⟨128 * r.val + b.val, by omega⟩) (M (ix2 (n0 := 256) (n1 := 128) a b)) (K (ix2 (n0 := 256) (n1 := 128) a b))
      (E2 (ix2 (n0 := 1) (n1 := 512) 0 ⟨128 * r.val + b.val, by omega⟩)))

variable (v2 v3 : View sig .tc .vmem S3584x512 .i8) (f2 : v2.ty.Contents (Elt Ideal)) (f3 : v3.ty.Contents (Elt Ideal))
  (v4 v5 : View sig .tc .vmem S1x512 .i32) (f4 : v4.ty.Contents (Elt Ideal)) (f5 : v5.ty.Contents (Elt Ideal))
  (v14 v15 : View sig .tc .vmem S256x128 .i32) (f14 : v14.ty.Contents (Elt Ideal)) (f15 : v15.ty.Contents (Elt Ideal))

/-- The multipliers as a whole read. -/
abbrev mW : S256x128.Idx → BitVec 32 := v14.readAt (Elt Ideal) (Rect.unit (s := S256x128) ![0, 0] S256x128.size inb_S256x128_S256x128_0_0).toLoadRect f14
/-- Block 0 of a row of exponents. -/
abbrev eC0 : S1x128.Idx → BitVec 32 := v4.readAt (Elt Ideal) (Rect.unit (s := S1x512) ![0, 0] S1x128.size inb_S1x512_S1x128_0_0).toLoadRect f4
/-- Block 1 of a row of exponents. -/
abbrev eC1 : S1x128.Idx → BitVec 32 := v4.readAt (Elt Ideal) (Rect.unit (s := S1x512) ![0, 128] S1x128.size inb_S1x512_S1x128_0_128).toLoadRect f4
/-- Block 2 of a row of exponents. -/
abbrev eC2 : S1x128.Idx → BitVec 32 := v4.readAt (Elt Ideal) (Rect.unit (s := S1x512) ![0, 256] S1x128.size inb_S1x512_S1x128_0_256).toLoadRect f4
/-- Block 3 of a row of exponents. -/
abbrev eC3 : S1x128.Idx → BitVec 32 := v4.readAt (Elt Ideal) (Rect.unit (s := S1x512) ![0, 384] S1x128.size inb_S1x512_S1x128_0_384).toLoadRect f4

theorem mW_at (y : S256x128.Idx) : mW v14 f14 y = v14.read (Elt Ideal) f14 y :=
  congrFun (View.ld_unit_zero (Val := Elt Ideal) (S := S256x128) (e := .i32) (off := ![0, 0]) (by funext a; fin_cases a <;> rfl) _ (v14.read (Elt Ideal) f14)) y

theorem h0_read (a : Fin 256) (b : Fin 128) :
    k0_pay150 (F := Ideal) (k0_pay146 (k0_pay145 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC0 v4 f4)) (FloatOps.ofBits FTy.f32 3313496064#32)) (k0_pay147 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay144 (F := Ideal) (mW v15 f15)) (eC0 v5 f5)) (k0_pay148 (k0_pay145 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC0 v4 f4)) (FloatOps.ofBits FTy.f32 3313496064#32)) k0_pay149 (ix2 a b)
      = (hBlk (v13.read (Elt Ideal) f13) (v14.read (Elt Ideal) f14) (v15.read (Elt Ideal) f15) (v2.read (Elt Ideal) f2) (v3.read (Elt Ideal) f3) (v4.read (Elt Ideal) f4) (v5.read (Elt Ideal) f5) 0 a b) := by
  refine (h0_at _ _ _ _ _ _ a b).trans ?_
  rw [g_read, u_read, mW_at, mW_at, show eC0 v4 f4 (ix2 0 b) = _ from colBox_at (N := 1) (M := 512) (m := 128) v4 f4 0 _ 0 b (by omega),
    show eC0 v5 f5 (ix2 0 b) = _ from colBox_at (N := 1) (M := 512) (m := 128) v5 f5 0 _ 0 b (by omega)]
  have e1 : ∀ h, (⟨b.val, h⟩ : Fin 512) = ⟨128 * (0 : Fin 4).val + b.val, by omega⟩ := fun h => Fin.ext (by show b.val = 128 * 0 + b.val; omega)
  have e2 : ∀ h, (⟨0 + b.val, h⟩ : Fin 512) = ⟨128 * (0 : Fin 4).val + b.val, by omega⟩ := fun h => Fin.ext (by show 0 + b.val = 128 * 0 + b.val; omega)
  rw [e1, e2]
  rfl

theorem mn0_read (w : S256x128.Idx → EReal) (a : Fin 256) (b : Fin 128) :
    k0_pay151 (F := Ideal) (k0_pay146 (k0_pay145 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC0 v4 f4)) (FloatOps.ofBits FTy.f32 3313496064#32)) (k0_pay147 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay144 (F := Ideal) (mW v15 f15)) (eC0 v5 f5)) (k0_pay148 (k0_pay145 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC0 v4 f4)) (FloatOps.ofBits FTy.f32 3313496064#32)) k0_pay149 w (ix2 a b)
      = min (w (ix2 a b)) ((hBlk (v13.read (Elt Ideal) f13) (v14.read (Elt Ideal) f14) (v15.read (Elt Ideal) f15) (v2.read (Elt Ideal) f2) (v3.read (Elt Ideal) f3) (v4.read (Elt Ideal) f4) (v5.read (Elt Ideal) f5) 0 a b)) := by
  rw [← h0_read]; pointwise [k0_pay151]

theorem mx0_read (w : S256x128.Idx → EReal) (a : Fin 256) (b : Fin 128) :
    k0_pay152 (F := Ideal) (k0_pay146 (k0_pay145 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC0 v4 f4)) (FloatOps.ofBits FTy.f32 3313496064#32)) (k0_pay147 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay144 (F := Ideal) (mW v15 f15)) (eC0 v5 f5)) (k0_pay148 (k0_pay145 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC0 v4 f4)) (FloatOps.ofBits FTy.f32 3313496064#32)) k0_pay149 w (ix2 a b)
      = max (w (ix2 a b)) ((hBlk (v13.read (Elt Ideal) f13) (v14.read (Elt Ideal) f14) (v15.read (Elt Ideal) f15) (v2.read (Elt Ideal) f2) (v3.read (Elt Ideal) f3) (v4.read (Elt Ideal) f4) (v5.read (Elt Ideal) f5) 0 a b)) := by
  rw [← h0_read]; pointwise [k0_pay152]

theorem hs0_read (z : Fin 1) (a : Fin 256) (b : Fin 128) :
    k0_pay153 (F := Ideal) (k0_pay146 (k0_pay145 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC0 v4 f4)) (FloatOps.ofBits FTy.f32 3313496064#32)) (k0_pay147 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay144 (F := Ideal) (mW v15 f15)) (eC0 v5 f5)) (k0_pay148 (k0_pay145 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC0 v4 f4)) (FloatOps.ofBits FTy.f32 3313496064#32)) k0_pay149 (ix3 z a b)
      = (hBlk (v13.read (Elt Ideal) f13) (v14.read (Elt Ideal) f14) (v15.read (Elt Ideal) f15) (v2.read (Elt Ideal) f2) (v3.read (Elt Ideal) f3) (v4.read (Elt Ideal) f4) (v5.read (Elt Ideal) f5) 0 a b) := by
  rw [← h0_read]; pointwise [k0_pay153]

theorem h1_read (a : Fin 256) (b : Fin 128) :
    k0_pay165 (F := Ideal) (k0_pay158 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) (k0_pay159 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay154 (F := Ideal) (mW v15 f15)) (eC1 v5 f5)) (k0_pay162 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) (k0_pay163 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) k0_pay164 (ix2 a b)
      = (hBlk (v13.read (Elt Ideal) f13) (v14.read (Elt Ideal) f14) (v15.read (Elt Ideal) f15) (v2.read (Elt Ideal) f2) (v3.read (Elt Ideal) f3) (v4.read (Elt Ideal) f4) (v5.read (Elt Ideal) f5) 1 a b) := by
  refine (h1_at _ _ _ _ _ _ a b).trans ?_
  rw [g_read, u_read, mW_at, mW_at, show eC1 v4 f4 (ix2 0 b) = _ from colBox_at (N := 1) (M := 512) (m := 128) v4 f4 128 _ 0 b (by omega),
    show eC1 v5 f5 (ix2 0 b) = _ from colBox_at (N := 1) (M := 512) (m := 128) v5 f5 128 _ 0 b (by omega)]
  rfl

theorem mn1_read (w : S256x128.Idx → EReal) (a : Fin 256) (b : Fin 128) :
    k0_pay166 (F := Ideal) (k0_pay158 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) (k0_pay159 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay154 (F := Ideal) (mW v15 f15)) (eC1 v5 f5)) (k0_pay162 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) (k0_pay163 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) k0_pay164 w (ix2 a b)
      = min (w (ix2 a b)) ((hBlk (v13.read (Elt Ideal) f13) (v14.read (Elt Ideal) f14) (v15.read (Elt Ideal) f15) (v2.read (Elt Ideal) f2) (v3.read (Elt Ideal) f3) (v4.read (Elt Ideal) f4) (v5.read (Elt Ideal) f5) 1 a b)) := by
  rw [← h1_read]; pointwise [k0_pay166]

theorem mx1_read (w : S256x128.Idx → EReal) (a : Fin 256) (b : Fin 128) :
    k0_pay167 (F := Ideal) (k0_pay158 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) (k0_pay159 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay154 (F := Ideal) (mW v15 f15)) (eC1 v5 f5)) (k0_pay162 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) (k0_pay163 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) k0_pay164 w (ix2 a b)
      = max (w (ix2 a b)) ((hBlk (v13.read (Elt Ideal) f13) (v14.read (Elt Ideal) f14) (v15.read (Elt Ideal) f15) (v2.read (Elt Ideal) f2) (v3.read (Elt Ideal) f3) (v4.read (Elt Ideal) f4) (v5.read (Elt Ideal) f5) 1 a b)) := by
  rw [← h1_read]; pointwise [k0_pay167]

theorem hs1_read (z : Fin 1) (a : Fin 256) (b : Fin 128) :
    k0_pay168 (F := Ideal) (k0_pay158 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) (k0_pay159 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay154 (F := Ideal) (mW v15 f15)) (eC1 v5 f5)) (k0_pay162 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) (k0_pay163 (mW v14 f14) (k0_pay155 (k0_pay141 (F := Ideal) (bC0 v13 f13) (wC0 v2 f2) (bC1 v13 f13) (wC1 v2 f2) (bC2 v13 f13) (wC2 v2 f2) (bC3 v13 f13) (wC3 v2 f2))) (k0_pay156 (F := Ideal) (mW v15 f15) (eC1 v4 f4)) (k0_pay157 (F := Ideal) (mW v15 f15) (eC1 v4 f4))) k0_pay164 (ix3 z a b)
      = (hBlk (v13.read (Elt Ideal) f13) (v14.read (Elt Ideal) f14) (v15.read (Elt Ideal) f15) (v2.read (Elt Ideal) f2) (v3.read (Elt Ideal) f3) (v4.read (Elt Ideal) f4) (v5.read (Elt Ideal) f5) 1 a b) := by
  rw [← h1_read]; pointwise [k0_pay168]

theorem h2_read (a : Fin 256) (b : Fin 128) :
    k0_pay175 (F := Ideal) (k0_pay171 (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) (k0_pay172 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay169 (F := Ideal) (mW v15 f15)) (eC2 v5 f5)) (k0_pay173 (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) (k0_pay174 (F := Ideal) (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) (ix2 a b)
      = (hBlk (v13.read (Elt Ideal) f13) (v14.read (Elt Ideal) f14) (v15.read (Elt Ideal) f15) (v2.read (Elt Ideal) f2) (v3.read (Elt Ideal) f3) (v4.read (Elt Ideal) f4) (v5.read (Elt Ideal) f5) 2 a b) := by
  refine (h2_at _ _ _ _ _ _ a b).trans ?_
  rw [g_read, u_read, mW_at, mW_at, show eC2 v4 f4 (ix2 0 b) = _ from colBox_at (N := 1) (M := 512) (m := 128) v4 f4 256 _ 0 b (by omega),
    show eC2 v5 f5 (ix2 0 b) = _ from colBox_at (N := 1) (M := 512) (m := 128) v5 f5 256 _ 0 b (by omega)]
  rfl

theorem mn2_read (w : S256x128.Idx → EReal) (a : Fin 256) (b : Fin 128) :
    k0_pay176 (F := Ideal) (k0_pay171 (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) (k0_pay172 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay169 (F := Ideal) (mW v15 f15)) (eC2 v5 f5)) (k0_pay173 (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) (k0_pay174 (F := Ideal) (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) w (ix2 a b)
      = min (w (ix2 a b)) ((hBlk (v13.read (Elt Ideal) f13) (v14.read (Elt Ideal) f14) (v15.read (Elt Ideal) f15) (v2.read (Elt Ideal) f2) (v3.read (Elt Ideal) f3) (v4.read (Elt Ideal) f4) (v5.read (Elt Ideal) f5) 2 a b)) := by
  rw [← h2_read]; pointwise [k0_pay176]

theorem mx2_read (w : S256x128.Idx → EReal) (a : Fin 256) (b : Fin 128) :
    k0_pay177 (F := Ideal) (k0_pay171 (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) (k0_pay172 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay169 (F := Ideal) (mW v15 f15)) (eC2 v5 f5)) (k0_pay173 (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) (k0_pay174 (F := Ideal) (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) w (ix2 a b)
      = max (w (ix2 a b)) ((hBlk (v13.read (Elt Ideal) f13) (v14.read (Elt Ideal) f14) (v15.read (Elt Ideal) f15) (v2.read (Elt Ideal) f2) (v3.read (Elt Ideal) f3) (v4.read (Elt Ideal) f4) (v5.read (Elt Ideal) f5) 2 a b)) := by
  rw [← h2_read]; pointwise [k0_pay177]

theorem hs2_read (z : Fin 1) (a : Fin 256) (b : Fin 128) :
    k0_pay178 (F := Ideal) (k0_pay171 (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) (k0_pay172 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (k0_pay169 (F := Ideal) (mW v15 f15)) (eC2 v5 f5)) (k0_pay173 (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) (k0_pay174 (F := Ideal) (mW v14 f14) (k0_pay169 (F := Ideal) (mW v15 f15)) (k0_pay170 (k0_pay141 (F := Ideal) (bC0 v13 f13) (wC0 v2 f2) (bC1 v13 f13) (wC1 v2 f2) (bC2 v13 f13) (wC2 v2 f2) (bC3 v13 f13) (wC3 v2 f2))) (eC2 v4 f4)) (ix3 z a b)
      = (hBlk (v13.read (Elt Ideal) f13) (v14.read (Elt Ideal) f14) (v15.read (Elt Ideal) f15) (v2.read (Elt Ideal) f2) (v3.read (Elt Ideal) f3) (v4.read (Elt Ideal) f4) (v5.read (Elt Ideal) f5) 2 a b) := by
  rw [← h2_read]; pointwise [k0_pay178]

theorem h3_read (a : Fin 256) (b : Fin 128) :
    k0_pay186 (F := Ideal) (k0_pay180 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay181 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (mW v15 f15) (eC3 v5 f5)) (k0_pay182 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay183 (F := Ideal) (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay184 (F := Ideal) (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) k0_pay185 (ix2 a b)
      = (hBlk (v13.read (Elt Ideal) f13) (v14.read (Elt Ideal) f14) (v15.read (Elt Ideal) f15) (v2.read (Elt Ideal) f2) (v3.read (Elt Ideal) f3) (v4.read (Elt Ideal) f4) (v5.read (Elt Ideal) f5) 3 a b) := by
  refine (h3_at _ _ _ _ _ _ a b).trans ?_
  rw [g_read, u_read, mW_at, mW_at, show eC3 v4 f4 (ix2 0 b) = _ from colBox_at (N := 1) (M := 512) (m := 128) v4 f4 384 _ 0 b (by omega),
    show eC3 v5 f5 (ix2 0 b) = _ from colBox_at (N := 1) (M := 512) (m := 128) v5 f5 384 _ 0 b (by omega)]
  rfl

theorem mn3_read (w : S256x128.Idx → EReal) (a : Fin 256) (b : Fin 128) :
    k0_pay187 (F := Ideal) (k0_pay180 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay181 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (mW v15 f15) (eC3 v5 f5)) (k0_pay182 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay183 (F := Ideal) (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay184 (F := Ideal) (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) k0_pay185 w (ix2 a b)
      = min (w (ix2 a b)) ((hBlk (v13.read (Elt Ideal) f13) (v14.read (Elt Ideal) f14) (v15.read (Elt Ideal) f15) (v2.read (Elt Ideal) f2) (v3.read (Elt Ideal) f3) (v4.read (Elt Ideal) f4) (v5.read (Elt Ideal) f5) 3 a b)) := by
  rw [← h3_read]; pointwise [k0_pay187]

theorem mx3_read (w : S256x128.Idx → EReal) (a : Fin 256) (b : Fin 128) :
    k0_pay188 (F := Ideal) (k0_pay180 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay181 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (mW v15 f15) (eC3 v5 f5)) (k0_pay182 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay183 (F := Ideal) (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay184 (F := Ideal) (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) k0_pay185 w (ix2 a b)
      = max (w (ix2 a b)) ((hBlk (v13.read (Elt Ideal) f13) (v14.read (Elt Ideal) f14) (v15.read (Elt Ideal) f15) (v2.read (Elt Ideal) f2) (v3.read (Elt Ideal) f3) (v4.read (Elt Ideal) f4) (v5.read (Elt Ideal) f5) 3 a b)) := by
  rw [← h3_read]; pointwise [k0_pay188]

theorem hs3_read (z : Fin 1) (a : Fin 256) (b : Fin 128) :
    k0_pay1 (F := Ideal) (k0_pay186 (k0_pay180 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay181 (k0_pay143 (F := Ideal) (k0_pay142 (F := Ideal) (bC0 v13 f13) (wC0 v3 f3)) (bC1 v13 f13) (wC1 v3 f3) (bC2 v13 f13) (wC2 v3 f3) (bC3 v13 f13) (wC3 v3 f3)) (mW v14 f14) (mW v15 f15) (eC3 v5 f5)) (k0_pay182 (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay183 (F := Ideal) (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) (k0_pay184 (F := Ideal) (k0_pay141 (F := Ideal) (bC0 v13 f13) (wC0 v2 f2) (bC1 v13 f13) (wC1 v2 f2) (bC2 v13 f13) (wC2 v2 f2) (bC3 v13 f13) (wC3 v2 f2)) (mW v14 f14) (mW v15 f15) (eC3 v4 f4)) k0_pay185) (ix3 z a b)
      = (hBlk (v13.read (Elt Ideal) f13) (v14.read (Elt Ideal) f14) (v15.read (Elt Ideal) f15) (v2.read (Elt Ideal) f2) (v3.read (Elt Ideal) f3) (v4.read (Elt Ideal) f4) (v5.read (Elt Ideal) f5) 3 a b) := by
  rw [← h3_read]; pointwise [k0_pay1]

/-! ## The scale of the hidden rows and the final codes -/

/-- The least of a row's running minima, -/
def kLo (w : Fin 128 → EReal) : EReal := Finset.fold min (Ideal.ofBits .f32 0x7F800000#32) w Finset.univ
/-- the greatest of its running maxima, -/
def kHi (w : Fin 128 → EReal) : EReal := Finset.fold max (Ideal.ofBits .f32 0xFF800000#32) w Finset.univ
/-- the row's range, at least one, -/
def kD (lo hi : EReal) : BitVec 32 :=
  IntOp.maxsi (IntOp.subi (FloatOps.fptosi (F := Ideal) (φ := .f32) 32 hi) (FloatOps.fptosi (F := Ideal) (φ := .f32) 32 lo)) 1#32

/-- its bit length, -/
def kHN (d : BitVec 32) : BitVec 32 := IntOp.subi 32#32 (IntOp.ctlz d)
/-- the range's top bits rounded up to a multiple of the step, -/
def kHV (d : BitVec 32) : BitVec 32 := IntOp.addi (IntOp.shli .vector d (IntOp.subi 23#32 (kHN d))) 32640#32
/-- and its multiplier. -/
def kHM (d : BitVec 32) : BitVec 32 := fdc (kHV d) 0x37808081#32 65280#32

theorem pay136_at (w : S256x128.Idx → EReal) (a : Fin 256) (z : Fin 1) :
    k0_pay136 (F := Ideal) w (ix2 a z) = kLo fun b => w (ix2 a b) := by
  pointwise [k0_pay136]; rfl

theorem pay137_at (w w' : S256x128.Idx → EReal) (a : Fin 256) (z : Fin 1) :
    k0_pay137 (F := Ideal) w w' (ix2 a z) = kD (kLo fun b => w (ix2 a b)) (kHi fun b => w' (ix2 a b)) := by
  pointwise [k0_pay137, k0_pay136]; rfl

theorem pay138_at (w w' : S256x128.Idx → EReal) (a : Fin 256) (z : Fin 1) :
    k0_pay138 (F := Ideal) w w' (ix2 a z) = kHN (kD (kLo fun b => w (ix2 a b)) (kHi fun b => w' (ix2 a b))) := by
  pointwise [k0_pay138]; rw [pay137_at]; rfl

theorem pay139_at (w w' : S256x128.Idx → EReal) (a : Fin 256) (z : Fin 1) :
    k0_pay139 (F := Ideal) w w' (ix2 a z) = kHM (kD (kLo fun b => w (ix2 a b)) (kHi fun b => w' (ix2 a b))) := by
  pointwise [k0_pay139]; simp only [pay137_at, pay138_at]; rfl

/-- The factor the hidden values are scaled by before the final rounding. -/
def kScale (n m : BitVec 32) : EReal :=
  Ideal.div (FloatOps.sitofp (F := Ideal) .f32 (IntOp.shli .vector 1#32 (IntOp.subi 23#32 n))) (FloatOps.sitofp (F := Ideal) .f32 (IntOp.muli m 256#32))

/-- The final 8-bit code of a hidden value. -/
def kCode (h lo sc : EReal) : BitVec 8 :=
  BitVec.setWidth 8 (FloatOps.fptosi (F := Ideal) (φ := .f32) 32 (Ideal.liftRound Ideal.roundHalfEven
    (min ((h - lo) * sc) (Ideal.ofBits .f32 0x437F0000#32) + Ideal.ofBits .f32 0x38D1B717#32)))

theorem pay6_at (h : S1x256x128.Idx → EReal) (v w : S256x128.Idx → EReal) (a : Fin 256) (c : Fin 128) :
    k0_pay6 (F := Ideal) h v w (ix2 a c) = kCode (h (ix3 0 a c)) (v (ix2 a c)) (w (ix2 a c)) := by
  pointwise [k0_pay6]; rfl
theorem pay4_at (h : S256x1.Idx → EReal) (a : Fin 256) (c : Fin 128) : k0_pay4 (F := Ideal) h (ix2 a c) = h (ix2 a 0) := by
  pointwise [k0_pay4]
theorem pay5_at (h k : S256x1.Idx → BitVec 32) (a : Fin 256) (c : Fin 128) : k0_pay5 (F := Ideal) h k (ix2 a c) = kScale (h (ix2 a 0)) (k (ix2 a 0)) := by
  pointwise [k0_pay5]; rfl
theorem pay2_at (h : S256x1.Idx → BitVec 32) (y : S256x1.Idx) : k0_pay2 h y = IntOp.subi 25#32 (h y) := by
  pointwise [k0_pay2]
theorem pay3_at (h : S256x1.Idx → EReal) (y : S256x1.Idx) : k0_pay3 (F := Ideal) h y = FloatOps.fptosi (F := Ideal) (φ := .f32) 32 (h y) := by
  pointwise [k0_pay3]
theorem pay135_at (y : S256x128.Idx) : k0_pay135 (F := Ideal) y = Ideal.ofBits .f32 0x7F800000#32 := by
  pointwise [k0_pay135]
theorem pay140_at (y : S256x128.Idx) : k0_pay140 (F := Ideal) y = Ideal.ofBits .f32 0xFF800000#32 := by
  pointwise [k0_pay140]

end Cert.KernelIdeal.Hand
end
-- ==== Proof.KernelIdealBody.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import proofs.«01_k».proof.Proof.KernelIdealMat
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-- Four blocks folded into a running minimum, -/
def mn4 (h : Fin 4 → EReal) (z : EReal) : EReal := min (min (min (min z (h 0)) (h 1)) (h 2)) (h 3)
/-- and into a running maximum. -/
def mx4 (h : Fin 4 → EReal) (z : EReal) : EReal := max (max (max (max z (h 0)) (h 1)) (h 2)) (h 3)

/-- What one run of the body leaves: the arguments' and the buffers' contents before, and the buffers' after. -/
structure VPost (i : grid0.Coords) (X : S256x3584.Idx → BitVec 32) (W1 : S3584x512.Idx → BitVec 8) (W2 : S3584x512.Idx → BitVec 8) (E1 : S1x512.Idx → BitVec 32) (E2 : S1x512.Idx → BitVec 32) (x6 : S256x18944.Idx → BitVec 8) (x7 : S256x1.Idx → BitVec 32) (x8 : S256x1.Idx → BitVec 32) (x9 : S256x1.Idx → BitVec 32) (cx : S256x3584.Idx → BitVec 8) (cm : S256x1.Idx → BitVec 32) (ck : S256x1.Idx → BitVec 32) (b : S256x3584.Idx → EReal) (m : S256x128.Idx → BitVec 32) (k : S256x128.Idx → BitVec 32) (hh : S148x256x128.Idx → EReal) (mn : S256x128.Idx → EReal) (mx : S256x128.Idx → EReal) (x6' : S256x18944.Idx → BitVec 8) (x7' : S256x1.Idx → BitVec 32) (x8' : S256x1.Idx → BitVec 32) (x9' : S256x1.Idx → BitVec 32) (cx' : S256x3584.Idx → BitVec 8) (cm' : S256x1.Idx → BitVec 32) (ck' : S256x1.Idx → BitVec 32) (B' : S256x3584.Idx → EReal) (M' : S256x128.Idx → BitVec 32) (K' : S256x128.Idx → BitVec 32) (hh' : S148x256x128.Idx → EReal) (mn' : S256x128.Idx → EReal) (mx' : S256x128.Idx → EReal) : Prop where
  hb : B' = if k0_cond1 i = 1#1 then XB X else b
  hm : M' = if k0_cond1 i = 1#1 then (fun y : S256x128.Idx => XM X (y 0)) else m
  hk : K' = if k0_cond1 i = 1#1 then (fun y : S256x128.Idx => XK X (y 0)) else k
  hcx : cx' = if k0_cond1 i = 1#1 then XC X else cx
  hcm : cm' = if k0_cond1 i = 1#1 then (fun y : S256x1.Idx => XM X (y 0)) else cm
  hck : ck' = if k0_cond1 i = 1#1 then (fun y : S256x1.Idx => XK X (y 0)) else ck
  hin : ∀ (r : Fin 4) (j : Fin 148) (a : Fin 256) (b : Fin 128), j.val = 4 * (i 0).val + r.val →
    hh' (ix3 j a b) = hBlk B' M' K' W1 W2 E1 E2 r a b
  hout : ∀ (j : Fin 148) (a : Fin 256) (b : Fin 128), (j.val < 4 * (i 0).val ∨ 4 * (i 0).val + 4 ≤ j.val) →
    hh' (ix3 j a b) = hh (ix3 j a b)
  hmn : k0_cond2 i ≠ 1#1 → ∀ (a : Fin 256) (b : Fin 128), mn' (ix2 a b)
    = mn4 (fun r => hBlk B' M' K' W1 W2 E1 E2 r a b) (if k0_cond1 i = 1#1 then Ideal.ofBits .f32 0x7F800000#32 else mn (ix2 a b))
  hmx : k0_cond2 i ≠ 1#1 → ∀ (a : Fin 256) (b : Fin 128), mx' (ix2 a b)
    = mx4 (fun r => hBlk B' M' K' W1 W2 E1 E2 r a b) (if k0_cond1 i = 1#1 then Ideal.ofBits .f32 0xFF800000#32 else mx (ix2 a b))
  hfin : k0_cond2 i = 1#1 → ∃ (lo hi : Fin 256 → EReal),
    (∀ a, lo a = kLo fun b => mn4 (fun r => hBlk B' M' K' W1 W2 E1 E2 r a b) (if k0_cond1 i = 1#1 then Ideal.ofBits .f32 0x7F800000#32 else mn (ix2 a b))) ∧
    (∀ a, hi a = kHi fun b => mx4 (fun r => hBlk B' M' K' W1 W2 E1 E2 r a b) (if k0_cond1 i = 1#1 then Ideal.ofBits .f32 0xFF800000#32 else mx (ix2 a b))) ∧
    (∀ a z, x7' (ix2 a z) = kHM (kD (lo a) (hi a))) ∧
    (∀ a z, x8' (ix2 a z) = IntOp.subi 25#32 (kHN (kD (lo a) (hi a)))) ∧
    (∀ a z, x9' (ix2 a z) = FloatOps.fptosi (F := Ideal) (φ := .f32) 32 (lo a)) ∧
    (∀ (j : Fin 148) (a : Fin 256) (b : Fin 128), x6' (ix2 a ⟨128 * j.val + b.val, by omega⟩)
      = kCode (hh' (ix3 j a b)) (lo a) (kScale (kHN (kD (lo a) (hi a))) (kHM (kD (lo a) (hi a)))))

theorem whole_readAt {S : Shape} {e : EltTy} (v : View sig .tc .vmem S e) (f : v.ty.Contents (Elt Ideal)) {off : Fin S.rank → ℕ} (h : off = fun _ => 0)
    (inb : ∀ a, off a + S.size a ≤ S.size a) (y : S.Idx) :
    v.readAt (Elt Ideal) (Rect.unit (s := S) off S.size inb).toLoadRect f y = v.read (Elt Ideal) f y :=
  congrFun (View.ld_unit_zero (Val := Elt Ideal) (S := S) (e := e) h inb (v.read (Elt Ideal) f)) y

/-- A buffer written only when `P` holds. -/
theorem read_dite {P : Prop} [Decidable P] {S : Shape} {e : EltTy} (v : View sig .tc .vmem S e) (f : v.ty.Contents (Elt Ideal))
    (L : List (View.Piece (Elt Ideal) S e)) (G : S.Idx → Elt Ideal e) (h : v.read (Elt Ideal) (v.writes (Elt Ideal) f L) = G) :
    v.read (Elt Ideal) (if hc : P then v.writes (Elt Ideal) f L else f) = if P then G else v.read (Elt Ideal) f := by
  split_ifs <;> first | exact h | rfl

/-- The running bound before a point's blocks: reset where `P` holds. -/
theorem acc_dite {P : Prop} [Decidable P] (v : View sig .tc .vmem S256x128 .f32) (f : v.ty.Contents (Elt Ideal))
    (w : S256x128.Idx → EReal) (z : EReal) (hw : ∀ y, w y = z) (y : S256x128.Idx) :
    v.readAt (Elt Ideal) (Rect.unit (s := S256x128) ![0, 0] S256x128.size inb_S256x128_S256x128_0_0).toLoadRect
      (if hc : P then v.writes (Elt Ideal) f [⟨Rect.unit (s := S256x128) ![0, 0] S256x128.size inb_S256x128_S256x128_0_0, w⟩] else f) y
      = if P then z else v.read (Elt Ideal) f y := by
  rw [whole_readAt v _ (by funext a; fin_cases a <;> rfl), read_dite v f _ w (View.read_writes_full v f _ w [])]
  split_ifs
  · exact hw y
  · rfl

/-- Four blocks stored into the hidden values at a point. -/
theorem h4_read (v : View sig .tc .vmem S148x256x128 .f32) (f : v.ty.Contents (Elt Ideal)) (i : grid0.Coords)
    (w0 w1 w2 w3 : S1x256x128.Idx → EReal)
    (i0 : ∀ a, k0_off1 i 0#32 a + S1x256x128.size a ≤ S148x256x128.size a) (i1 : ∀ a, k0_off1 i 1#32 a + S1x256x128.size a ≤ S148x256x128.size a)
    (i2 : ∀ a, k0_off1 i 2#32 a + S1x256x128.size a ≤ S148x256x128.size a) (i3 : ∀ a, k0_off1 i 3#32 a + S1x256x128.size a ≤ S148x256x128.size a)
    (H : Fin 4 → Fin 256 → Fin 128 → EReal)
    (e0 : ∀ z a b, w0 (ix3 z a b) = H 0 a b) (e1 : ∀ z a b, w1 (ix3 z a b) = H 1 a b)
    (e2 : ∀ z a b, w2 (ix3 z a b) = H 2 a b) (e3 : ∀ z a b, w3 (ix3 z a b) = H 3 a b)
    (j : Fin 148) (a : Fin 256) (b : Fin 128) :
    v.read (Elt Ideal) (v.writes (Elt Ideal) f [⟨Rect.unit (s := S148x256x128) (k0_off1 i 3#32) S1x256x128.size i3, w3⟩,
      ⟨Rect.unit (s := S148x256x128) (k0_off1 i 2#32) S1x256x128.size i2, w2⟩, ⟨Rect.unit (s := S148x256x128) (k0_off1 i 1#32) S1x256x128.size i1, w1⟩,
      ⟨Rect.unit (s := S148x256x128) (k0_off1 i 0#32) S1x256x128.size i0, w0⟩]) (ix3 j a b)
      = if h : 4 * (i 0).val ≤ j.val ∧ j.val < 4 * (i 0).val + 4 then H ⟨j.val - 4 * (i 0).val, by omega⟩ a b
        else v.read (Elt Ideal) f (ix3 j a b) := by
  have o3 : k0_off1 i 3#32 = ![4 * (i 0).val + 3, 0, 0] := k0_off1_eq i 3
  have o2 : k0_off1 i 2#32 = ![4 * (i 0).val + 2, 0, 0] := k0_off1_eq i 2
  have o1 : k0_off1 i 1#32 = ![4 * (i 0).val + 1, 0, 0] := k0_off1_eq i 1
  have o0 : k0_off1 i 0#32 = ![4 * (i 0).val + 0, 0, 0] := k0_off1_eq i 0
  have hit : ∀ (o : ℕ), j.val = o → ∀ x : Fin 3, ((ix3 j a b : S148x256x128.Idx) x).val = (![o, 0, 0] : Fin 3 → ℕ) x + ((ix3 0 a b : S1x256x128.Idx) x).val := by
    intro o ho x
    fin_cases x
    · exact ho
    · exact (Nat.zero_add _).symm
    · exact (Nat.zero_add _).symm
  by_cases h3 : j.val = 4 * (i 0).val + 3
  · rw [dif_pos ⟨by omega, by omega⟩]
    refine (View.read_writes_cons_unit_of_mem v f i3 w3 _ (ix3 j a b) (ix3 0 a b) o3 (hit _ h3)).trans ((e3 0 a b).trans ?_)
    exact congrArg (fun q => H q a b) (Fin.ext (by show 3 = j.val - 4 * (i 0).val; omega))
  refine (View.read_writes_cons_unit_of_not_mem v f i3 w3 _ (ix3 j a b) o3 0 ?_).trans ?_
  · show j.val < 4 * (i 0).val + 3 ∨ 4 * (i 0).val + 3 + 1 ≤ j.val
    omega
  by_cases h2 : j.val = 4 * (i 0).val + 2
  · rw [dif_pos ⟨by omega, by omega⟩]
    refine (View.read_writes_cons_unit_of_mem v f i2 w2 _ (ix3 j a b) (ix3 0 a b) o2 (hit _ h2)).trans ((e2 0 a b).trans ?_)
    exact congrArg (fun q => H q a b) (Fin.ext (by show 2 = j.val - 4 * (i 0).val; omega))
  refine (View.read_writes_cons_unit_of_not_mem v f i2 w2 _ (ix3 j a b) o2 0 ?_).trans ?_
  · show j.val < 4 * (i 0).val + 2 ∨ 4 * (i 0).val + 2 + 1 ≤ j.val
    omega
  by_cases h1 : j.val = 4 * (i 0).val + 1
  · rw [dif_pos ⟨by omega, by omega⟩]
    refine (View.read_writes_cons_unit_of_mem v f i1 w1 _ (ix3 j a b) (ix3 0 a b) o1 (hit _ h1)).trans ((e1 0 a b).trans ?_)
    exact congrArg (fun q => H q a b) (Fin.ext (by show 1 = j.val - 4 * (i 0).val; omega))
  refine (View.read_writes_cons_unit_of_not_mem v f i1 w1 _ (ix3 j a b) o1 0 ?_).trans ?_
  · show j.val < 4 * (i 0).val + 1 ∨ 4 * (i 0).val + 1 + 1 ≤ j.val
    omega
  by_cases h0 : j.val = 4 * (i 0).val + 0
  · rw [dif_pos ⟨by omega, by omega⟩]
    refine (View.read_writes_cons_unit_of_mem v f i0 w0 _ (ix3 j a b) (ix3 0 a b) o0 (hit _ h0)).trans ((e0 0 a b).trans ?_)
    exact congrArg (fun q => H q a b) (Fin.ext (by show 0 = j.val - 4 * (i 0).val; omega))
  refine (View.read_writes_cons_unit_of_not_mem v f i0 w0 _ (ix3 j a b) o0 0 ?_).trans ?_
  · show j.val < 4 * (i 0).val + 0 ∨ 4 * (i 0).val + 0 + 1 ≤ j.val
    omega
  rw [dif_neg (by omega)]
  rfl

section loop
variable (c : Dev nD) (i : grid0.Coords) (arg1 : Memref sig .tc .vmem S256x3584 .i32) (harg1 : arg1.IsWhole) (arg2 : Memref sig .tc .vmem S3584x512 .i8) (harg2 : arg2.IsWhole) (arg3 : Memref sig .tc .vmem S3584x512 .i8) (harg3 : arg3.IsWhole) (arg4 : Memref sig .tc .vmem S1x512 .i32) (harg4 : arg4.IsWhole) (arg5 : Memref sig .tc .vmem S1x512 .i32) (harg5 : arg5.IsWhole) (arg6 : Memref sig .tc .vmem S256x18944 .i8) (harg6 : arg6.IsWhole) (arg7 : Memref sig .tc .vmem S256x1 .i32) (harg7 : arg7.IsWhole) (arg8 : Memref sig .tc .vmem S256x1 .i32) (harg8 : arg8.IsWhole) (arg9 : Memref sig .tc .vmem S256x1 .i32) (harg9 : arg9.IsWhole) (arg10 : Memref sig .tc .vmem S256x3584 .i8) (harg10 : arg10.IsWhole) (arg11 : Memref sig .tc .vmem S256x1 .i32) (harg11 : arg11.IsWhole) (arg12 : Memref sig .tc .vmem S256x1 .i32) (harg12 : arg12.IsWhole) (arg13 : Memref sig .tc .vmem S256x3584 .bf16) (harg13 : arg13.IsWhole) (arg14 : Memref sig .tc .vmem S256x128 .i32) (harg14 : arg14.IsWhole) (arg15 : Memref sig .tc .vmem S256x128 .i32) (harg15 : arg15.IsWhole) (arg16 : Memref sig .tc .vmem S148x256x128 .f32) (harg16 : arg16.IsWhole) (arg17 : Memref sig .tc .vmem S256x128 .f32) (harg17 : arg17.IsWhole) (arg18 : Memref sig .tc .vmem S256x128 .f32) (harg18 : arg18.IsWhole) (h2 : k0_cond2 i = 1#1)
  (X16 : arg16.view.ty.Contents (Elt Ideal)) (X17 : arg17.view.ty.Contents (Elt Ideal)) (X18 : arg18.view.ty.Contents (Elt Ideal))

theorem tripL_eq (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 X16 X17 X18 k
      = [⟨Rect.unit (s := S256x18944) (k0_off3 k) S256x128.size (k0_off3_inb i k h2),
          k0_pay6 (F := Ideal) (View.readAt (Elt Ideal) arg16.view (Rect.unit (s := S148x256x128) (k0_off2 k) S1x256x128.size (k0_off2_inb i k h2)).toLoadRect X16)
            (View.readAt (Elt Ideal) arg17.view (Rect.unit (s := S256x128) ![0, 0] S256x128.size inb_S256x128_S256x128_0_0).toLoadRect X17)
            (View.readAt (Elt Ideal) arg18.view (Rect.unit (s := S256x128) ![0, 0] S256x128.size inb_S256x128_S256x128_0_0).toLoadRect X18)⟩] := by
  unfold tripL_k0_t1
  rw [trip_k0_t1.eq_1]

theorem trips_eq : k0_t1_loop.trips = 148 := by rfl

/-- The column blocks before trip `n` hold the final codes. -/
theorem loop_read (f : arg6.view.ty.Contents (Elt Ideal)) (n : ℕ) (hn : n ≤ 148) (j : Fin 148) (a : Fin 256) (b : Fin 128) (hj : j.val < n) :
    arg6.view.read (Elt Ideal) (arg6.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 X16 X17 X18 n))
        (ix2 a ⟨128 * j.val + b.val, by omega⟩)
      = kCode (arg16.view.read (Elt Ideal) X16 (ix3 j a b)) (arg17.view.read (Elt Ideal) X17 (ix2 a b)) (arg18.view.read (Elt Ideal) X18 (ix2 a b)) := by
  induction n with
  | zero => omega
  | succ n ih =>
    have hs := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 X16 X17 X18 ⟨n, by rw [trips_eq]; omega⟩
    rw [show (⟨n, by rw [trips_eq]; omega⟩ : Fin k0_t1_loop.trips).val + 1 = n + 1 from rfl] at hs
    rw [hs, tripL_eq]
    have o3 := k0_off3_eq ⟨n, by rw [trips_eq]; omega⟩
    have o2 := k0_off2_eq ⟨n, by rw [trips_eq]; omega⟩
    by_cases hjn : j.val = n
    · refine (View.read_writes_cons_unit_of_mem arg6.view f _ _ _ (ix2 a ⟨128 * j.val + b.val, by omega⟩) (ix2 a b) o3 ?_).trans ?_
      · intro x
        fin_cases x
        · exact (Nat.zero_add _).symm
        · show 128 * j.val + b.val = 128 * n + b.val
          rw [hjn]
      · refine (pay6_at _ _ _ a b).trans ?_
        rw [whole_readAt arg17.view _ (by funext a; fin_cases a <;> rfl), whole_readAt arg18.view _ (by funext a; fin_cases a <;> rfl)]
        refine congrArg (fun q => kCode q _ _) ?_
        rw [View.readAt_apply]
        refine congrArg _ ?_
        funext x
        refine Fin.ext ?_
        show k0_off2 ⟨n, _⟩ x + 1 * ((ix3 0 a b : S1x256x128.Idx) x).val = _
        rw [o2]
        fin_cases x
        · show n + 1 * 0 = j.val
          omega
        · show 0 + 1 * a.val = a.val
          omega
        · show 0 + 1 * b.val = b.val
          omega
    · refine (View.read_writes_cons_unit_of_not_mem arg6.view f _ _ _ (ix2 a ⟨128 * j.val + b.val, by omega⟩) o3 1 ?_).trans (ih (by omega) (by omega))
      show 128 * j.val + b.val < 128 * n ∨ 128 * n + 128 ≤ 128 * j.val + b.val
      omega

end loop

/-- A read of a whole buffer over writes that fill it. -/
theorem cov_apply (v : View sig .tc .vmem S256x128 .f32) (L : List (View.Piece (Elt Ideal) S256x128 .f32)) (y : S256x128.Idx) :
    v.readCov L (Rect.unit (s := S256x128) ![0, 0] S256x128.size inb_S256x128_S256x128_0_0).toLoadRect y
      = v.read (Elt Ideal) (v.writes (Elt Ideal) v.junk L) y :=
  whole_readAt v _ (by funext a; fin_cases a <;> rfl) _ y

/-- A buffer's contents after writes made only where `P` holds. -/
def qz {S : Shape} {e : EltTy} (P : Prop) [Decidable P] (v : View sig .tc .vmem S e) (f : v.ty.Contents (Elt Ideal))
    (L : List (View.Piece (Elt Ideal) S e)) : v.ty.Contents (Elt Ideal) := if hc : P then v.writes (Elt Ideal) f L else f

theorem read_qz {S : Shape} {e : EltTy} {P : Prop} [Decidable P] (v : View sig .tc .vmem S e) (f : v.ty.Contents (Elt Ideal))
    (L : List (View.Piece (Elt Ideal) S e)) (G : S.Idx → Elt Ideal e) (h : v.read (Elt Ideal) (v.writes (Elt Ideal) f L) = G) :
    v.read (Elt Ideal) (qz P v f L) = if P then G else v.read (Elt Ideal) f := by
  unfold qz
  split_ifs <;> first | exact h | rfl

set_option maxHeartbeats 4000000 in
/-- One run of the body at any grid point, from any contents. -/
theorem kernelRunV (c : Dev nD) (i : grid0.Coords)
    (arg1 : Memref sig .tc .vmem S256x3584 .i32) (harg1 : arg1.IsWhole)
    (arg2 : Memref sig .tc .vmem S3584x512 .i8) (harg2 : arg2.IsWhole)
    (arg3 : Memref sig .tc .vmem S3584x512 .i8) (harg3 : arg3.IsWhole)
    (arg4 : Memref sig .tc .vmem S1x512 .i32) (harg4 : arg4.IsWhole)
    (arg5 : Memref sig .tc .vmem S1x512 .i32) (harg5 : arg5.IsWhole)
    (arg6 : Memref sig .tc .vmem S256x18944 .i8) (harg6 : arg6.IsWhole)
    (arg7 : Memref sig .tc .vmem S256x1 .i32) (harg7 : arg7.IsWhole)
    (arg8 : Memref sig .tc .vmem S256x1 .i32) (harg8 : arg8.IsWhole)
    (arg9 : Memref sig .tc .vmem S256x1 .i32) (harg9 : arg9.IsWhole)
    (arg10 : Memref sig .tc .vmem S256x3584 .i8) (harg10 : arg10.IsWhole)
    (arg11 : Memref sig .tc .vmem S256x1 .i32) (harg11 : arg11.IsWhole)
    (arg12 : Memref sig .tc .vmem S256x1 .i32) (harg12 : arg12.IsWhole)
    (arg13 : Memref sig .tc .vmem S256x3584 .bf16) (harg13 : arg13.IsWhole)
    (arg14 : Memref sig .tc .vmem S256x128 .i32) (harg14 : arg14.IsWhole)
    (arg15 : Memref sig .tc .vmem S256x128 .i32) (harg15 : arg15.IsWhole)
    (arg16 : Memref sig .tc .vmem S148x256x128 .f32) (harg16 : arg16.IsWhole)
    (arg17 : Memref sig .tc .vmem S256x128 .f32) (harg17 : arg17.IsWhole)
    (arg18 : Memref sig .tc .vmem S256x128 .f32) (harg18 : arg18.IsWhole)
    (X : S256x3584.Idx → BitVec 32) (W1 : S3584x512.Idx → BitVec 8) (W2 : S3584x512.Idx → BitVec 8) (E1 : S1x512.Idx → BitVec 32) (E2 : S1x512.Idx → BitVec 32) (x6 : S256x18944.Idx → BitVec 8) (x7 : S256x1.Idx → BitVec 32) (x8 : S256x1.Idx → BitVec 32) (x9 : S256x1.Idx → BitVec 32) (cx : S256x3584.Idx → BitVec 8) (cm : S256x1.Idx → BitVec 32) (ck : S256x1.Idx → BitVec 32) (b : S256x3584.Idx → EReal) (m : S256x128.Idx → BitVec 32) (k : S256x128.Idx → BitVec 32) (hh : S148x256x128.Idx → EReal) (mn : S256x128.Idx → EReal) (mx : S256x128.Idx → EReal)
    (Q : PUnit → sProp 𝕄) :
    iprop((owns (c : Thread nD τ) arg1 fullShare X ∗ owns (c : Thread nD τ) arg2 fullShare W1 ∗ owns (c : Thread nD τ) arg3 fullShare W2 ∗ owns (c : Thread nD τ) arg4 fullShare E1 ∗ owns (c : Thread nD τ) arg5 fullShare E2 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare cx ∗ owns (c : Thread nD τ) arg11 fullShare cm ∗ owns (c : Thread nD τ) arg12 fullShare ck ∗ owns (c : Thread nD τ) arg13 fullShare b ∗ owns (c : Thread nD τ) arg14 fullShare m ∗ owns (c : Thread nD τ) arg15 fullShare k ∗ owns (c : Thread nD τ) arg16 fullShare hh ∗ owns (c : Thread nD τ) arg17 fullShare mn ∗ owns (c : Thread nD τ) arg18 fullShare mx) ∗ ((∃ x6' x7' x8' x9' cx' cm' ck' B' M' K' hh' mn' mx', owns (c : Thread nD τ) arg1 fullShare X ∗ owns (c : Thread nD τ) arg2 fullShare W1 ∗ owns (c : Thread nD τ) arg3 fullShare W2 ∗ owns (c : Thread nD τ) arg4 fullShare E1 ∗ owns (c : Thread nD τ) arg5 fullShare E2 ∗ owns (c : Thread nD τ) arg6 fullShare x6' ∗ owns (c : Thread nD τ) arg7 fullShare x7' ∗ owns (c : Thread nD τ) arg8 fullShare x8' ∗ owns (c : Thread nD τ) arg9 fullShare x9' ∗ owns (c : Thread nD τ) arg10 fullShare cx' ∗ owns (c : Thread nD τ) arg11 fullShare cm' ∗ owns (c : Thread nD τ) arg12 fullShare ck' ∗ owns (c : Thread nD τ) arg13 fullShare B' ∗ owns (c : Thread nD τ) arg14 fullShare M' ∗ owns (c : Thread nD τ) arg15 fullShare K' ∗ owns (c : Thread nD τ) arg16 fullShare hh' ∗ owns (c : Thread nD τ) arg17 fullShare mn' ∗ owns (c : Thread nD τ) arg18 fullShare mx' ∗ ⌜VPost i X W1 W2 E1 E2 x6 x7 x8 x9 cx cm ck b m k hh mn mx x6' x7' x8' x9' cx' cm' ck' B' M' K' hh' mn' mx'⌝) -∗ Q ⟨⟩))
      ⊢ wp frame (wpE (defs₀ (F := Ideal)) Variants.none c none) Set.univ (cc0_int_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  simp only [cc0_int_swiglu_eq_skeleton]; unfold cc0_int_swiglu_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, Hk⟩
  subst e1; subst e2; subst e3; subst e4; subst e5; subst e6; subst e7; subst e8; subst e9; subst e10; subst e11; subst e12; subst e13; subst e14; subst e15; subst e16; subst e17; subst e18
  by_cases h2 : k0_cond2 i = 1#1
  · sl_exec
    sl_step
    iapply Hk
    iexists _
    iexists _
    iexists _
    iexists _
    iexists (arg10.view.read (Elt Ideal) (qz (k0_cond1 i = 1#1) arg10.view f10 (xc_readL arg1.view f1)))
    iexists (arg11.view.read (Elt Ideal) (qz (k0_cond1 i = 1#1) arg11.view f11 (xm_readL arg1.view f1)))
    iexists (arg12.view.read (Elt Ideal) (qz (k0_cond1 i = 1#1) arg12.view f12 (xk_readL arg1.view f1)))
    iexists (arg13.view.read (Elt Ideal) (qz (k0_cond1 i = 1#1) arg13.view f13 (xb_readL arg1.view f1)))
    iexists (arg14.view.read (Elt Ideal) (qz (k0_cond1 i = 1#1) arg14.view f14 (xmb_readL arg1.view f1)))
    iexists (arg15.view.read (Elt Ideal) (qz (k0_cond1 i = 1#1) arg15.view f15 (xkb_readL arg1.view f1)))
    iexists _
    iexists _
    iexists _
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    ipureintro
    have mn0 : ∀ (a : Fin 256) (b : Fin 128), kernelRunV.sl.v119 c i arg17 f17 (ix2 a b) = (if k0_cond1 i = 1#1 then Ideal.ofBits .f32 0x7F800000#32 else arg17.view.read (Elt Ideal) f17 (ix2 a b)) := fun a b => acc_dite arg17.view f17 _ _ pay135_at (ix2 a b)
    have mn1 : ∀ (a : Fin 256) (b : Fin 128) (f), arg17.view.read (Elt Ideal) (arg17.view.writes (Elt Ideal) f (kernelRunV.sl.H17_1 c i arg1 arg2 arg3 arg4 arg5 arg13 arg14 arg15 arg17 f1 f2 f3 f4 f5 f13 f14 f15 f17)) (ix2 a b) = (min (if k0_cond1 i = 1#1 then Ideal.ofBits .f32 0x7F800000#32 else arg17.view.read (Elt Ideal) f17 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) := by
      intro a b f
      unfold kernelRunV.sl.H17_1
      rw [View.read_writes_full]
      refine (mn0_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => min z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (mn0 a b)
    have mn2 : ∀ (a : Fin 256) (b : Fin 128) (f), arg17.view.read (Elt Ideal) (arg17.view.writes (Elt Ideal) f (kernelRunV.sl.H17_2 c i arg1 arg2 arg3 arg4 arg5 arg13 arg14 arg15 arg17 f1 f2 f3 f4 f5 f13 f14 f15 f17)) (ix2 a b) = (min (min (if k0_cond1 i = 1#1 then Ideal.ofBits .f32 0x7F800000#32 else arg17.view.read (Elt Ideal) f17 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) := by
      intro a b f
      unfold kernelRunV.sl.H17_2
      rw [View.read_writes_full]
      refine (mn1_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => min z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) ((cov_apply arg17.view _ _).trans (mn1 a b _))
    have mn3 : ∀ (a : Fin 256) (b : Fin 128) (f), arg17.view.read (Elt Ideal) (arg17.view.writes (Elt Ideal) f (kernelRunV.sl.H17_3 c i arg1 arg2 arg3 arg4 arg5 arg13 arg14 arg15 arg17 f1 f2 f3 f4 f5 f13 f14 f15 f17)) (ix2 a b) = (min (min (min (if k0_cond1 i = 1#1 then Ideal.ofBits .f32 0x7F800000#32 else arg17.view.read (Elt Ideal) f17 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 2 a b)) := by
      intro a b f
      unfold kernelRunV.sl.H17_3
      rw [View.read_writes_full]
      refine (mn2_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => min z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 2 a b)) ((cov_apply arg17.view _ _).trans (mn2 a b _))
    have mn4 : ∀ (a : Fin 256) (b : Fin 128) (f), arg17.view.read (Elt Ideal) (arg17.view.writes (Elt Ideal) f (kernelRunV.sl.H17_4 c i arg1 arg2 arg3 arg4 arg5 arg13 arg14 arg15 arg17 f1 f2 f3 f4 f5 f13 f14 f15 f17)) (ix2 a b) = (min (min (min (min (if k0_cond1 i = 1#1 then Ideal.ofBits .f32 0x7F800000#32 else arg17.view.read (Elt Ideal) f17 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 3 a b)) := by
      intro a b f
      unfold kernelRunV.sl.H17_4
      rw [View.read_writes_full]
      refine (mn3_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => min z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 3 a b)) ((cov_apply arg17.view _ _).trans (mn3 a b _))
    have mx0 : ∀ (a : Fin 256) (b : Fin 128), kernelRunV.sl.v124 c i arg18 f18 (ix2 a b) = (if k0_cond1 i = 1#1 then Ideal.ofBits .f32 0xFF800000#32 else arg18.view.read (Elt Ideal) f18 (ix2 a b)) := fun a b => acc_dite arg18.view f18 _ _ pay140_at (ix2 a b)
    have mx1 : ∀ (a : Fin 256) (b : Fin 128) (f), arg18.view.read (Elt Ideal) (arg18.view.writes (Elt Ideal) f (kernelRunV.sl.H18_1 c i arg1 arg2 arg3 arg4 arg5 arg13 arg14 arg15 arg18 f1 f2 f3 f4 f5 f13 f14 f15 f18)) (ix2 a b) = (max (if k0_cond1 i = 1#1 then Ideal.ofBits .f32 0xFF800000#32 else arg18.view.read (Elt Ideal) f18 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) := by
      intro a b f
      unfold kernelRunV.sl.H18_1
      rw [View.read_writes_full]
      refine (mx0_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => max z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (mx0 a b)
    have mx2 : ∀ (a : Fin 256) (b : Fin 128) (f), arg18.view.read (Elt Ideal) (arg18.view.writes (Elt Ideal) f (kernelRunV.sl.H18_2 c i arg1 arg2 arg3 arg4 arg5 arg13 arg14 arg15 arg18 f1 f2 f3 f4 f5 f13 f14 f15 f18)) (ix2 a b) = (max (max (if k0_cond1 i = 1#1 then Ideal.ofBits .f32 0xFF800000#32 else arg18.view.read (Elt Ideal) f18 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) := by
      intro a b f
      unfold kernelRunV.sl.H18_2
      rw [View.read_writes_full]
      refine (mx1_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => max z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) ((cov_apply arg18.view _ _).trans (mx1 a b _))
    have mx3 : ∀ (a : Fin 256) (b : Fin 128) (f), arg18.view.read (Elt Ideal) (arg18.view.writes (Elt Ideal) f (kernelRunV.sl.H18_3 c i arg1 arg2 arg3 arg4 arg5 arg13 arg14 arg15 arg18 f1 f2 f3 f4 f5 f13 f14 f15 f18)) (ix2 a b) = (max (max (max (if k0_cond1 i = 1#1 then Ideal.ofBits .f32 0xFF800000#32 else arg18.view.read (Elt Ideal) f18 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 2 a b)) := by
      intro a b f
      unfold kernelRunV.sl.H18_3
      rw [View.read_writes_full]
      refine (mx2_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => max z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 2 a b)) ((cov_apply arg18.view _ _).trans (mx2 a b _))
    have mx4 : ∀ (a : Fin 256) (b : Fin 128) (f), arg18.view.read (Elt Ideal) (arg18.view.writes (Elt Ideal) f (kernelRunV.sl.H18_4 c i arg1 arg2 arg3 arg4 arg5 arg13 arg14 arg15 arg18 f1 f2 f3 f4 f5 f13 f14 f15 f18)) (ix2 a b) = (max (max (max (max (if k0_cond1 i = 1#1 then Ideal.ofBits .f32 0xFF800000#32 else arg18.view.read (Elt Ideal) f18 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 3 a b)) := by
      intro a b f
      unfold kernelRunV.sl.H18_4
      rw [View.read_writes_full]
      refine (mx3_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => max z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 3 a b)) ((cov_apply arg18.view _ _).trans (mx3 a b _))
    constructor
    · exact read_qz _ _ _ _ (xb_read arg1.view f1 arg13.view f13)
    · exact read_qz _ _ _ _ (xmb_read arg1.view f1 arg14.view f14)
    · exact read_qz _ _ _ _ (xkb_read arg1.view f1 arg15.view f15)
    · exact read_qz _ _ _ _ (xc_read arg1.view f1 arg10.view f10)
    · exact read_qz _ _ _ _ (xm_read arg1.view f1 arg11.view f11)
    · exact read_qz _ _ _ _ (xk_read arg1.view f1 arg12.view f12)
    · intro r j a b hj
      refine (h4_read arg16.view f16 i _ _ _ _ _ _ _ _ (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5)) (hs0_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs1_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs2_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs3_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) j a b).trans ?_
      rw [dif_pos ⟨by omega, by omega⟩]
      exact congrArg (fun q => hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) q a b) (Fin.ext (by show j.val - 4 * (i 0).val = r.val; omega))
    · intro j a b hj
      refine (h4_read arg16.view f16 i _ _ _ _ _ _ _ _ (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5)) (hs0_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs1_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs2_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs3_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) j a b).trans ?_
      rw [dif_neg (by omega)]
    · exact fun h => absurd h2 h
    · exact fun h => absurd h2 h
    · intro _
      have eMN : ∀ (a : Fin 256) (b : Fin 128), kernelRunV.sl.v396 c i arg1 arg2 arg3 arg4 arg5 arg13 arg14 arg15 arg17 f1 f2 f3 f4 f5 f13 f14 f15 f17 (ix2 a b) = _ := fun a b => (cov_apply arg17.view _ _).trans (mn4 a b _)
      have eMX : ∀ (a : Fin 256) (b : Fin 128), kernelRunV.sl.v399 c i arg1 arg2 arg3 arg4 arg5 arg13 arg14 arg15 arg18 f1 f2 f3 f4 f5 f13 f14 f15 f18 (ix2 a b) = _ := fun a b => (cov_apply arg18.view _ _).trans (mx4 a b _)
      have eLO : ∀ a (z : Fin 1), kernelRunV.sl.r_90 c i arg1 arg2 arg3 arg4 arg5 arg13 arg14 arg15 arg17 f1 f2 f3 f4 f5 f13 f14 f15 f17 (ix2 a z) = _ := fun a z =>
        (pay136_at _ a z).trans (congrArg kLo (funext fun b => eMN a b))
      have eD : ∀ a (z : Fin 1), kernelRunV.sl.r_92 c i arg1 arg2 arg3 arg4 arg5 arg13 arg14 arg15 arg17 arg18 f1 f2 f3 f4 f5 f13 f14 f15 f17 f18 (ix2 a z) = _ := fun a z =>
        (pay139_at _ _ a z).trans (congrArg₂ (fun p q => kHM (kD p q)) (congrArg kLo (funext fun b => eMN a b)) (congrArg kHi (funext fun b => eMX a b)))
      have eN : ∀ a (z : Fin 1), kernelRunV.sl.r_91 c i arg1 arg2 arg3 arg4 arg5 arg13 arg14 arg15 arg17 arg18 f1 f2 f3 f4 f5 f13 f14 f15 f17 f18 (ix2 a z) = _ := fun a z =>
        (pay138_at _ _ a z).trans (congrArg₂ (fun p q => kHN (kD p q)) (congrArg kLo (funext fun b => eMN a b)) (congrArg kHi (funext fun b => eMX a b)))
      refine ⟨_, _, fun a => rfl, fun a => rfl, fun a z => ?_, fun a z => ?_, fun a z => ?_, fun j a b => ?_⟩
      · exact (congrFun (View.read_writes_full arg7.view _ _ _ _) (ix2 a z)).trans (eD a z)
      · exact (congrFun (View.read_writes_full arg8.view _ _ _ _) (ix2 a z)).trans ((pay2_at _ _).trans (congrArg _ (eN a z)))
      · exact (congrFun (View.read_writes_full arg9.view _ _ _ _) (ix2 a z)).trans ((pay3_at _ _).trans (congrArg _ (eLO a z)))
      · refine (loop_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 _ _ _ f6 148 le_rfl j a b j.isLt).trans ?_
        refine congrArg₂ (kCode _) ?_ ?_
        · exact (congrFun (View.read_writes_full arg17.view _ _ _ _) (ix2 a b)).trans ((pay4_at _ a b).trans (eLO a 0))
        · exact (congrFun (View.read_writes_full arg18.view _ _ _ _) (ix2 a b)).trans ((pay5_at _ _ a b).trans (congrArg₂ kScale (eN a 0) (eD a 0)))
  · sl_exec
    sl_step
    iapply Hk
    iexists _
    iexists _
    iexists _
    iexists _
    iexists (arg10.view.read (Elt Ideal) (qz (k0_cond1 i = 1#1) arg10.view f10 (xc_readL arg1.view f1)))
    iexists (arg11.view.read (Elt Ideal) (qz (k0_cond1 i = 1#1) arg11.view f11 (xm_readL arg1.view f1)))
    iexists (arg12.view.read (Elt Ideal) (qz (k0_cond1 i = 1#1) arg12.view f12 (xk_readL arg1.view f1)))
    iexists (arg13.view.read (Elt Ideal) (qz (k0_cond1 i = 1#1) arg13.view f13 (xb_readL arg1.view f1)))
    iexists (arg14.view.read (Elt Ideal) (qz (k0_cond1 i = 1#1) arg14.view f14 (xmb_readL arg1.view f1)))
    iexists (arg15.view.read (Elt Ideal) (qz (k0_cond1 i = 1#1) arg15.view f15 (xkb_readL arg1.view f1)))
    iexists _
    iexists _
    iexists _
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    ipureintro
    have mn0 : ∀ (a : Fin 256) (b : Fin 128), kernelRunV.sl.v119_1 c i arg17 f17 (ix2 a b) = (if k0_cond1 i = 1#1 then Ideal.ofBits .f32 0x7F800000#32 else arg17.view.read (Elt Ideal) f17 (ix2 a b)) := fun a b => acc_dite arg17.view f17 _ _ pay135_at (ix2 a b)
    have mn1 : ∀ (a : Fin 256) (b : Fin 128) (f), arg17.view.read (Elt Ideal) (arg17.view.writes (Elt Ideal) f (kernelRunV.sl.H17_1_1 c i arg1 arg2 arg3 arg4 arg5 arg13 arg14 arg15 arg17 f1 f2 f3 f4 f5 f13 f14 f15 f17)) (ix2 a b) = (min (if k0_cond1 i = 1#1 then Ideal.ofBits .f32 0x7F800000#32 else arg17.view.read (Elt Ideal) f17 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) := by
      intro a b f
      unfold kernelRunV.sl.H17_1_1
      rw [View.read_writes_full]
      refine (mn0_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => min z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (mn0 a b)
    have mn2 : ∀ (a : Fin 256) (b : Fin 128) (f), arg17.view.read (Elt Ideal) (arg17.view.writes (Elt Ideal) f (kernelRunV.sl.H17_2_1 c i arg1 arg2 arg3 arg4 arg5 arg13 arg14 arg15 arg17 f1 f2 f3 f4 f5 f13 f14 f15 f17)) (ix2 a b) = (min (min (if k0_cond1 i = 1#1 then Ideal.ofBits .f32 0x7F800000#32 else arg17.view.read (Elt Ideal) f17 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) := by
      intro a b f
      unfold kernelRunV.sl.H17_2_1
      rw [View.read_writes_full]
      refine (mn1_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => min z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) ((cov_apply arg17.view _ _).trans (mn1 a b _))
    have mn3 : ∀ (a : Fin 256) (b : Fin 128) (f), arg17.view.read (Elt Ideal) (arg17.view.writes (Elt Ideal) f (kernelRunV.sl.H17_3_1 c i arg1 arg2 arg3 arg4 arg5 arg13 arg14 arg15 arg17 f1 f2 f3 f4 f5 f13 f14 f15 f17)) (ix2 a b) = (min (min (min (if k0_cond1 i = 1#1 then Ideal.ofBits .f32 0x7F800000#32 else arg17.view.read (Elt Ideal) f17 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 2 a b)) := by
      intro a b f
      unfold kernelRunV.sl.H17_3_1
      rw [View.read_writes_full]
      refine (mn2_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => min z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 2 a b)) ((cov_apply arg17.view _ _).trans (mn2 a b _))
    have mx0 : ∀ (a : Fin 256) (b : Fin 128), kernelRunV.sl.v124_1 c i arg18 f18 (ix2 a b) = (if k0_cond1 i = 1#1 then Ideal.ofBits .f32 0xFF800000#32 else arg18.view.read (Elt Ideal) f18 (ix2 a b)) := fun a b => acc_dite arg18.view f18 _ _ pay140_at (ix2 a b)
    have mx1 : ∀ (a : Fin 256) (b : Fin 128) (f), arg18.view.read (Elt Ideal) (arg18.view.writes (Elt Ideal) f (kernelRunV.sl.H18_1_1 c i arg1 arg2 arg3 arg4 arg5 arg13 arg14 arg15 arg18 f1 f2 f3 f4 f5 f13 f14 f15 f18)) (ix2 a b) = (max (if k0_cond1 i = 1#1 then Ideal.ofBits .f32 0xFF800000#32 else arg18.view.read (Elt Ideal) f18 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) := by
      intro a b f
      unfold kernelRunV.sl.H18_1_1
      rw [View.read_writes_full]
      refine (mx0_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => max z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (mx0 a b)
    have mx2 : ∀ (a : Fin 256) (b : Fin 128) (f), arg18.view.read (Elt Ideal) (arg18.view.writes (Elt Ideal) f (kernelRunV.sl.H18_2_1 c i arg1 arg2 arg3 arg4 arg5 arg13 arg14 arg15 arg18 f1 f2 f3 f4 f5 f13 f14 f15 f18)) (ix2 a b) = (max (max (if k0_cond1 i = 1#1 then Ideal.ofBits .f32 0xFF800000#32 else arg18.view.read (Elt Ideal) f18 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) := by
      intro a b f
      unfold kernelRunV.sl.H18_2_1
      rw [View.read_writes_full]
      refine (mx1_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => max z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) ((cov_apply arg18.view _ _).trans (mx1 a b _))
    have mx3 : ∀ (a : Fin 256) (b : Fin 128) (f), arg18.view.read (Elt Ideal) (arg18.view.writes (Elt Ideal) f (kernelRunV.sl.H18_3_1 c i arg1 arg2 arg3 arg4 arg5 arg13 arg14 arg15 arg18 f1 f2 f3 f4 f5 f13 f14 f15 f18)) (ix2 a b) = (max (max (max (if k0_cond1 i = 1#1 then Ideal.ofBits .f32 0xFF800000#32 else arg18.view.read (Elt Ideal) f18 (ix2 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 0 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 1 a b)) (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 2 a b)) := by
      intro a b f
      unfold kernelRunV.sl.H18_3_1
      rw [View.read_writes_full]
      refine (mx2_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_
      exact congrArg (fun z => max z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 2 a b)) ((cov_apply arg18.view _ _).trans (mx2 a b _))
    constructor
    · exact read_qz _ _ _ _ (xb_read arg1.view f1 arg13.view f13)
    · exact read_qz _ _ _ _ (xmb_read arg1.view f1 arg14.view f14)
    · exact read_qz _ _ _ _ (xkb_read arg1.view f1 arg15.view f15)
    · exact read_qz _ _ _ _ (xc_read arg1.view f1 arg10.view f10)
    · exact read_qz _ _ _ _ (xm_read arg1.view f1 arg11.view f11)
    · exact read_qz _ _ _ _ (xk_read arg1.view f1 arg12.view f12)
    · intro r j a b hj
      refine (h4_read arg16.view f16 i _ _ _ _ _ _ _ _ (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5)) (hs0_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs1_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs2_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs3_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) j a b).trans ?_
      rw [dif_pos ⟨by omega, by omega⟩]
      exact congrArg (fun q => hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) q a b) (Fin.ext (by show j.val - 4 * (i 0).val = r.val; omega))
    · intro j a b hj
      refine (h4_read arg16.view f16 i _ _ _ _ _ _ _ _ (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5)) (hs0_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs1_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs2_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) (hs3_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1))) j a b).trans ?_
      rw [dif_neg (by omega)]
    · intro _ a b
      refine (congrFun (View.read_writes_full arg17.view _ _ _ _) (ix2 a b)).trans ((mn3_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_)
      exact congrArg (fun z => min z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 3 a b)) ((cov_apply arg17.view _ _).trans (mn3 a b _))
    · intro _ a b
      refine (congrFun (View.read_writes_full arg18.view _ _ _ _) (ix2 a b)).trans ((mx3_read arg13.view (qz (k0_cond1 i = 1#1) arg13.view f13 (xb_readL arg1.view f1)) arg2.view arg3.view f2 f3 arg4.view arg5.view f4 f5 arg14.view arg15.view (qz (k0_cond1 i = 1#1) arg14.view f14 (xmb_readL arg1.view f1)) (qz (k0_cond1 i = 1#1) arg15.view f15 (xkb_readL arg1.view f1)) _ a b).trans ?_)
      exact congrArg (fun z => max z (hBlk (arg13.view.read (Elt Ideal) (qz (k0_cond1 i = 1#1) arg13.view f13 (xb_readL arg1.view f1))) (arg14.view.read (Elt Ideal) (qz (k0_cond1 i = 1#1) arg14.view f14 (xmb_readL arg1.view f1))) (arg15.view.read (Elt Ideal) (qz (k0_cond1 i = 1#1) arg15.view f15 (xkb_readL arg1.view f1))) (arg2.view.read (Elt Ideal) f2) (arg3.view.read (Elt Ideal) f3) (arg4.view.read (Elt Ideal) f4) (arg5.view.read (Elt Ideal) f5) 3 a b)) ((cov_apply arg18.view _ _).trans (mx3 a b _))
    · exact fun h => absurd h h2

end Cert.KernelIdeal.Hand
end
-- ==== Proof.KernelIdealValue.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import proofs.«01_k».proof.Proof.KernelIdealBody
public import Idealize.ShloMosaic.Lib.Pipeline.FrameBody
public import Idealize.ShloMosaic.Lib.Pipeline.Value
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-! ## The kernel's arrays, point by point -/

section spec
variable (X : S256x3584.Idx → BitVec 32) (W1 W2 : ℕ → S3584x512.Idx → BitVec 8) (E1 E2 : ℕ → S1x512.Idx → BitVec 32)

/-- The hidden values that point `t` computes, block `r` of four. -/
def hT (t : ℕ) (r : Fin 4) (a : Fin 256) (b : Fin 128) : EReal :=
  hBlk (XB X) (fun y => XM X (y 0)) (fun y => XK X (y 0)) (W1 t) (W2 t) (E1 t) (E2 t) r a b

/-- The running minima before point `n`, -/
def mnA : ℕ → Fin 256 → Fin 128 → EReal
  | 0, _, _ => Ideal.ofBits .f32 0x7F800000#32
  | n + 1, a, b => mn4 (fun r => hT X W1 W2 E1 E2 n r a b) (mnA n a b)
/-- and the running maxima. -/
def mxA : ℕ → Fin 256 → Fin 128 → EReal
  | 0, _, _ => Ideal.ofBits .f32 0xFF800000#32
  | n + 1, a, b => mx4 (fun r => hT X W1 W2 E1 E2 n r a b) (mxA n a b)

/-- A row's least hidden value, -/
def sLo (a : Fin 256) : EReal := kLo fun b => mnA X W1 W2 E1 E2 37 a b
/-- its greatest, -/
def sHi (a : Fin 256) : EReal := kHi fun b => mxA X W1 W2 E1 E2 37 a b
/-- and its range. -/
def sD (a : Fin 256) : BitVec 32 := kD (sLo X W1 W2 E1 E2 a) (sHi X W1 W2 E1 E2 a)

/-- What the buffers that the body keeps hold before point `n`. -/
structure Inv (n : ℕ) (b : S256x3584.Idx → EReal) (m : S256x128.Idx → BitVec 32) (k : S256x128.Idx → BitVec 32)
    (hh : S148x256x128.Idx → EReal) (mn : S256x128.Idx → EReal) (mx : S256x128.Idx → EReal) : Prop where
  ib : b = XB X
  im : m = fun y => XM X (y 0)
  ik : k = fun y => XK X (y 0)
  ih : ∀ (t : ℕ) (r : Fin 4) (j : Fin 148) (x : Fin 256) (y : Fin 128), t < n → j.val = 4 * t + r.val → hh (ix3 j x y) = hT X W1 W2 E1 E2 t r x y
  imn : n ≠ 37 → ∀ (x : Fin 256) (y : Fin 128), mn (ix2 x y) = mnA X W1 W2 E1 E2 n x y
  imx : n ≠ 37 → ∀ (x : Fin 256) (y : Fin 128), mx (ix2 x y) = mxA X W1 W2 E1 E2 n x y

/-- The final codes, -/
def Fin6 (x : S256x18944.Idx → BitVec 8) : Prop := ∀ (t : ℕ) (r : Fin 4) (j : Fin 148) (a : Fin 256) (b : Fin 128), t < 37 → j.val = 4 * t + r.val →
  x (ix2 a ⟨128 * j.val + b.val, by omega⟩) = kCode (hT X W1 W2 E1 E2 t r a b) (sLo X W1 W2 E1 E2 a)
    (kScale (kHN (sD X W1 W2 E1 E2 a)) (kHM (sD X W1 W2 E1 E2 a)))
/-- mantissas, -/
def Fin7 (x : S256x1.Idx → BitVec 32) : Prop := ∀ (a : Fin 256) (z : Fin 1), x (ix2 a z) = kHM (sD X W1 W2 E1 E2 a)
/-- exponents -/
def Fin8 (x : S256x1.Idx → BitVec 32) : Prop := ∀ (a : Fin 256) (z : Fin 1), x (ix2 a z) = IntOp.subi 25#32 (kHN (sD X W1 W2 E1 E2 a))
/-- and minima. -/
def Fin9 (x : S256x1.Idx → BitVec 32) : Prop := ∀ (a : Fin 256) (z : Fin 1), x (ix2 a z) = FloatOps.fptosi (F := Ideal) (φ := .f32) 32 (sLo X W1 W2 E1 E2 a)

variable {X W1 W2 E1 E2}

/-- One run of the body at point `n` carries the kept buffers on, and at the last point leaves the results. -/
theorem step {i : grid0.Coords} {n : ℕ} (hi : (i 0).val = n) (hn : n < 37) (c1 : k0_cond1 i = 1#1 ↔ n = 0) (c2 : k0_cond2 i = 1#1 ↔ n = 36)
    {x6 x7 x8 x9 cx cm ck b m k hh mn mx x6' x7' x8' x9' cx' cm' ck' B' M' K' hh' mn' mx'}
    (h : VPost i X (W1 n) (W2 n) (E1 n) (E2 n) x6 x7 x8 x9 cx cm ck b m k hh mn mx x6' x7' x8' x9' cx' cm' ck' B' M' K' hh' mn' mx')
    (hI : n ≠ 0 → Inv X W1 W2 E1 E2 n b m k hh mn mx)
    (hx : n ≠ 0 → cx = XC X) (hm : n ≠ 0 → cm = fun y => XM X (y 0)) (hk : n ≠ 0 → ck = fun y => XK X (y 0)) :
    Inv X W1 W2 E1 E2 (n + 1) B' M' K' hh' mn' mx' ∧ cx' = XC X ∧ cm' = (fun y => XM X (y 0)) ∧ ck' = (fun y => XK X (y 0))
      ∧ (n = 36 → Fin6 X W1 W2 E1 E2 x6' ∧ Fin7 X W1 W2 E1 E2 x7' ∧ Fin8 X W1 W2 E1 E2 x8' ∧ Fin9 X W1 W2 E1 E2 x9') := by
  have eB : B' = XB X := by
    rw [h.hb]; split_ifs with q
    · rfl
    · exact (hI (fun e => q (c1.2 e))).ib
  have eM : M' = fun y => XM X (y 0) := by
    rw [h.hm]; split_ifs with q
    · rfl
    · exact (hI (fun e => q (c1.2 e))).im
  have eK : K' = fun y => XK X (y 0) := by
    rw [h.hk]; split_ifs with q
    · rfl
    · exact (hI (fun e => q (c1.2 e))).ik
  have eH : ∀ (r : Fin 4) a b, hBlk B' M' K' (W1 n) (W2 n) (E1 n) (E2 n) r a b = hT X W1 W2 E1 E2 n r a b := by
    intro r a b; rw [eB, eM, eK]; rfl
  have eN : n ≠ 37 → ∀ a b, (if k0_cond1 i = 1#1 then Ideal.ofBits .f32 0x7F800000#32 else mn (ix2 a b)) = mnA X W1 W2 E1 E2 n a b := by
    intro _ a b; split_ifs with q
    · rw [c1.1 q]; rfl
    · exact (hI (fun e => q (c1.2 e))).imn (by omega) a b
  have eX : n ≠ 37 → ∀ a b, (if k0_cond1 i = 1#1 then Ideal.ofBits .f32 0xFF800000#32 else mx (ix2 a b)) = mxA X W1 W2 E1 E2 n a b := by
    intro _ a b; split_ifs with q
    · rw [c1.1 q]; rfl
    · exact (hI (fun e => q (c1.2 e))).imx (by omega) a b
  have eHH : ∀ (t : ℕ) (r : Fin 4) (j : Fin 148) (x : Fin 256) (y : Fin 128), t < n + 1 → j.val = 4 * t + r.val → hh' (ix3 j x y) = hT X W1 W2 E1 E2 t r x y := by
    intro t r j x y ht hj
    by_cases q : t = n
    · subst q
      rw [h.hin r j x y (by rw [hi]; exact hj), eH]
    · rw [h.hout j x y (Or.inl (by rw [hi]; have := r.isLt; omega))]
      exact (hI (by omega)).ih t r j x y (by omega) hj
  refine ⟨⟨eB, eM, eK, eHH, ?_, ?_⟩, ?_, ?_, ?_, ?_⟩
  · intro q a b
    rw [h.hmn (fun e => q (by rw [c2.1 e])) a b, eN (by omega)]
    simp only [eH]; rfl
  · intro q a b
    rw [h.hmx (fun e => q (by rw [c2.1 e])) a b, eX (by omega)]
    simp only [eH]; rfl
  · rw [h.hcx]; split_ifs with q
    · rfl
    · exact hx (fun e => q (c1.2 e))
  · rw [h.hcm]; split_ifs with q
    · rfl
    · exact hm (fun e => q (c1.2 e))
  · rw [h.hck]; split_ifs with q
    · rfl
    · exact hk (fun e => q (c1.2 e))
  · intro q
    obtain ⟨lo, hi', h1, h2, h3, h4, h5, h6⟩ := h.hfin (c2.2 q)
    have l : ∀ a, lo a = sLo X W1 W2 E1 E2 a := by
      intro a; rw [h1 a]; simp only [eH, eN (by omega)]; subst q; rfl
    have u : ∀ a, hi' a = sHi X W1 W2 E1 E2 a := by
      intro a; rw [h2 a]; simp only [eH, eX (by omega)]; subst q; rfl
    have d : ∀ a, kD (lo a) (hi' a) = sD X W1 W2 E1 E2 a := by
      intro a; rw [l, u]; rfl
    refine ⟨?_, ?_, ?_, ?_⟩
    · intro t r j a b ht hj
      rw [h6 j a b, d, l, eHH t r j a b (by omega) hj]
    · intro a z; rw [h3 a z, d]
    · intro a z; rw [h4 a z, d]
    · intro a z; rw [h5 a z, l]
end spec

theorem coords0 : ∀ t : Fin cfg0.N, (grid0.coords t 0).val = t.val := by decide +kernel
theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 36 := by decide +kernel
theorem lt37 (t : Fin cfg0.N) : t.val < 37 := lt_of_lt_of_eq t.isLt N_0

variable (m : (ℓ : Loc nD τ sig) → Buf (Elt Ideal) ℓ) (ρ : Dev nD → PrngReg) (c : Dev nD)

/-- The point of a number below 37. -/
def pt (n : ℕ) : Fin cfg0.N := ⟨n % 37, lt_of_lt_of_eq (Nat.mod_lt _ (by omega)) N_0.symm⟩
theorem pt_val (t : Fin cfg0.N) : pt t.val = t := Fin.ext (Nat.mod_eq_of_lt (lt37 t))

/-- The block of `x`, -/
def bX : S256x3584.Idx → BitVec 32 := iblk m c 0 (pt 0)
/-- the blocks of the two weight matrices -/
def bW1 (n : ℕ) : S3584x512.Idx → BitVec 8 := iblk m c 1 (pt n)
def bW2 (n : ℕ) : S3584x512.Idx → BitVec 8 := iblk m c 2 (pt n)
/-- and of their exponents. -/
def bE1 (n : ℕ) : S1x512.Idx → BitVec 32 := iblk m c 3 (pt n)
def bE2 (n : ℕ) : S1x512.Idx → BitVec 32 := iblk m c 4 (pt n)

/-- What the body may leave in a window. -/
def Aft : (w : Fin 12) → Fin cfg0.N → (Y X : (cfg0.win w).block.Idx → Elt Ideal (cfg0.win w).elt) → Prop
  | 0 => fun _ Y X => X = Y
  | 1 => fun _ Y X => X = Y
  | 2 => fun _ Y X => X = Y
  | 3 => fun _ Y X => X = Y
  | 4 => fun _ Y X => X = Y
  | 5 => fun t _ X => t.val = 36 → Fin6 (bX m c) (bW1 m c) (bW2 m c) (bE1 m c) (bE2 m c) X
  | 6 => fun t _ X => t.val = 36 → Fin7 (bX m c) (bW1 m c) (bW2 m c) (bE1 m c) (bE2 m c) X
  | 7 => fun t _ X => t.val = 36 → Fin8 (bX m c) (bW1 m c) (bW2 m c) (bE1 m c) (bE2 m c) X
  | 8 => fun t _ X => t.val = 36 → Fin9 (bX m c) (bW1 m c) (bW2 m c) (bE1 m c) (bE2 m c) X
  | 9 => fun _ _ X => X = XC (bX m c)
  | 10 => fun _ _ X => X = (fun y : S256x1.Idx => XM (bX m c) (y 0))
  | 11 => fun _ _ X => X = (fun y : S256x1.Idx => XK (bX m c) (y 0))

/-- The kept buffers before a point, and the core's generator register. -/
def ΦV (n : ℕ) : sProp 𝕄 :=
  iprop((∃ (g13 : S256x3584.Idx → EReal) (g14 : S256x128.Idx → BitVec 32) (g15 : S256x128.Idx → BitVec 32) (g16 : S148x256x128.Idx → EReal)
      (g17 : S256x128.Idx → EReal) (g18 : S256x128.Idx → EReal),
      ⌜n ≠ 0 → Inv (bX m c) (bW1 m c) (bW2 m c) (bE1 m c) (bE2 m c) n g13 g14 g15 g16 g17 g18⌝
      ∗ owns (c : Thread nD τ) (Memref.whole cc0_scratch0) fullShare g13 ∗ owns (c : Thread nD τ) (Memref.whole cc0_scratch1) fullShare g14
      ∗ owns (c : Thread nD τ) (Memref.whole cc0_scratch2) fullShare g15 ∗ owns (c : Thread nD τ) (Memref.whole cc0_scratch3) fullShare g16
      ∗ owns (c : Thread nD τ) (Memref.whole cc0_scratch4) fullShare g17 ∗ owns (c : Thread nD τ) (Memref.whole cc0_scratch5) fullShare g18)
    ∗ ∃ r, prngReg c r)

/-- The proof data: what the body leaves in each window and keeps between points. -/
def vdat (c : Dev nD) : RDat τ (Elt Ideal) Unit ℕ (UR sig nD τ) ℕ cfg0 c where
  A w := V m c (Pipeline.arrRef spec0 w)
  after w := Aft m c w
  Φ t := ΦV m c t.val
  q _ := fullShare
  owed _ := 0

theorem find0 (t : Fin cfg0.N) (Y : S256x3584.Idx → BitVec 32) (h : (vdat m c).Finds 0 t Y) : Y = bX m c := by
  obtain ⟨d, rfl⟩ := (vdat m c).finds_in_eq_fetched 0 rfl (fun _ _ _ => rfl) (fun _ _ _ h => h) t Y h
  rfl
theorem find1 (t : Fin cfg0.N) (Y : S3584x512.Idx → BitVec 8) (h : (vdat m c).Finds 1 t Y) : Y = bW1 m c t.val := by
  obtain ⟨d, rfl⟩ := (vdat m c).finds_in_eq_fetched 1 rfl (fun _ _ _ => rfl) (fun _ _ _ h => h) t Y h
  unfold bW1; rw [pt_val]; rfl
theorem find2 (t : Fin cfg0.N) (Y : S3584x512.Idx → BitVec 8) (h : (vdat m c).Finds 2 t Y) : Y = bW2 m c t.val := by
  obtain ⟨d, rfl⟩ := (vdat m c).finds_in_eq_fetched 2 rfl (fun _ _ _ => rfl) (fun _ _ _ h => h) t Y h
  unfold bW2; rw [pt_val]; rfl
theorem find3 (t : Fin cfg0.N) (Y : S1x512.Idx → BitVec 32) (h : (vdat m c).Finds 3 t Y) : Y = bE1 m c t.val := by
  obtain ⟨d, rfl⟩ := (vdat m c).finds_in_eq_fetched 3 rfl (fun _ _ _ => rfl) (fun _ _ _ h => h) t Y h
  unfold bE1; rw [pt_val]; rfl
theorem find4 (t : Fin cfg0.N) (Y : S1x512.Idx → BitVec 32) (h : (vdat m c).Finds 4 t Y) : Y = bE2 m c t.val := by
  obtain ⟨d, rfl⟩ := (vdat m c).finds_in_eq_fetched 4 rfl (fun _ _ _ => rfl) (fun _ _ _ h => h) t Y h
  unfold bE2; rw [pt_val]; rfl

/-- A window that no fetch fills and only the last point writes back is found as the point before left it. -/
theorem find_out {w : Fin cfg0.W} (hw : ∀ t, (cfg0.win w).fetch t = false) (hf : ∀ t, (cfg0.win w).flush t = true ↔ t.val % 37 = 36)
    (t : Fin cfg0.N) (ht : t.val ≠ 0) (Y) (h : (vdat m c).Finds w t Y) : ∃ (t' : Fin cfg0.N) (Y' : _), (vdat m c).after w t' Y' Y := by
  rcases ((vdat m c).finds_of_pos (hw t) ht Y).1 h with q | ⟨Y', _, q⟩
  · have := (hf _).1 q
    have := lt37 t
    simp only at *
    omega
  · exact ⟨_, Y', q⟩
theorem find9 (t : Fin cfg0.N) (ht : t.val ≠ 0) (Y : S256x3584.Idx → BitVec 8) (h : (vdat m c).Finds 9 t Y) : Y = XC (bX m c) :=
  let ⟨_, _, q⟩ := find_out m c (w := 9) (fun _ => rfl) flush0_9 t ht Y h
  q
theorem find10 (t : Fin cfg0.N) (ht : t.val ≠ 0) (Y : S256x1.Idx → BitVec 32) (h : (vdat m c).Finds 10 t Y) : Y = fun y : S256x1.Idx => XM (bX m c) (y 0) :=
  let ⟨_, _, q⟩ := find_out m c (w := 10) (fun _ => rfl) flush0_10 t ht Y h
  q
theorem find11 (t : Fin cfg0.N) (ht : t.val ≠ 0) (Y : S256x1.Idx → BitVec 32) (h : (vdat m c).Finds 11 t Y) : Y = fun y : S256x1.Idx => XK (bX m c) (y 0) :=
  let ⟨_, _, q⟩ := find_out m c (w := 11) (fun _ => rfl) flush0_11 t ht Y h
  q

theorem defsV_row (t : Fin cfg0.N) : defs₀ (F := Ideal) .tc cfg0.body (cfg0.bodyArgs t (cfg0.slots t)) = bodyAt0 t := by
  unfold defs₀; rw [Defs.onTc_tc]

theorem body_obligationV (c : Dev nD) :
    (vdat m c).BodyObligation (defs₀ (F := Ideal)) Variants.none () Set.univ := by
  intro t Y hY
  rw [bigSep_W0, bigSep_W0, defsV_row]
  rw [show (vdat m c).Φ t.succ = ΦV m c (t.val + 1) from rfl,
    show (vdat m c).owesAt () t.succ = (vdat m c).owesAt () t.castSucc from rfl,
    show (vdat m c).Φ t.castSucc = ΦV m c t.val from rfl]
  have y0 := find0 m c t (Y 0) (hY 0)
  have y1 := find1 m c t (Y 1) (hY 1)
  have y2 := find2 m c t (Y 2) (hY 2)
  have y3 := find3 m c t (Y 3) (hY 3)
  have y4 := find4 m c t (Y 4) (hY 4)
  have y9 := fun h => find9 m c t h (Y 9) (hY 9)
  have y10 := fun h => find10 m c t h (Y 10) (hY 10)
  have y11 := fun h => find11 m c t h (Y 11) (hY 11)
  unfold ΦV
  iintro ⟨⟨⟨%g13, %g14, %g15, %g16, %g17, %g18, %hI, G13, G14, G15, G16, G17, G18⟩, Hr⟩, HO, G1, G2, G3, G4, G5, G6, G7, G8, G9, G10, G11, G12⟩
  iapply (kernelRunV c (grid0.coords t) _ _ _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Y 0) (Y 1) (Y 2) (Y 3) (Y 4) (Y 5) (Y 6) (Y 7) (Y 8) (Y 9) (Y 10) (Y 11) g13 g14 g15 g16 g17 g18 _)
  isplitl [G1 G2 G3 G4 G5 G6 G7 G8 G9 G10 G11 G12 G13 G14 G15 G16 G17 G18]
  · isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    iexact G18
  iintro ⟨%x6, %x7, %x8, %x9, %cx, %cm, %ck, %B', %M', %K', %hh', %mn', %mx', G1, G2, G3, G4, G5, G6, G7, G8, G9, G10, G11, G12, G13, G14, G15, G16, G17, G18, %hP⟩
  rw [y0, y1, y2, y3, y4] at hP
  have hS := step (W1 := bW1 m c) (W2 := bW2 m c) (E1 := bE1 m c) (E2 := bE2 m c) (coords0 t) (lt37 t) (cond1_iff t) (cond2_iff t) hP hI y9 y10 y11
  isplitl [Hr G13 G14 G15 G16 G17 G18]
  · isplitr [Hr]
    · iexists B', M', K', hh', mn', mx'
      isplitr
      · ipureintro; exact fun _ => hS.1
      isplitl [G13]; · iexact G13
      isplitl [G14]; · iexact G14
      isplitl [G15]; · iexact G15
      isplitl [G16]; · iexact G16
      isplitl [G17]; · iexact G17
      iexact G18
    iexact Hr
  isplitl [HO]; · iexact HO
  isplitl [G1]
  · iexists _; isplitr; swap; · iexact G1
    ipureintro; exact rfl
  isplitl [G2]
  · iexists _; isplitr; swap; · iexact G2
    ipureintro; exact rfl
  isplitl [G3]
  · iexists _; isplitr; swap; · iexact G3
    ipureintro; exact rfl
  isplitl [G4]
  · iexists _; isplitr; swap; · iexact G4
    ipureintro; exact rfl
  isplitl [G5]
  · iexists _; isplitr; swap; · iexact G5
    ipureintro; exact rfl
  isplitl [G6]
  · iexists _; isplitr; swap; · iexact G6
    ipureintro; exact fun q => (hS.2.2.2.2 q).1
  isplitl [G7]
  · iexists _; isplitr; swap; · iexact G7
    ipureintro; exact fun q => (hS.2.2.2.2 q).2.1
  isplitl [G8]
  · iexists _; isplitr; swap; · iexact G8
    ipureintro; exact fun q => (hS.2.2.2.2 q).2.2.1
  isplitl [G9]
  · iexists _; isplitr; swap; · iexact G9
    ipureintro; exact fun q => (hS.2.2.2.2 q).2.2.2
  isplitl [G10]
  · iexists _; isplitr; swap; · iexact G10
    ipureintro; exact hS.2.1
  isplitl [G11]
  · iexists _; isplitr; swap; · iexact G11
    ipureintro; exact hS.2.2.1
  iexists _; isplitr; swap; · iexact G12
  ipureintro; exact hS.2.2.2.1

theorem hinV (c : Dev nD) : Pipeline.ΦA spec0 c ⊢ (vdat m c).Φ 0 := by
  rw [show (vdat m c).Φ 0 = ΦV m c 0 from rfl]
  unfold Pipeline.ΦA ΦV
  rw [scopedRest0_eq]
  simp only [owns_whole]
  iintro ⟨⟨⟨%g13, G13⟩, ⟨%g14, G14⟩, ⟨%g15, G15⟩, ⟨%g16, G16⟩, ⟨%g17, G17⟩, ⟨%g18, G18⟩⟩, Hr⟩
  isplitr [Hr]
  · iexists g13, g14, g15, g16, g17, g18
    isplitr
    · ipureintro; exact fun h => absurd rfl h
    isplitl [G13]; · iexact G13
    isplitl [G14]; · iexact G14
    isplitl [G15]; · iexact G15
    isplitl [G16]; · iexact G16
    isplitl [G17]; · iexact G17
    iexact G18
  iexact Hr

theorem houtV (c : Dev nD) : (vdat m c).Φ (Fin.last cfg0.N) ⊢ Pipeline.ΦA spec0 c := by
  rw [show (vdat m c).Φ (Fin.last cfg0.N) = ΦV m c cfg0.N from rfl]
  unfold Pipeline.ΦA ΦV
  rw [scopedRest0_eq]
  simp only [owns_whole]
  iintro ⟨⟨%g13, %g14, %g15, %g16, %g17, %g18, %hI, G13, G14, G15, G16, G17, G18⟩, Hr⟩
  isplitr [Hr]
  · isplitl [G13]; · iexists g13; iexact G13
    isplitl [G14]; · iexists g14; iexact G14
    isplitl [G15]; · iexists g15; iexact G15
    isplitl [G16]; · iexists g16; iexact G16
    isplitl [G17]; · iexists g17; iexact G17
    iexists g18; iexact G18
  iexact Hr

set_option backward.isDefEq.respectTransparency.types false in
theorem run_mainV :
    θ_run defs (onTc (τ := τ) (main (F := Ideal))) (s₀ m ρ)
      (fun r => Pipeline.RDat.FramePost (cfgs 0) (vdat m) (V m) r ∧ r.2.sem = fun _ => 0) :=
  Pipeline.RDat.θ_run_frame_track (Q' := _) cfgs (0 : Fin 1) launch0 defs₀ Variants.none (vdat m) m ρ main
    (hbody := body_obligationV m) (hshare := fun c w => by unfold RDat.share; split <;> rfl)
    (howed := fun _ _ => rfl) (V := V m) (hmain := hmain m Variants.none) (hA := fun _ _ => rfl) (hin := hinV m) (hout := houtV m)

/-- What the program leaves: the seven results by the blocks they were computed from, and the arguments as they were. -/
theorem valueV :
    θ_run defs (onTc (τ := τ) (main (F := Ideal))) ⟨m, fun _ => 0, ρ⟩ (fun r => ∀ c : Dev nD,
      (Fin6 (bX m c) (bW1 m c) (bW2 m c) (bE1 m c) (bE2 m c) (r.2.mem ((c.tc : Thread nD τ).loc main_v3_0))
      ∧ Fin7 (bX m c) (bW1 m c) (bW2 m c) (bE1 m c) (bE2 m c) (r.2.mem ((c.tc : Thread nD τ).loc main_v3_1))
      ∧ Fin8 (bX m c) (bW1 m c) (bW2 m c) (bE1 m c) (bE2 m c) (r.2.mem ((c.tc : Thread nD τ).loc main_v3_2))
      ∧ Fin9 (bX m c) (bW1 m c) (bW2 m c) (bE1 m c) (bE2 m c) (r.2.mem ((c.tc : Thread nD τ).loc main_v3_3))
      ∧ r.2.mem ((c.tc : Thread nD τ).loc main_v3_4) = XC (bX m c)
      ∧ r.2.mem ((c.tc : Thread nD τ).loc main_v3_5) = (fun y : S256x1.Idx => XM (bX m c) (y 0))
      ∧ r.2.mem ((c.tc : Thread nD τ).loc main_v3_6) = (fun y : S256x1.Idx => XK (bX m c) (y 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ((h.1 c).2 main_arg0 (Pipeline.mem_restRefs_of main_arg0 (by decide) (by decide))).trans (V_main_arg0 m c),
      (cast (congrFun ((vdat m c).ArrAt_in 1 rfl _) _) ((h.1 c).1 1)).trans (V_main_arg1 m c),
      (cast (congrFun ((vdat m c).ArrAt_in 2 rfl _) _) ((h.1 c).1 2)).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_mainV m ρ)
  refine ⟨?_, ?_, ?_, ?_, ?_, ?_, ?_⟩
  · have hw : (cfg0.win 5).WholeAt (pt 36) := by decide +kernel
    obtain ⟨X, ⟨Y, _, q⟩, e⟩ := RDat.ArrAt.emb_eq_of_wholeAt (rd := vdat m c) (w := 5) ((h.1 c).1 5) hw
    have e' : r.2.mem ((c.tc : Thread nD τ).loc main_v3_0) = X := funext e
    rw [e']; exact q rfl
  · have hw : (cfg0.win 6).WholeAt (pt 36) := by decide +kernel
    obtain ⟨X, ⟨Y, _, q⟩, e⟩ := RDat.ArrAt.emb_eq_of_wholeAt (rd := vdat m c) (w := 6) ((h.1 c).1 6) hw
    have e' : r.2.mem ((c.tc : Thread nD τ).loc main_v3_1) = X := funext e
    rw [e']; exact q rfl
  · have hw : (cfg0.win 7).WholeAt (pt 36) := by decide +kernel
    obtain ⟨X, ⟨Y, _, q⟩, e⟩ := RDat.ArrAt.emb_eq_of_wholeAt (rd := vdat m c) (w := 7) ((h.1 c).1 7) hw
    have e' : r.2.mem ((c.tc : Thread nD τ).loc main_v3_2) = X := funext e
    rw [e']; exact q rfl
  · have hw : (cfg0.win 8).WholeAt (pt 36) := by decide +kernel
    obtain ⟨X, ⟨Y, _, q⟩, e⟩ := RDat.ArrAt.emb_eq_of_wholeAt (rd := vdat m c) (w := 8) ((h.1 c).1 8) hw
    have e' : r.2.mem ((c.tc : Thread nD τ).loc main_v3_3) = X := funext e
    rw [e']; exact q rfl
  · have hw : (cfg0.win 9).WholeAt (pt 36) := by decide +kernel
    obtain ⟨X, ⟨Y, _, q⟩, e⟩ := RDat.ArrAt.emb_eq_of_wholeAt (rd := vdat m c) (w := 9) ((h.1 c).1 9) hw
    have e' : r.2.mem ((c.tc : Thread nD τ).loc main_v3_4) = X := funext e
    rw [e']; exact q
  · have hw : (cfg0.win 10).WholeAt (pt 36) := by decide +kernel
    obtain ⟨X, ⟨Y, _, q⟩, e⟩ := RDat.ArrAt.emb_eq_of_wholeAt (rd := vdat m c) (w := 10) ((h.1 c).1 10) hw
    have e' : r.2.mem ((c.tc : Thread nD τ).loc main_v3_5) = X := funext e
    rw [e']; exact q
  · have hw : (cfg0.win 11).WholeAt (pt 36) := by decide +kernel
    obtain ⟨X, ⟨Y, _, q⟩, e⟩ := RDat.ArrAt.emb_eq_of_wholeAt (rd := vdat m c) (w := 11) ((h.1 c).1 11) hw
    have e' : r.2.mem ((c.tc : Thread nD τ).loc main_v3_6) = X := funext e
    rw [e']; exact q

end Cert.KernelIdeal.Hand
end
-- ==== Proof.BlockReads.lean ====
module

public import proofs.«01_k».proof.Proof.KernelIdealValue
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen

/-! ## The blocks the body is given, read off the arguments -/

theorem idx1 : ∀ t : Fin cfg0.N, (cfg0.win 1).index t 0 = 0 ∧ (cfg0.win 1).index t 1 = t.val := by decide +kernel
theorem idx2 : ∀ t : Fin cfg0.N, (cfg0.win 2).index t 0 = 0 ∧ (cfg0.win 2).index t 1 = t.val := by decide +kernel
theorem idx3 : ∀ t : Fin cfg0.N, (cfg0.win 3).index t 0 = 0 ∧ (cfg0.win 3).index t 1 = t.val := by decide +kernel
theorem idx4 : ∀ t : Fin cfg0.N, (cfg0.win 4).index t 0 = 0 ∧ (cfg0.win 4).index t 1 = t.val := by decide +kernel
theorem idx0 : ∀ t : Fin cfg0.N, (cfg0.win 0).index t 0 = 0 ∧ (cfg0.win 0).index t 1 = 0 := by decide +kernel

variable (m : (ℓ : Loc nD τ sig) → Buf (Elt Ideal) ℓ) (c : Dev nD)

theorem pt_lt (n : ℕ) (h : n < 37) : (pt n).val = n := Nat.mod_eq_of_lt h

/-- The block of `x` is all of it. -/
theorem bX_at (a : Fin 256) (k : Fin 3584) : bX m c (ix2 a k) = m ((c.tc : Thread nD τ).loc main_arg0) (ix3 (n0 := 1) (n1 := 256) (n2 := 3584) 0 a k) := by
  have e := idx0 (pt 0)
  unfold bX
  blk_ext! [iblk, V, e.1, e.2]

/-- Point `n`'s block of the first weight matrix, -/
theorem bW1_at (n : ℕ) (h : n < 37) (k : Fin 3584) (j : Fin 512) : bW1 m c n (ix2 k j)
    = m ((c.tc : Thread nD τ).loc main_arg1) (ix2 (n0 := 3584) (n1 := 18944) k ⟨512 * n + j.val, by omega⟩) := by
  have e := idx1 (pt n)
  rw [pt_lt n h] at e
  unfold bW1
  blk_ext! [iblk, V, e.1, e.2]

/-- of the second, -/
theorem bW2_at (n : ℕ) (h : n < 37) (k : Fin 3584) (j : Fin 512) : bW2 m c n (ix2 k j)
    = m ((c.tc : Thread nD τ).loc main_arg2) (ix2 (n0 := 3584) (n1 := 18944) k ⟨512 * n + j.val, by omega⟩) := by
  have e := idx2 (pt n)
  rw [pt_lt n h] at e
  unfold bW2
  blk_ext! [iblk, V, e.1, e.2]

/-- of the first one's exponents -/
theorem bE1_at (n : ℕ) (h : n < 37) (j : Fin 512) : bE1 m c n (ix2 0 j)
    = m ((c.tc : Thread nD τ).loc main_arg3) (ix1 (n0 := 18944) ⟨512 * n + j.val, by omega⟩) := by
  have e := idx3 (pt n)
  rw [pt_lt n h] at e
  unfold bE1
  blk_ext! [iblk, V, e.1, e.2]

/-- and of the second one's. -/
theorem bE2_at (n : ℕ) (h : n < 37) (j : Fin 512) : bE2 m c n (ix2 0 j)
    = m ((c.tc : Thread nD τ).loc main_arg4) (ix1 (n0 := 18944) ⟨512 * n + j.val, by omega⟩) := by
  have e := idx4 (pt n)
  rw [pt_lt n h] at e
  unfold bE2
  blk_ext! [iblk, V, e.1, e.2]

end Cert.KernelIdeal.Hand
end
-- ==== Proof.Words.lean ====
module

public import proofs.«01_k».proof.Proof.KernelIdealMat
public import Idealize.ShloMosaic.Lib.WordArith
public import Idealize.ShloMosaic.Lib.IdealHost
public import Idealize.ShloMosaic.Lib.SortNet.Extract
public import Mathlib.Data.Rat.Floor

@[expose] public section

set_option maxRecDepth 16384

noncomputable section

namespace Cert.KernelIdeal.Hand

open Idealize.ShloMosaic

/-! ## Words read as signed integers -/

/-- A word is at an integer value. -/
theorem ad (a b : BitVec 32) (h1 : -2 ^ 31 ≤ a.toInt + b.toInt) (h2 : a.toInt + b.toInt < 2 ^ 31) : (IntOp.addi a b).toInt = a.toInt + b.toInt :=
  WordArith.toInt_add_of_bounds a b h1 h2
theorem sb (a b : BitVec 32) (h1 : -2 ^ 31 ≤ a.toInt - b.toInt) (h2 : a.toInt - b.toInt < 2 ^ 31) : (IntOp.subi a b).toInt = a.toInt - b.toInt :=
  WordArith.toInt_sub_of_bounds a b h1 h2
theorem ml (a b : BitVec 32) (h1 : -2 ^ 31 ≤ a.toInt * b.toInt) (h2 : a.toInt * b.toInt < 2 ^ 31) : (IntOp.muli a b).toInt = a.toInt * b.toInt :=
  WordArith.toInt_mul_of_bounds a b h1 h2

theorem toNat_of_nonneg (a : BitVec 32) (h : 0 ≤ a.toInt) : a.toNat = a.toInt.toNat := by
  have := a.isLt
  rw [BitVec.toInt_eq_toNat_cond] at *
  split_ifs at * <;> omega

/-- A left shift that loses nothing. -/
theorem sl (u : ArithUnit) (a s : BitVec 32) (n : ℕ) (hs : s.toInt = n) (hn : n < 32) (ha : 0 ≤ a.toInt) (h : a.toInt * 2 ^ n < 2 ^ 31) :
    (IntOp.shli u a s).toInt = a.toInt * 2 ^ n := by
  have e : s.toNat = n := by rw [toNat_of_nonneg s (by omega), hs]; rfl
  unfold IntOp.shli
  rw [if_pos (by omega)]
  have ea := toNat_of_nonneg a ha
  have hN : a.toNat * 2 ^ n < 2 ^ 31 := by
    have : ((a.toNat * 2 ^ n : ℕ) : ℤ) < 2 ^ 31 := by push_cast; rw [ea]; rw [Int.toNat_of_nonneg ha]; exact h
    exact_mod_cast this
  have hT : (a <<< s).toNat = a.toNat * 2 ^ n := by
    rw [BitVec.shiftLeft_eq', BitVec.toNat_shiftLeft, e, Nat.shiftLeft_eq]
    exact Nat.mod_eq_of_lt (by omega)
  rw [BitVec.toInt_eq_toNat_of_lt (by rw [hT]; omega), hT]
  push_cast
  rw [ea, Int.toNat_of_nonneg ha]

/-- An arithmetic right shift is the floor of a quotient. -/
theorem sr (u : ArithUnit) (a s : BitVec 32) (n : ℕ) (hs : s.toInt = n) (hn : n < 32) : (IntOp.shrsi u a s).toInt = a.toInt / 2 ^ n := by
  have e : s.toNat = n := by rw [toNat_of_nonneg s (by omega), hs]; rfl
  unfold IntOp.shrsi
  rw [if_pos (by omega), BitVec.sshiftRight_eq', BitVec.toInt_sshiftRight, e, Int.shiftRight_eq_div_pow]
  push_cast; rfl

theorem mxT (a b : BitVec 32) : (IntOp.maxsi a b).toInt = max a.toInt b.toInt := by
  unfold IntOp.maxsi
  by_cases h : b.slt a = true
  · rw [if_pos h]; have := BitVec.slt_iff_toInt_lt.1 h; omega
  · rw [if_neg h]; have := mt BitVec.slt_iff_toInt_lt.2 h; omega
theorem mnT (a b : BitVec 32) : (IntOp.minsi a b).toInt = min a.toInt b.toInt := by
  unfold IntOp.minsi
  by_cases h : a.slt b = true
  · rw [if_pos h]; have := BitVec.slt_iff_toInt_lt.1 h; omega
  · rw [if_neg h]; have := mt BitVec.slt_iff_toInt_lt.2 h; omega
theorem abT (a : BitVec 32) (h : a.toInt ≠ -2 ^ 31) : (IntOp.absi a).toInt = |a.toInt| := by
  unfold IntOp.absi
  rw [BitVec.msb_eq_toInt]
  have := BitVec.le_toInt a
  have := BitVec.toInt_lt (x := a)
  by_cases q : a.toInt < 0
  · rw [if_pos (by simpa using q), BitVec.toInt_neg, abs_of_neg q, Int.bmod_eq_of_le (by norm_num at *; omega) (by norm_num at *; omega)]
  · rw [if_neg (by simpa using q), abs_of_nonneg (by omega)]

theorem sel_slt {α : Type} (a b : BitVec 32) (x y : α) : Scalar.select (IntOp.cmpi .slt a b) x y = if a.toInt < b.toInt then x else y := by
  unfold Scalar.select IntOp.cmpi
  simp only [BitVec.slt_eq_decide]
  by_cases h : a.toInt < b.toInt <;> simp [h]
theorem sel_sge {α : Type} (a b : BitVec 32) (x y : α) : Scalar.select (IntOp.cmpi .sge a b) x y = if b.toInt ≤ a.toInt then x else y := by
  unfold Scalar.select IntOp.cmpi
  simp only [BitVec.sle_eq_decide]
  by_cases h : b.toInt ≤ a.toInt <;> simp [h]

/-- The bit length of a positive word. -/
theorem kN_eq (A : BitVec 32) (h : 1 ≤ A.toInt) : (kN A).toInt = Nat.log2 A.toInt.toNat + 1 ∧ Nat.log2 A.toInt.toNat < 31
    ∧ 2 ^ Nat.log2 A.toInt.toNat ≤ A.toInt ∧ A.toInt < 2 ^ (Nat.log2 A.toInt.toNat + 1) := by
  have e := toNat_of_nonneg A (by omega)
  have hl : A.toInt < 2 ^ 31 := BitVec.toInt_lt (x := A)
  obtain ⟨N, hN⟩ : ∃ N : ℕ, A.toInt = N := ⟨A.toInt.toNat, by omega⟩
  rw [hN] at e h hl ⊢
  simp only [Int.toNat_natCast] at e ⊢
  have h0 : N ≠ 0 := by omega
  have h1 := Nat.log2_self_le h0
  have h2 : N < 2 ^ (Nat.log2 N + 1) := Nat.lt_log2_self
  have h3 : Nat.log2 N < 31 := (Nat.log2_lt h0).2 (by exact_mod_cast hl)
  refine ⟨?_, h3, by exact_mod_cast h1, by exact_mod_cast h2⟩
  have hA : A ≠ 0 := by rintro rfl; simp at e; omega
  unfold kN IntOp.ctlz
  rw [if_neg hA, e]
  have ec : (BitVec.ofNat 32 (32 - 1 - N.log2)).toInt = 31 - N.log2 := by
    rw [WordArith.toInt_ofNat_small _ (by omega)]; omega
  rw [sb _ _ (by rw [ec]; simp; omega) (by rw [ec]; simp; omega), ec]
  simp; omega

/-! ## Real numbers at the ideal floats -/

/-- An integer as a float. -/
def zf (z : ℤ) : EReal := ((z : ℝ) : EReal)

theorem sit (φ : FTy) {w : ℕ} (v : BitVec w) : FloatOps.sitofp (F := Ideal) φ v = zf v.toInt := rfl
theorem fl (r : ℝ) : Ideal.liftRound Int.floor (r : EReal) = zf ⌊r⌋ := rfl

theorem fts (z : ℤ) (h1 : -2 ^ 31 ≤ z) (h2 : z < 2 ^ 31) : (FloatOps.fptosi (F := Ideal) (φ := .f32) 32 (zf z)).toInt = z := by
  show (BitVec.ofInt 32 (max (-(2 ^ (32 - 1) : ℕ)) (min ((2 ^ (32 - 1) : ℕ) - 1) (if (0:ℝ) ≤ (z : ℝ) then ⌊(z : ℝ)⌋ else ⌈(z : ℝ)⌉)))).toInt = z
  rw [Int.floor_intCast, Int.ceil_intCast, ite_self, BitVec.toInt_ofInt]
  norm_num at *
  rw [max_eq_right (by omega), min_eq_right (by omega)]
  exact Int.bmod_eq_of_le (by norm_num; omega) (by norm_num; omega)

theorem zf_add (a b : ℤ) : zf a + zf b = zf (a + b) := by unfold zf; push_cast; rfl
theorem zf_mul (a b : ℤ) : zf a * zf b = zf (a * b) := by unfold zf; push_cast; rfl
theorem zf_sub (a b : ℤ) : zf a - zf b = zf (a - b) := by unfold zf; push_cast; rfl
theorem zf_neg (a : ℤ) : -zf a = zf (-a) := by unfold zf; push_cast; rfl
theorem zf_le (a b : ℤ) : zf a ≤ zf b ↔ a ≤ b := by unfold zf; rw [EReal.coe_le_coe_iff]; exact Int.cast_le
theorem zf_lt (a b : ℤ) : zf a < zf b ↔ a < b := by unfold zf; rw [EReal.coe_lt_coe_iff]; exact Int.cast_lt
theorem zf_max (a b : ℤ) : max (zf a) (zf b) = zf (max a b) := by
  rcases le_total a b with h | h
  · rw [max_eq_right h, max_eq_right ((zf_le _ _).2 h)]
  · rw [max_eq_left h, max_eq_left ((zf_le _ _).2 h)]
theorem zf_min (a b : ℤ) : min (zf a) (zf b) = zf (min a b) := by
  rcases le_total a b with h | h
  · rw [min_eq_left h, min_eq_left ((zf_le _ _).2 h)]
  · rw [min_eq_right h, min_eq_right ((zf_le _ _).2 h)]
theorem zf_abs (a : ℤ) : FloatOps.absf (F := Ideal) (φ := .f32) (zf a) = zf |a| := by
  show max (zf a) (-zf a) = _
  rw [zf_neg, zf_max]; rfl
theorem zf_zero : (0 : EReal) = zf 0 := by unfold zf; norm_num
theorem zf_one : (1 : EReal) = zf 1 := by unfold zf; norm_num

theorem zdiv (a b : ℤ) (hb : 0 < b) : Ideal.div (zf a) (zf b) = (((a : ℝ) / (b : ℝ) : ℝ) : EReal) := by
  unfold zf
  have : (b : ℝ) ≠ 0 := by positivity
  rw [Ideal.div_coe this, ← EReal.coe_mul, mul_one_div]

theorem floor_div (a b : ℤ) (hb : 0 < b) : ⌊(a : ℝ) / (b : ℝ)⌋ = a / b := by
  obtain ⟨n, rfl⟩ : ∃ n : ℕ, b = n := ⟨b.toNat, by omega⟩
  have := Rat.floor_intCast_div_natCast a n
  rw [← this, ← Rat.floor_cast (α := ℝ)]
  push_cast; rfl

theorem c_recip1 : Ideal.ofBits .f32 0x38010204#32 = ((8454660 / 2 ^ 38 : ℝ) : EReal) := by
  simp [Ideal.ofBits, Ideal.ieee, -EReal.coe_mul]; norm_num
theorem c_recip2 : Ideal.ofBits .f32 0x37808081#32 = ((8421505 / 2 ^ 39 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_127 : Ideal.ofBits .f32 0x42FE0000#32 = zf 127 := by
  unfold zf; simp [Ideal.ofBits, Ideal.ieee, -EReal.coe_mul]; norm_num
theorem c_255 : Ideal.ofBits .f32 0x437F0000#32 = zf 255 := by
  unfold zf; simp [Ideal.ofBits, Ideal.ieee, -EReal.coe_mul]; norm_num
theorem c_m4095 : Ideal.ofBits .f32 0xC57FF000#32 = zf (-4095) := by
  unfold zf; simp [Ideal.ofBits, Ideal.ieee, -EReal.coe_mul, -EReal.coe_neg]; norm_num
theorem c_4095 : Ideal.ofBits .f32 0x457FF000#32 = zf 4095 := by
  unfold zf; simp [Ideal.ofBits, Ideal.ieee, -EReal.coe_mul]; norm_num
theorem c_4096 : Ideal.ofBits .f32 0x45800000#32 = zf 4096 := by
  unfold zf; simp [Ideal.ofBits, Ideal.ieee, -EReal.coe_mul]; norm_num
theorem c_64th : Ideal.ofBits .f32 0x3C800000#32 = ((1 / 64 : ℝ) : EReal) := by
  simp [Ideal.ofBits, Ideal.ieee, -EReal.coe_mul]; norm_num
theorem c_z : Ideal.ofBits .f32 0x3F00029F#32 = ((8389279 / 2 ^ 24 : ℝ) : EReal) := by
  simp [Ideal.ofBits, Ideal.ieee, -EReal.coe_mul]; norm_num
theorem c_eps : Ideal.ofBits .f32 0x38D1B717#32 = ((13743895 / 2 ^ 37 : ℝ) : EReal) := by
  simp [Ideal.ofBits, Ideal.ieee, -EReal.coe_mul]; norm_num
theorem c_inf : Ideal.ofBits .f32 0x7F800000#32 = ⊤ := by
  simp [Ideal.ofBits, Ideal.ieee]
theorem c_ninf : Ideal.ofBits .f32 0xFF800000#32 = ⊥ := by
  simp [Ideal.ofBits, Ideal.ieee]

end Cert.KernelIdeal.Hand
end
-- ==== Proof.ScalarQuant.lean ====
module

public import proofs.«01_k».proof.Proof.Words

@[expose] public section

set_option maxRecDepth 16384

noncomputable section

namespace Cert.KernelIdeal.Hand

open Idealize.ShloMosaic

/-! ## Quotients -/

theorem ediv_of {v d k : ℤ} (h1 : k * d ≤ v) (h2 : v < k * d + d) : v / d = k := by
  have hd : 0 < d := by omega
  refine le_antisymm ?_ ((Int.le_ediv_iff_mul_le hd).2 h1)
  exact Int.lt_add_one_iff.1 ((Int.ediv_lt_iff_lt_mul hd).2 (by linarith))

/-- The kernel's integer quotient, a product with a rounded reciprocal corrected by one, is the floor of the quotient. -/
theorem fdc_eq (v c d : BitVec 32) (r : ℝ) (hc : Ideal.ofBits .f32 c = ((r : ℝ) : EReal)) (hv : 0 ≤ v.toInt) (hv' : v.toInt < 2 ^ 24)
    (hd : 0 < d.toInt) (hd' : d.toInt < 2 ^ 17) (h1 : (v.toInt : ℝ) * (r * d.toInt - 1) < d.toInt) (h2 : -(d.toInt : ℝ) < (v.toInt : ℝ) * (r * d.toInt - 1)) :
    (fdc v c d).toInt = v.toInt / d.toInt := by
  have hq := Int.floor_le ((v.toInt : ℝ) * r)
  have hq' := Int.lt_floor_add_one ((v.toInt : ℝ) * r)
  unfold fdc
  rw [hc, sit, zf, ← EReal.coe_mul, fl]
  generalize ⌊(v.toInt : ℝ) * r⌋ = q at *
  have hdr : (0 : ℝ) < d.toInt := by exact_mod_cast hd
  have e1 : ((q * d.toInt - d.toInt : ℤ) : ℝ) < ((v.toInt : ℤ) : ℝ) := by push_cast; nlinarith
  have e2 : ((v.toInt : ℤ) : ℝ) < ((q * d.toInt + 2 * d.toInt : ℤ) : ℝ) := by push_cast; nlinarith
  have e1 := Int.cast_lt.1 e1
  have e2 := Int.cast_lt.1 e2
  generalize hvv : v.toInt = V at *
  generalize hdd : d.toInt = D at *
  have b1 : -2 ≤ q := by nlinarith
  have b2 : q ≤ 2 ^ 24 := by nlinarith
  have hqi := fts q (by omega) (by omega)
  have hm : (IntOp.muli (FloatOps.fptosi (F := Ideal) (φ := .f32) 32 (zf q)) d).toInt = q * D := by
    rw [ml _ _ (by rw [hqi, hdd]; omega) (by rw [hqi, hdd]; omega), hqi, hdd]
  have hs : (IntOp.subi v (IntOp.muli (FloatOps.fptosi (F := Ideal) (φ := .f32) 32 (zf q)) d)).toInt = V - q * D := by
    rw [sb _ _ (by rw [hm, hvv]; omega) (by rw [hm, hvv]; omega), hm, hvv]
  rw [sel_sge, sel_slt, hs, hdd, show (0#32 : BitVec 32).toInt = 0 from rfl]
  rcases lt_trichotomy (V - q * D) 0 with c0 | c0 | c0
  · rw [if_neg (by omega), if_pos c0]
    have ha := ad (FloatOps.fptosi (F := Ideal) (φ := .f32) 32 (zf q)) 0#32 (by rw [hqi]; simp; omega) (by rw [hqi]; simp; omega)
    rw [hqi] at ha
    rw [sb _ _ (by rw [ha]; simp; omega) (by rw [ha]; simp; omega), ha]
    simp
    exact (ediv_of (by linarith) (by linarith)).symm
  all_goals
    by_cases c1 : D ≤ V - q * D
    · rw [if_pos c1, if_neg (by omega)]
      have ha := ad (FloatOps.fptosi (F := Ideal) (φ := .f32) 32 (zf q)) 1#32 (by rw [hqi]; simp; omega) (by rw [hqi]; simp; omega)
      rw [hqi] at ha
      rw [sb _ _ (by rw [ha]; simp; omega) (by rw [ha]; simp; omega), ha]
      simp
      exact (ediv_of (by linarith) (by linarith)).symm
    · rw [if_neg c1, if_neg (by omega)]
      have ha := ad (FloatOps.fptosi (F := Ideal) (φ := .f32) 32 (zf q)) 0#32 (by rw [hqi]; simp; omega) (by rw [hqi]; simp; omega)
      rw [hqi] at ha
      rw [sb _ _ (by rw [ha]; simp; omega) (by rw [ha]; simp; omega), ha]
      simp
      exact (ediv_of (by linarith) (by linarith)).symm

/-- The kernel's float quotient of two integers is the floor of the quotient. -/
theorem fdf_eq (t d : ℤ) (hd : 0 < d) : fdf (zf t) (zf d) = zf (t / d) := by
  have e : Ideal.liftRound Int.floor (zf t * Ideal.div 1 (zf d)) = zf (t / d) := by
    rw [Ideal.mul_one_div (by unfold zf; norm_cast; omega), zdiv _ _ hd, fl, floor_div _ _ hd]
  have h1 := Int.emod_add_mul_ediv t d
  have h2 := Int.emod_nonneg t hd.ne'
  have h3 := Int.emod_lt_of_pos t hd
  unfold fdf
  rw [e, zf_mul, zf_sub, zf_zero, zf_one, if_neg (by rw [zf_le]; nlinarith), if_neg (by rw [zf_lt]; nlinarith), zf_add, zf_sub]
  congr 1; ring

/-- The reference's floor division of integers: the truncated quotient, lowered by one where the signs differ and a remainder is left. -/
def rdiv (v d : BitVec 32) : BitVec 32 :=
  Scalar.select (IntOp.andi (IntOp.cmpi .ne (if v = 0 then (0 : BitVec 32) else if v.msb then -1 else 1) (if d = 0 then (0 : BitVec 32) else if d.msb then -1 else 1))
    (IntOp.cmpi .ne (IntOp.remsi .host v d) 0#32)) (IntOp.subi (IntOp.divsi .host v d) 1#32) (IntOp.divsi .host v d)

theorem rdiv_eq (v d : BitVec 32) (hv : 0 ≤ v.toInt) (hd : 0 < d.toInt) : (rdiv v d).toInt = v.toInt / d.toInt := by
  have hd0 : d ≠ 0 := by rintro rfl; simp at hd
  have hd1 : d ≠ -1 := by rintro rfl; simp at hd
  have hc : ¬ IntOp.SDivCorner v d := by rintro (h | h); exacts [hd0 h, hd1 h.2]
  have hq : (IntOp.divsi .host v d).toInt = v.toInt / d.toInt := by
    unfold IntOp.divsi
    rw [if_neg hc, BitVec.toInt_sdiv_of_ne_or_ne _ _ (Or.inr hd1), Int.tdiv_eq_ediv_of_nonneg hv]
  have hm : d.msb = false := by rw [BitVec.msb_eq_toInt]; simp; omega
  have hm' : v.msb = false := by rw [BitVec.msb_eq_toInt]; simp; omega
  unfold rdiv
  rw [hm, hm', if_neg hd0]
  by_cases h0 : v = 0
  · have : IntOp.remsi .host v d = 0#32 := by
      unfold IntOp.remsi
      rw [if_neg hc, h0]
      apply BitVec.eq_of_toInt_eq
      rw [BitVec.toInt_srem]; simp
    rw [this, show IntOp.cmpi .ne (0#32 : BitVec 32) 0#32 = 0#1 from by decide]
    rw [show ∀ z : BitVec 1, IntOp.andi z 0#1 = 0#1 from by decide]
    exact hq
  · rw [if_neg h0]
    simp only [Bool.false_eq_true, if_false]
    rw [show IntOp.cmpi .ne (1 : BitVec 32) 1 = 0#1 from by decide, show ∀ z : BitVec 1, IntOp.andi 0#1 z = 0#1 from by decide]
    exact hq

/-- The reference's exact quotient: a float quotient's floor, lowered or raised by one as the remainder says. -/
def rfd (t d : BitVec 32) : BitVec 32 :=
  let q := FloatOps.fptosi (F := Ideal) (φ := .f32) 32 (Ideal.liftRound Int.floor (Ideal.div (FloatOps.sitofp (F := Ideal) .f32 t) (FloatOps.sitofp (F := Ideal) .f32 d)))
  let q1 := Scalar.select (IntOp.cmpi .slt (IntOp.subi t (IntOp.muli q d)) 0#32) (IntOp.subi q 1#32) q
  Scalar.select (IntOp.cmpi .sge (IntOp.subi t (IntOp.muli q1 d)) d) (IntOp.addi q1 1#32) q1

theorem rfd_eq (t d : BitVec 32) (hd : 0 < d.toInt) : (rfd t d).toInt = t.toInt / d.toInt := by
  have h1 := Int.emod_add_mul_ediv t.toInt d.toInt
  have h2 := Int.emod_nonneg t.toInt hd.ne'
  have h3 := Int.emod_lt_of_pos t.toInt hd
  have hl := BitVec.le_toInt t
  have hu := BitVec.toInt_lt (x := t)
  have hl' := BitVec.toInt_lt (x := d)
  norm_num at hl hu hl'
  have b1 : -2 ^ 31 ≤ t.toInt / d.toInt := by
    rw [Int.le_ediv_iff_mul_le hd]; nlinarith
  have b2 : t.toInt / d.toInt < 2 ^ 31 := by
    rw [Int.ediv_lt_iff_lt_mul hd]; nlinarith
  have hq : (FloatOps.fptosi (F := Ideal) (φ := .f32) 32 (Ideal.liftRound Int.floor (Ideal.div (FloatOps.sitofp (F := Ideal) .f32 t) (FloatOps.sitofp (F := Ideal) .f32 d)))).toInt
      = t.toInt / d.toInt := by
    rw [sit, sit, zdiv _ _ hd, fl, floor_div _ _ hd, fts _ b1 b2]
  unfold rfd
  generalize FloatOps.fptosi (F := Ideal) (φ := .f32) 32 (Ideal.liftRound Int.floor (Ideal.div (FloatOps.sitofp (F := Ideal) .f32 t) (FloatOps.sitofp (F := Ideal) .f32 d))) = q at *
  have hs : (IntOp.subi t (IntOp.muli q d)).toInt = t.toInt % d.toInt := by
    unfold IntOp.subi IntOp.muli
    rw [BitVec.toInt_sub, BitVec.toInt_mul, hq, Int.sub_bmod_bmod, show t.toInt - t.toInt / d.toInt * d.toInt = t.toInt % d.toInt by linarith]
    exact Int.bmod_eq_of_le (by norm_num; omega) (by norm_num; omega)
  simp only
  rw [sel_slt, hs, if_neg (by simpa using h2), sel_sge, hs, if_neg (by omega), hq]

end Cert.KernelIdeal.Hand
end
-- ==== Proof.ScalarX.lean ====
module

public import proofs.«01_k».proof.Proof.ScalarQuant

@[expose] public section

set_option maxRecDepth 16384

noncomputable section

namespace Cert.KernelIdeal.Hand

open Idealize.ShloMosaic

/-! ## The row scale and the codes of `x` -/

/-- The largest value of a row, shifted to the top of 23 bits. -/
theorem top_bits (A : BitVec 32) (h1 : 1 ≤ A.toInt) (h2 : A.toInt < 2 ^ 23) :
    ∃ s : ℕ, s ≤ 22 ∧ (IntOp.subi 23#32 (kN A)).toInt = s ∧ 2 ^ 22 ≤ A.toInt * 2 ^ s ∧ A.toInt * 2 ^ s < 2 ^ 23
      ∧ ∀ k : ℕ, k ≤ 23 → A.toInt < 2 ^ k → 23 ≤ s + k := by
  obtain ⟨e, l, a, b⟩ := kN_eq A h1
  generalize Nat.log2 A.toInt.toNat = n at *
  have hn : n ≤ 22 := by
    by_contra hc
    have : (2 : ℤ) ^ 23 ≤ 2 ^ n := pow_le_pow_right₀ (by norm_num) (by omega)
    omega
  have e' : (IntOp.subi 23#32 (kN A)).toInt = ((22 - n : ℕ) : ℤ) := by
    rw [sb _ _ (by rw [e]; simp; omega) (by rw [e]; simp; omega), e]
    simp; omega
  have p1 : (2 : ℤ) ^ n * 2 ^ (22 - n) = 2 ^ 22 := by rw [← pow_add]; congr 1; omega
  have p2 : (2 : ℤ) ^ (n + 1) * 2 ^ (22 - n) = 2 ^ 23 := by rw [← pow_add]; congr 1; omega
  have p0 : (0 : ℤ) < 2 ^ (22 - n) := by positivity
  refine ⟨22 - n, by omega, e', by nlinarith, by nlinarith, fun k hk hA => ?_⟩
  by_contra hc
  have : (2 : ℤ) ^ k ≤ 2 ^ n := pow_le_pow_right₀ (by norm_num) (by omega)
  omega

/-- The mantissa of a row's scale by the reference's own division. -/
def rM (A : BitVec 32) : BitVec 32 := rdiv (IntOp.addi (IntOp.shli .host A (IntOp.subi 23#32 (kN A))) 16256#32) 32512#32

theorem kM_eq (A : BitVec 32) (h1 : 1 ≤ A.toInt) (h2 : A.toInt < 2 ^ 23) : kM A = rM A ∧ 129 ≤ (rM A).toInt ∧ (rM A).toInt ≤ 258 := by
  obtain ⟨s, hs, e, b1, b2, -⟩ := top_bits A h1 h2
  have hV : ∀ u, (IntOp.addi (IntOp.shli u A (IntOp.subi 23#32 (kN A))) 16256#32).toInt = A.toInt * 2 ^ s + 16256 := fun u => by
    have := sl u A _ s e (by omega) (by omega) (by omega)
    rw [ad _ _ (by rw [this]; simp; omega) (by rw [this]; simp; omega), this]; rfl
  have hr : (rM A).toInt = (A.toInt * 2 ^ s + 16256) / 32512 := by
    unfold rM
    rw [rdiv_eq _ _ (by rw [hV]; omega) (by decide), hV]; rfl
  have d32 : (32512#32 : BitVec 32).toInt = 32512 := by decide
  generalize A.toInt * 2 ^ s = T at *
  have c2 : (T : ℝ) < 2 ^ 23 := by exact_mod_cast b2
  have c1 : (0 : ℝ) ≤ T := by exact_mod_cast (by omega : 0 ≤ T)
  refine ⟨BitVec.eq_of_toInt_eq ?_, by rw [hr]; omega, by rw [hr]; omega⟩
  rw [hr]
  unfold kM
  rw [fdc_eq _ _ _ _ c_recip1 (by rw [hV]; omega) (by rw [hV]; omega) (by decide) (by decide) (by rw [hV, d32]; push_cast; linarith)
    (by rw [hV, d32]; push_cast; linarith), hV]; rfl

/-- The sign of a word. -/
def sgn (v : BitVec 32) : BitVec 32 := if v = 0 then (0 : BitVec 32) else if v.msb then -1 else 1

theorem sgn_eq (v : BitVec 32) : (sgn v).toInt = v.toInt.sign := by
  unfold sgn
  by_cases h : v = 0
  · rw [if_pos h, h]; rfl
  · have h' : v.toInt ≠ 0 := fun q => h (BitVec.eq_of_toInt_eq (by rw [q]; rfl))
    rw [if_neg h, BitVec.msb_eq_toInt]
    rcases lt_or_gt_of_ne h' with q | q
    · rw [Int.sign_eq_neg_one_of_neg q]; simp [q]
    · rw [Int.sign_eq_one_of_pos q]; simp [not_lt.2 q.le]

/-- The code of the element `v` of a row whose largest value is `A`, as the reference computes it. -/
def rQ (v A : BitVec 32) : BitVec 32 :=
  IntOp.minsi 127#32 (IntOp.maxsi 4294967169#32 (IntOp.muli (sgn v)
    (rfd (IntOp.addi (IntOp.shli .host (IntOp.absi v) (IntOp.subi 23#32 (kN A))) (IntOp.shrsi .host (IntOp.shli .host (rM A) 8#32) 1#32))
      (IntOp.shli .host (rM A) 8#32))))

theorem kQ_eq (v A : BitVec 32) (h1 : 1 ≤ A.toInt) (h2 : A.toInt < 2 ^ 23) (hv : |v.toInt| ≤ A.toInt) :
    kQ v A = zf (rQ v A).toInt ∧ -127 ≤ (rQ v A).toInt ∧ (rQ v A).toInt ≤ 127 := by
  obtain ⟨s, hs, e, b1, b2, -⟩ := top_bits A h1 h2
  have hV0 : 0 ≤ |v.toInt| * 2 ^ s := by positivity
  obtain ⟨em, m1, m2⟩ := kM_eq A h1 h2
  have hv0 : v.toInt ≠ -2 ^ 31 := fun q => by rw [q] at hv; norm_num at hv; omega
  have hab := abT v hv0
  have hp : (0 : ℤ) < 2 ^ s := by positivity
  have hp' : (2 : ℤ) ^ s ≤ 2 ^ 22 := pow_le_pow_right₀ (by norm_num) hs
  have hVA : |v.toInt| * 2 ^ s ≤ A.toInt * 2 ^ s := by nlinarith
  have hsv := sl .host (IntOp.absi v) _ s e (by omega) (by rw [hab]; positivity) (by rw [hab]; exact lt_of_le_of_lt hVA (b2.trans (by norm_num)))
  have h1s : (IntOp.shli .vector 1#32 (IntOp.subi 23#32 (kN A))).toInt = 2 ^ s := by
    rw [sl .vector 1#32 _ s e (by omega) (by decide) (by rw [show (1#32 : BitVec 32).toInt = 1 from rfl, one_mul]; exact lt_of_le_of_lt hp' (by norm_num))]
    exact one_mul _
  have hT : zf |v.toInt| * zf (2 ^ s) = zf (|v.toInt| * 2 ^ s) := zf_mul _ _
  have hz : v.toInt = 0 → |v.toInt| * 2 ^ s = 0 := fun h => by rw [h]; simp
  have hPb : |v.toInt| * 2 ^ s < 2 ^ 23 := lt_of_le_of_lt hVA b2
  have hk : kQabs v A = min (fdf (zf (|v.toInt| * 2 ^ s) + Ideal.ofBits .f32 0x3F000000#32 * FloatOps.sitofp (F := Ideal) .f32 (IntOp.shli .vector (rM A) 8#32))
      (FloatOps.sitofp (F := Ideal) .f32 (IntOp.shli .vector (rM A) 8#32))) (Ideal.ofBits .f32 0x42FE0000#32) := by
    unfold kQabs
    rw [em, sit .f32 v, zf_abs, sit .f32 (IntOp.shli .vector 1#32 (IntOp.subi 23#32 (kN A))), h1s, hT]
  rw [hab] at hsv
  clear hVA hp hp' hT h1s hab em b1 b2 h1 h2 hv hv0
  unfold rQ kQ
  rw [hk]
  clear hk
  generalize |v.toInt| * 2 ^ s = P at *
  generalize IntOp.shli .host (IntOp.absi v) (IntOp.subi 23#32 (kN A)) = w at *
  generalize rM A = m at *
  have hd : ∀ u, (IntOp.shli u m 8#32).toInt = m.toInt * 256 := fun u => by
    rw [sl u m 8#32 8 (by decide) (by omega) (by omega) (by omega)]; norm_num
  have hd1 : (IntOp.shrsi .host (IntOp.shli .host m 8#32) 1#32).toInt = m.toInt * 128 := by
    rw [sr _ _ _ 1 (by decide) (by omega), hd]; omega
  have ht : (IntOp.addi w (IntOp.shrsi .host (IntOp.shli .host m 8#32) 1#32)).toInt = P + m.toInt * 128 := by
    rw [ad _ _ (by rw [hsv, hd1]; omega) (by rw [hsv, hd1]; omega), hsv, hd1]
  have hh : Ideal.ofBits .f32 0x3F000000#32 * zf (m.toInt * 256) = zf (m.toInt * 128) := by
    rw [c_half, zf, zf, ← EReal.coe_mul]; congr 1; push_cast; ring
  have hr : (rfd (IntOp.addi w (IntOp.shrsi .host (IntOp.shli .host m 8#32) 1#32)) (IntOp.shli .host m 8#32)).toInt = (P + m.toInt * 128) / (m.toInt * 256) := by
    rw [rfd_eq _ _ (by rw [hd]; omega), ht, hd]
  rw [sit, hd, hh, zf_add, fdf_eq _ _ (by omega), c_127, zf_min]
  have q0 : 0 ≤ (P + m.toInt * 128) / (m.toInt * 256) := Int.ediv_nonneg (by omega) (by omega)
  have q1 : (P + m.toInt * 128) / (m.toInt * 256) < 2 ^ 20 := by
    rw [Int.ediv_lt_iff_lt_mul (by omega)]; omega
  have q2 : v.toInt = 0 → (P + m.toInt * 128) / (m.toInt * 256) = 0 := fun h => Int.ediv_eq_zero_of_lt (by omega) (by rw [hz h]; omega)
  rw [sel_slt, mnT, mxT]
  generalize (P + m.toInt * 128) / (m.toInt * 256) = q at *
  generalize rfd (IntOp.addi w (IntOp.shrsi .host (IntOp.shli .host m 8#32) 1#32)) (IntOp.shli .host m 8#32) = f at *
  clear hd hd1 ht hh hsv
  have hg := sgn_eq v
  have c3 : (4294967169#32 : BitVec 32).toInt = -127 := by decide
  have c4 : (127#32 : BitVec 32).toInt = 127 := by decide
  have c5 : (0#32 : BitVec 32).toInt = 0 := by decide
  rcases lt_trichotomy v.toInt 0 with p | p | p
  · rw [Int.sign_eq_neg_one_of_neg p] at hg
    rw [ml _ _ (by rw [hr, hg]; omega) (by rw [hr, hg]; omega), hr, hg, c3, c4, c5, if_pos p, zf_zero, zf_sub]
    refine ⟨congrArg zf ?_, ?_, ?_⟩ <;> omega
  · rw [p, Int.sign_zero] at hg
    rw [ml _ _ (by rw [hr, hg]; omega) (by rw [hr, hg]; omega), hr, hg, c3, c4, c5, if_neg (by omega)]
    have := q2 p
    refine ⟨congrArg zf ?_, ?_, ?_⟩ <;> omega
  · rw [Int.sign_eq_one_of_pos p] at hg
    rw [ml _ _ (by rw [hr, hg]; omega) (by rw [hr, hg]; omega), hr, hg, c3, c4, c5, if_neg (by omega)]
    refine ⟨congrArg zf ?_, ?_, ?_⟩ <;> omega

/-- A float at a small integer, as a word. -/
theorem fts_word (v : BitVec 32) : FloatOps.fptosi (F := Ideal) (φ := .f32) 32 (zf v.toInt) = v :=
  BitVec.eq_of_toInt_eq (fts _ (by have := BitVec.le_toInt v; norm_num at *; omega) (by have := BitVec.toInt_lt (x := v); norm_num at *; omega))

/-- A small word cut to eight bits keeps its value. -/
theorem cut8 (v : BitVec 32) (h1 : -128 ≤ v.toInt) (h2 : v.toInt < 128) : (v.setWidth 8).toInt = v.toInt := by
  rw [BitVec.toInt_setWidth]
  have : (v.toNat : ℤ).bmod (2 ^ 8) = v.toInt.bmod (2 ^ 8) := by
    rw [BitVec.toInt_eq_toNat_bmod, Int.bmod_bmod_of_dvd (by norm_num)]
  rw [this]
  exact Int.bmod_eq_of_le (by norm_num; omega) (by norm_num; omega)

end Cert.KernelIdeal.Hand
end
-- ==== Proof.ScalarH.lean ====
module

public import proofs.«01_k».proof.Proof.ScalarX
public import Idealize.ShloMosaic.Lib.KernelVsHost

@[expose] public section

set_option maxRecDepth 16384

noncomputable section

namespace Cert.KernelIdeal.Hand

open Idealize.ShloMosaic

/-! ## The rescaled products -/

/-- A product brought back to twelve bits, as the reference computes it. -/
def rR (acc m k e : BitVec 32) : BitVec 32 :=
  IntOp.minsi 4095#32 (IntOp.maxsi 4294963201#32 (IntOp.shrsi .host
    (IntOp.addi (IntOp.muli acc m) (IntOp.shrsi .host (IntOp.shli .host 1#32 (IntOp.subi (IntOp.addi k e) 8#32)) 1#32))
    (IntOp.subi (IntOp.addi k e) 8#32)))

theorem kR_eq (acc m k e : BitVec 32) : kR acc m k e = zf (rR acc m k e).toInt ∧ -4095 ≤ (rR acc m k e).toInt ∧ (rR acc m k e).toInt ≤ 4095 := by
  have h : IntOp.addi (IntOp.subi k 8#32) e = IntOp.subi (IntOp.addi k e) 8#32 := by
    show k - 8#32 + e = k + e - 8#32
    ring
  have c3 : (4294963201#32 : BitVec 32).toInt = -4095 := by decide
  have c4 : (4095#32 : BitVec 32).toInt = 4095 := by decide
  unfold kR rR
  rw [h, shrsi_unit .vector .host, shli_unit .vector .host, shrsi_unit .vector .host, sit, c_m4095, c_4095, zf_max, zf_min, mnT, mxT, c3, c4]
  generalize (IntOp.shrsi .host _ _).toInt = t
  refine ⟨congrArg zf ?_, ?_, ?_⟩ <;> omega

/-! ## The gate -/

/-- The exponential's table value at a whole number, as the reference computes it. -/
def rE (a : BitVec 32) : BitVec 32 :=
  IntOp.shrsi .host (IntOp.subi 4096#32 (IntOp.shli .host (IntOp.andi
      (IntOp.subi (IntOp.addi a (IntOp.shrsi .host a 1#32)) (IntOp.shrsi .host a 4#32)) 255#32) 3#32))
    (IntOp.shrsi .host (IntOp.subi (IntOp.addi a (IntOp.shrsi .host a 1#32)) (IntOp.shrsi .host a 4#32)) 8#32)

/-- The word whose top bits are the power of two the kernel reads as a float. -/
def kB (a : BitVec 32) : BitVec 32 :=
  IntOp.shli .vector (IntOp.subi 35584#32 (IntOp.subi (IntOp.addi a (IntOp.shrsi .vector a 1#32)) (IntOp.shrsi .vector a 4#32))) 15#32

/-- What is asked of one gate value: the word is a positive normal float whose floor is the table value, and the two ways to round the
gate's quotient agree. -/
def gateOk (a : ℕ) : Bool :=
  let b := kB (BitVec.ofNat 32 a)
  let ex := (b.extractLsb' 23 8).toNat
  let E := (rE (BitVec.ofNat 32 a)).toNat
  !(b.extractLsb' 31 1 == 1#1) && ex != 255 && ex != 0 && decide (ex ≤ 150) && decide (E ≤ 4096)
    && (2 ^ 23 + (b.extractLsb' 0 23).toNat) / 2 ^ (150 - ex) == E
    && decide ((8389279 * (4096 + E : ℤ) - 2 ^ 24 * (a * E)) / (2 ^ 24 * (4096 + E)) = ((4096 + E : ℤ) / 2 - a * E) / (4096 + E))

theorem gateOk_all : ∀ i < 64, ∀ j < 64, gateOk (64 * i + j) = true := by decide +kernel

theorem gate_facts (a : ℕ) (h : a ≤ 4095) :
    (∃ E : ℕ, E ≤ 4096 ∧ (rE (BitVec.ofNat 32 a)).toNat = E ∧ Ideal.liftRound Int.floor (Ideal.ofBits .f32 (kB (BitVec.ofNat 32 a))) = zf E
      ∧ (8389279 * (4096 + E : ℤ) - 2 ^ 24 * (a * E)) / (2 ^ 24 * (4096 + E)) = ((4096 + E : ℤ) / 2 - a * E) / (4096 + E)) := by
  have := gateOk_all (a / 64) (by omega) (a % 64) (by omega)
  rw [Nat.div_add_mod] at this
  unfold gateOk at this
  simp only [Bool.and_eq_true, Bool.not_eq_true', decide_eq_true_eq, bne_iff_ne, beq_iff_eq] at this
  obtain ⟨⟨⟨⟨⟨⟨n, e1⟩, e2⟩, e3⟩, hE⟩, hf⟩, hK⟩ := this
  refine ⟨_, hE, rfl, ?_, hK⟩
  rw [← hf]
  show Ideal.liftRound Int.floor (Ideal.ieee 8 23 _) = _
  unfold Ideal.ieee
  generalize kB (BitVec.ofNat 32 a) = b at *
  simp only [show (8 + 23 : ℕ) = 31 from rfl, n, Bool.false_eq_true, if_false]
  rw [if_neg (by simpa using e1), if_neg e2, fl]
  generalize (b.extractLsb' 23 8).toNat = ex at *
  generalize (b.extractLsb' 0 23).toNat = f at *
  congr 1
  obtain ⟨k, hk⟩ : ∃ k, 150 - ex = k := ⟨_, rfl⟩
  rw [hk]
  have e : (1 : ℝ) * ((2 ^ 23 + f : ℕ) : ℝ) * (2 : ℝ) ^ ((ex : ℤ) - (2 ^ (8 - 1) - 1) - (23 : ℕ)) = (((2 ^ 23 + f : ℕ) : ℤ) : ℝ) / (((2 ^ k : ℕ) : ℤ) : ℝ) := by
    rw [show ((ex : ℤ) - (2 ^ (8 - 1) - 1) - (23 : ℕ)) = -(k : ℤ) by norm_num; omega, zpow_neg, zpow_natCast, one_mul, div_eq_mul_inv]
    push_cast; rfl
  rw [e, floor_div _ _ (by positivity)]
  norm_cast

/-- The gate times its logistic, as the reference computes it. -/
def rS (g : BitVec 32) : BitVec 32 :=
  rfd (IntOp.addi (IntOp.muli g (Scalar.select (IntOp.cmpi .sge g 0#32) 4096#32 (rE (IntOp.absi g)))) (IntOp.shrsi .host (IntOp.addi 4096#32 (rE (IntOp.absi g))) 1#32))
    (IntOp.addi 4096#32 (rE (IntOp.absi g)))

/-- The gated product, as the reference computes it. -/
def rH (g u : BitVec 32) : BitVec 32 :=
  IntOp.shrsi .host (IntOp.addi (IntOp.muli (rS g) u) (IntOp.shrsi .host (IntOp.shli .host 1#32 6#32) 1#32)) 6#32

theorem zf_ne (z : ℤ) (h : z ≠ 0) : zf z ≠ 0 := by
  rw [zf_zero]
  unfold zf
  exact fun q => h (Int.cast_injective (EReal.coe_injective q))

theorem gate_split (g : BitVec 32) (g1 : -4095 ≤ g.toInt) (g2 : g.toInt ≤ 4095) : ∃ (a E : ℕ) (K : ℤ), |g.toInt| = a ∧ a ≤ 4095 ∧ E ≤ 4096
    ∧ Ideal.liftRound Int.floor (Ideal.ofBits .f32 (kB (BitVec.ofNat 32 a))) = zf E
    ∧ (8389279 * (4096 + E : ℤ) - 2 ^ 24 * (a * E)) / (2 ^ 24 * (4096 + E)) = K ∧ -4095 ≤ K ∧ K ≤ 0 ∧ (rS g).toInt = K + max g.toInt 0 := by
  have hab := abT g (by omega)
  obtain ⟨a, ha⟩ : ∃ a : ℕ, |g.toInt| = a := ⟨g.toInt.natAbs, Int.abs_eq_natAbs _⟩
  have ha' : a ≤ 4095 := by
    have : |g.toInt| ≤ 4095 := abs_le.2 ⟨g1, g2⟩
    omega
  have haw : IntOp.absi g = BitVec.ofNat 32 a := by
    apply BitVec.eq_of_toInt_eq
    rw [hab, ha, WordArith.toInt_ofNat_small _ (by omega)]
  obtain ⟨E, hE, hr, hf, hK⟩ := gate_facts a ha'
  have hrE : (rE (BitVec.ofNat 32 a)).toInt = E := by
    rw [BitVec.toInt_eq_toNat_of_lt (by omega), hr]
  have hden : (IntOp.addi 4096#32 (rE (BitVec.ofNat 32 a))).toInt = 4096 + E := by
    rw [ad _ _ (by rw [hrE]; simp; omega) (by rw [hrE]; simp; omega), hrE]; rfl
  have hden1 : (IntOp.shrsi .host (IntOp.addi 4096#32 (rE (BitVec.ofNat 32 a))) 1#32).toInt = (4096 + E : ℤ) / 2 := by
    rw [sr _ _ _ 1 (by decide) (by omega), hden]; rfl
  obtain ⟨P, hP⟩ : ∃ P : ℤ, (a * E : ℤ) = P := ⟨_, rfl⟩
  have P0 : 0 ≤ P := by rw [← hP]; exact mul_nonneg (Int.natCast_nonneg _) (Int.natCast_nonneg _)
  have P1 : P ≤ 4095 * E := by rw [← hP]; exact mul_le_mul_of_nonneg_right (by omega) (Int.natCast_nonneg _)
  have hden0 : (0 : ℤ) < 4096 + E := by omega
  obtain ⟨K, hKd⟩ : ∃ K : ℤ, ((4096 + E : ℤ) / 2 - P) / (4096 + E) = K := ⟨_, rfl⟩
  have K1 : -4095 ≤ K := by
    rw [← hKd, Int.le_ediv_iff_mul_le hden0]
    omega
  have K2 : K ≤ 0 := by
    have : K < 1 := by
      rw [← hKd, Int.ediv_lt_iff_lt_mul hden0]
      omega
    omega
  refine ⟨a, E, K, ha, ha', hE, hf, by rw [hK, hP, hKd], K1, K2, ?_⟩
  unfold rS
  rw [haw, rfd_eq _ _ (by rw [hden]; exact hden0), hden, sel_sge, show (0#32 : BitVec 32).toInt = 0 from rfl]
  by_cases hg : 0 ≤ g.toInt
  · have hga : g.toInt = a := by rw [← ha, abs_of_nonneg hg]
    have c4 : (4096#32 : BitVec 32).toInt = 4096 := by decide
    rw [if_pos hg]
    have hm : (IntOp.muli g 4096#32).toInt = g.toInt * 4096 := by
      rw [ml _ _ (by rw [c4]; omega) (by rw [c4]; omega), c4]
    rw [ad _ _ (by rw [hm, hden1]; omega) (by rw [hm, hden1]; omega), hm, hden1, max_eq_left hg, ← hKd, hga,
      ← Int.add_mul_ediv_right _ _ hden0.ne', ← hP]
    refine congrArg (fun z : ℤ => z / (4096 + (E : ℤ))) ?_
    ring
  · have hga : g.toInt = -a := by rw [← ha, abs_of_neg (by omega)]; ring
    rw [if_neg hg]
    have hm : (IntOp.muli g (rE (BitVec.ofNat 32 a))).toInt = -P := by
      have hn : -(a : ℤ) * E = -P := by rw [← hP]; ring
      rw [ml _ _ (by rw [hrE, hga, hn]; omega) (by rw [hrE, hga, hn]; omega), hrE, hga, hn]
    rw [ad _ _ (by rw [hm, hden1]; omega) (by rw [hm, hden1]; omega), hm, hden1, max_eq_right (by omega), add_zero, ← hKd]
    refine congrArg (fun z : ℤ => z / (4096 + (E : ℤ))) ?_
    ring

theorem kH_eq (g u : BitVec 32) (g1 : -4095 ≤ g.toInt) (g2 : g.toInt ≤ 4095) (u1 : -4095 ≤ u.toInt) (u2 : u.toInt ≤ 4095) :
    kH (zf g.toInt) (zf u.toInt) = zf (rH g u).toInt ∧ -262017 ≤ (rH g u).toInt ∧ (rH g u).toInt ≤ 262017 := by
  obtain ⟨a, E, K, ha, ha', hE, hf, hK, K1, K2, hS⟩ := gate_split g g1 g2
  obtain ⟨P, hP⟩ : ∃ P : ℤ, (a * E : ℤ) = P := ⟨_, rfl⟩
  have hden0 : (0 : ℤ) < 4096 + E := by omega
  rw [hP] at hK
  obtain ⟨S, hSd⟩ : ∃ S : ℤ, K + max g.toInt 0 = S := ⟨_, rfl⟩
  have S1 : -4095 ≤ S := by omega
  have S2 : S ≤ 4095 := by omega
  rw [hSd] at hS
  have hSu1 : -(4095 * 4095) ≤ S * u.toInt := by nlinarith
  have hSu2 : S * u.toInt ≤ 4095 * 4095 := by nlinarith
  have hm : (IntOp.muli (rS g) u).toInt = S * u.toInt := by
    rw [ml _ _ (by rw [hS]; omega) (by rw [hS]; omega), hS]
  have hH : (rH g u).toInt = (S * u.toInt + 32) / 64 := by
    have c : (IntOp.shrsi .host (IntOp.shli .host 1#32 6#32) 1#32).toInt = 32 := by decide
    unfold rH
    rw [sr _ _ _ 6 (by decide) (by omega), ad _ _ (by rw [hm, c]; omega) (by rw [hm, c]; omega), hm, c]; rfl
  refine ⟨?_, by rw [hH]; omega, by rw [hH]; omega⟩
  rw [hH]
  have hkE : kE (zf g.toInt) = zf E := by
    unfold kE
    rw [show kEbits (zf g.toInt) = kB (BitVec.ofNat 32 a) from ?_, hf]
    unfold kEbits kB
    rw [zf_abs, ha, show FloatOps.fptosi (F := Ideal) (φ := .f32) 32 (zf a) = BitVec.ofNat 32 a from BitVec.eq_of_toInt_eq (by
      rw [fts _ (by omega) (by omega), WordArith.toInt_ofNat_small _ (by omega)])]
  unfold kH
  rw [hkE, zf_abs, ha, c_4096, zf_add, zf_mul, hP, Ideal.mul_one_div (zf_ne _ hden0.ne'), zdiv _ _ hden0, c_z, ← EReal.coe_sub]
  have e1 : (8389279 / 2 ^ 24 - ((P : ℤ) : ℝ) / ((4096 + E : ℤ) : ℝ) : ℝ) = ((8389279 * (4096 + E : ℤ) - 2 ^ 24 * P : ℤ) : ℝ) / ((2 ^ 24 * (4096 + E) : ℤ) : ℝ) := by
    have : (4096 + E : ℝ) ≠ 0 := by
      have : (0 : ℝ) ≤ E := Nat.cast_nonneg E
      linarith
    push_cast
    field_simp
    ring
  rw [e1, fl, floor_div _ _ (by omega), hK, zf_zero, zf_max, zf_add, hSd, zf_mul, c_64th, c_half, zf, ← EReal.coe_mul, ← EReal.coe_add]
  have e2 : ((S * u.toInt : ℤ) : ℝ) * (1 / 64) + 1 / 2 = ((S * u.toInt + 32 : ℤ) : ℝ) / ((64 : ℤ) : ℝ) := by push_cast; ring
  rw [e2, fl, floor_div _ _ (by norm_num)]

end Cert.KernelIdeal.Hand
end
-- ==== Proof.ReferenceValue.lean ====
module

public import proofs.«01_k».proof.Proof.Gen.ReferenceIdeal.Run
public import proofs.«01_k».proof.Proof.ScalarH
public import Idealize.ShloMosaic.Lib.Pointwise
public import Idealize.ShloMosaic.Lib.Pipeline.ValueKit

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value
open Cert.KernelIdeal.Hand (kA kN kK rM rQ rdiv rfd sgn rR rH rS rE)

variable (V0 : Valuation τ sig (Elt Ideal))

/-- The element of `x` at row `a`, column `k`. -/
def xAt (a : Fin 256) (k : Fin 3584) : BitVec 32 := res_main_v0 (F := Ideal) V0 (ix2 (n0 := 256) (n1 := 3584) a k)

/-- The largest absolute value of row `a`. -/
def aAt (a : Fin 256) : BitVec 32 := kA (xAt V0 a)

theorem lift_row {M : ℕ} (h : (⟨2, ![256, M]⟩ : Shape).Reduces [1] (⟨1, ![256]⟩ : Shape)) (a : Fin 256) (k : Fin M) :
    h.lift (ix1 a) k = ix2 (n0 := 256) (n1 := M) a k := by
  funext b
  refine Fin.ext ((h.lift_val _ _ b).trans ?_)
  fin_cases b <;> rfl

theorem lift_mid {N M : ℕ} (h : (⟨3, ![256, N, M]⟩ : Shape).Reduces [1] (⟨2, ![256, M]⟩ : Shape)) (a : Fin 256) (k : Fin N) (c : Fin M) :
    h.lift (ix2 a c) k = ix3 (n0 := 256) (n1 := N) (n2 := M) a k c := by
  funext b
  refine Fin.ext ((h.lift_val _ _ b).trans ?_)
  fin_cases b <;> rfl

/-- A reduction along a row is a fold over the row. -/
theorem red_row {M : ℕ} {u : Shape} (f : BitVec 32 → BitVec 32 → BitVec 32) [Std.Commutative f] [Std.Associative f] (x : (⟨2, ![256, M]⟩ : Shape).Idx → BitVec 32)
    (init : u.Idx → BitVec 32) (h' : (⟨2, ![256, M]⟩ : Shape).ReducesTo [1] (⟨1, ![256]⟩ : Shape)) (h : (⟨2, ![256, M]⟩ : Shape).Reduces [1] (⟨1, ![256]⟩ : Shape))
    (hu : 0 < u.numel) (a : Fin 256) :
    Host.reduce f x init h' hu (ix1 a) = Finset.univ.fold f (init (Shape.Idx.first hu)) (fun k : Fin M => x (ix2 (n0 := 256) (n1 := M) a k)) := by
  rw [Host.reduce_eq_fold_single f x init h' h hu]
  exact congrArg (fun g => Finset.fold f (init (Shape.Idx.first hu)) g Finset.univ) (funext fun k => congrArg x (lift_row h a k))

theorem v4_at (a : Fin 256) : res_main_v4 (F := Ideal) V0 (ix1 a) = aAt V0 a := by
  have h := red_row (M := 3584) IntOp.maxsi (absi (res_main_v0 (F := Ideal) V0)) (constantI S_ 32 2147483648#32) reducesTo_S256x3584_S256_d1 (by decide) h_S_ a
  unfold res_main_v4 aAt kA
  refine (congrArg (fun z => IntOp.maxsi z 1#32) h).trans ?_
  rfl

theorem v7_at (a : Fin 256) : res_main_v7 (F := Ideal) V0 (ix1 a) = kN (aAt V0 a) := by
  rw [← v4_at]; pointwise [res_main_v7]; rfl

theorem v13_at (a : Fin 256) : res_main_v13 (F := Ideal) V0 (ix1 a) = rM (aAt V0 a) := by
  unfold rM
  rw [← v7_at, ← v4_at]
  pointwise [res_main_v13, res_main_call0_v2, res_main_call0_v0, res_main_v12]
  rfl

theorem v20_at (a : Fin 256) (z : Fin 1) : res_main_v20 (F := Ideal) V0 (ix2 a z) = IntOp.shli .host (rM (aAt V0 a)) 8#32 := by
  rw [← v13_at]; pointwise [res_main_v20]

theorem v30_at (a : Fin 256) (k : Fin 3584) : res_main_v30 (F := Ideal) V0 (ix2 a k)
    = IntOp.addi (IntOp.shli .host (IntOp.absi (xAt V0 a k)) (IntOp.subi 23#32 (kN (aAt V0 a)))) (IntOp.shrsi .host (IntOp.shli .host (rM (aAt V0 a)) 8#32) 1#32) := by
  rw [← v20_at V0 a 0, ← v7_at]; pointwise [res_main_v30]; rfl

theorem bcC (α : Type) (x : S256x1.Idx → α) (a : Fin 256) (k : Fin 3584) :
    broadcastInDim S256x3584 ![0, 1] bcast_S256x1_S256x3584_0_1 x (ix2 a k) = x (ix2 (n0 := 256) (n1 := 1) a 0) := by
  pointwise []

theorem v36_at (a : Fin 256) (k : Fin 3584) : res_main_v36 (F := Ideal) V0 (ix2 a k)
    = FloatOps.fptosi (F := Ideal) (φ := .f32) 32 (Ideal.liftRound Int.floor (Ideal.div (FloatOps.sitofp (F := Ideal) .f32 (res_main_v30 (F := Ideal) V0 (ix2 (n0 := 256) (n1 := 3584) a k)))
      (FloatOps.sitofp (F := Ideal) .f32 (res_main_v20 (F := Ideal) V0 (ix2 (n0 := 256) (n1 := 1) a 0))))) := by
  pointwise [res_main_v36]

theorem v44_at (a : Fin 256) (k : Fin 3584) : res_main_v44 (F := Ideal) V0 (ix2 a k)
    = Scalar.select (IntOp.cmpi .slt (IntOp.subi (res_main_v30 (F := Ideal) V0 (ix2 (n0 := 256) (n1 := 3584) a k)) (IntOp.muli (res_main_v36 (F := Ideal) V0 (ix2 (n0 := 256) (n1 := 3584) a k)) (res_main_v20 (F := Ideal) V0 (ix2 (n0 := 256) (n1 := 1) a 0)))) 0#32) (IntOp.subi (res_main_v36 (F := Ideal) V0 (ix2 (n0 := 256) (n1 := 3584) a k)) 1#32) (res_main_v36 (F := Ideal) V0 (ix2 (n0 := 256) (n1 := 3584) a k)) := by
  pointwise [res_main_v44]

theorem v57_0_at (a : Fin 256) (k : Fin 3584) : res_main_v57_0 (F := Ideal) V0 (ix2 a k) = (rQ (xAt V0 a k) (aAt V0 a)).setWidth 8 := by
  unfold rQ rfd
  rw [← v30_at, ← v20_at V0 a 0]
  simp only [← v36_at]
  rw [← v44_at]
  simp only [res_main_v57_0, id_eq]
  pointwise []
  rfl

theorem v57_1_at (a : Fin 256) : res_main_v57_1 (F := Ideal) V0 (ix1 a) = rM (aAt V0 a) := v13_at V0 a

theorem v57_2_at (a : Fin 256) : res_main_v57_2 (F := Ideal) V0 (ix1 a) = kK (aAt V0 a) := by
  unfold kK; rw [← v7_at]; pointwise [res_main_v57_2]; rfl

/-- A row of codes times a column of weights, in 32-bit integers. -/
def rAcc (q w : Fin 3584 → BitVec 8) : BitVec 32 :=
  Finset.univ.fold IntOp.addi 0#32 fun k => IntOp.muli ((q k).signExtend 32) ((w k).signExtend 32)

theorem red_mid {N M : ℕ} {u : Shape} (f : BitVec 32 → BitVec 32 → BitVec 32) [Std.Commutative f] [Std.Associative f] (x : (⟨3, ![256, N, M]⟩ : Shape).Idx → BitVec 32)
    (init : u.Idx → BitVec 32) (h' : (⟨3, ![256, N, M]⟩ : Shape).ReducesTo [1] (⟨2, ![256, M]⟩ : Shape)) (h : (⟨3, ![256, N, M]⟩ : Shape).Reduces [1] (⟨2, ![256, M]⟩ : Shape))
    (hu : 0 < u.numel) (a : Fin 256) (c : Fin M) :
    Host.reduce f x init h' hu (ix2 a c) = Finset.univ.fold f (init (Shape.Idx.first hu)) (fun k : Fin N => x (ix3 (n0 := 256) (n1 := N) (n2 := M) a k c)) := by
  rw [Host.reduce_eq_fold_single f x init h' h hu]
  exact congrArg (fun g => Finset.fold f (init (Shape.Idx.first hu)) g Finset.univ) (funext fun k => congrArg x (lift_mid h a k c))

/-- The integer product of the codes and a weight matrix. -/
def accV (W : S3584x18944.Idx → BitVec 8) : S256x18944.Idx → BitVec 32 :=
  Host.reduce IntOp.addi (muli (broadcastInDim S256x3584x18944 ![0, 1, 2] bcast_S256x3584x1_S256x3584x18944_0_1_2 (broadcastInDim S256x3584x1 ![0, 1] bcast_S256x3584_S256x3584x1_0_1 (extsi 32 (res_main_v57_0 (F := Ideal) V0) natLt_8_32))) (broadcastInDim S256x3584x18944 ![0, 1, 2] bcast_S1x3584x18944_S256x3584x18944_0_1_2 (broadcastInDim S1x3584x18944 ![1, 2] bcast_S3584x18944_S1x3584x18944_1_2 (extsi 32 W natLt_8_32)))) (constantI S_ 32 0#32) reducesTo_S256x3584x18944_S256x18944_d1 h_S_

theorem accV_at (W : S3584x18944.Idx → BitVec 8) (a : Fin 256) (c : Fin 18944) :
    accV V0 W (ix2 a c) = rAcc (fun k => res_main_v57_0 (F := Ideal) V0 (ix2 (n0 := 256) (n1 := 3584) a k)) (fun k => W (ix2 (n0 := 3584) (n1 := 18944) k c)) := by
  unfold accV
  rw [red_mid (N := 3584) (M := 18944) IntOp.addi _ _ _ (by decide) h_S_ a c]
  refine congrArg (fun g => Finset.fold IntOp.addi 0#32 g Finset.univ) (funext fun k => ?_)
  pointwise []

/-- The rescaled product of one weight matrix at row `a`, column `c`. -/
def gAtR (W : S3584x18944.Idx → BitVec 8) (e : S18944.Idx → BitVec 32) (a : Fin 256) (c : Fin 18944) : BitVec 32 :=
  rR (rAcc (fun k => res_main_v57_0 (F := Ideal) V0 (ix2 (n0 := 256) (n1 := 3584) a k)) (fun k => W (ix2 (n0 := 3584) (n1 := 18944) k c)))
    (rM (aAt V0 a)) (kK (aAt V0 a)) (e (ix1 (n0 := 18944) c))

theorem v106_at (a : Fin 256) (c : Fin 18944) : res_main_v106 (F := Ideal) V0 (ix2 a c)
    = gAtR V0 (V0 (Proc.devRef .tc main_arg1)) (V0 (Proc.devRef .tc main_arg3)) a c := by
  unfold gAtR rR
  rw [← accV_at, ← v57_2_at, ← v57_1_at]
  unfold accV
  pointwise [res_main_v106, res_main_v72]
  rfl

/-- The gated product at row `a`, column `c`. -/
def hAt (a : Fin 256) (c : Fin 18944) : BitVec 32 :=
  rH (gAtR V0 (V0 (Proc.devRef .tc main_arg1)) (V0 (Proc.devRef .tc main_arg3)) a c)
    (gAtR V0 (V0 (Proc.devRef .tc main_arg2)) (V0 (Proc.devRef .tc main_arg4)) a c)

theorem v108_at (a : Fin 256) (c : Fin 18944) : res_main_v108 (F := Ideal) V0 (ix2 a c) = IntOp.absi (res_main_v106 (F := Ideal) V0 (ix2 (n0 := 256) (n1 := 18944) a c)) := by
  pointwise [res_main_v108]

theorem v123_at (a : Fin 256) (c : Fin 18944) : res_main_v123 (F := Ideal) V0 (ix2 a c) = rE (IntOp.absi (res_main_v106 (F := Ideal) V0 (ix2 (n0 := 256) (n1 := 18944) a c))) := by
  unfold rE
  rw [← v108_at]
  pointwise [res_main_v123, res_main_v114]

theorem v128_at (a : Fin 256) (c : Fin 18944) : res_main_v128 (F := Ideal) V0 (ix2 a c)
    = IntOp.addi 4096#32 (res_main_v123 (F := Ideal) V0 (ix2 (n0 := 256) (n1 := 18944) a c)) := by
  pointwise [res_main_v128]

theorem v132_at (a : Fin 256) (c : Fin 18944) : res_main_v132 (F := Ideal) V0 (ix2 a c)
    = IntOp.addi (IntOp.muli (res_main_v106 (F := Ideal) V0 (ix2 (n0 := 256) (n1 := 18944) a c)) (Scalar.select (IntOp.cmpi .sge (res_main_v106 (F := Ideal) V0 (ix2 (n0 := 256) (n1 := 18944) a c)) 0#32) 4096#32 (res_main_v123 (F := Ideal) V0 (ix2 (n0 := 256) (n1 := 18944) a c))))
      (IntOp.shrsi .host (res_main_v128 (F := Ideal) V0 (ix2 (n0 := 256) (n1 := 18944) a c)) 1#32) := by
  pointwise [res_main_v132]
  rfl

theorem v137_at (a : Fin 256) (c : Fin 18944) : res_main_v137 (F := Ideal) V0 (ix2 a c)
    = FloatOps.fptosi (F := Ideal) (φ := .f32) 32 (Ideal.liftRound Int.floor (Ideal.div (FloatOps.sitofp (F := Ideal) .f32 (res_main_v132 (F := Ideal) V0 (ix2 (n0 := 256) (n1 := 18944) a c)))
      (FloatOps.sitofp (F := Ideal) .f32 (res_main_v128 (F := Ideal) V0 (ix2 (n0 := 256) (n1 := 18944) a c))))) := by
  pointwise [res_main_v137]

theorem v144_at (a : Fin 256) (c : Fin 18944) : res_main_v144 (F := Ideal) V0 (ix2 a c)
    = Scalar.select (IntOp.cmpi .slt (IntOp.subi (res_main_v132 (F := Ideal) V0 (ix2 (n0 := 256) (n1 := 18944) a c)) (IntOp.muli (res_main_v137 (F := Ideal) V0 (ix2 (n0 := 256) (n1 := 18944) a c)) (res_main_v128 (F := Ideal) V0 (ix2 (n0 := 256) (n1 := 18944) a c)))) 0#32) (IntOp.subi (res_main_v137 (F := Ideal) V0 (ix2 (n0 := 256) (n1 := 18944) a c)) 1#32) (res_main_v137 (F := Ideal) V0 (ix2 (n0 := 256) (n1 := 18944) a c)) := by
  pointwise [res_main_v144]

/-- The hidden values. -/
theorem v157_at (a : Fin 256) (c : Fin 18944) : res_main_v157 (F := Ideal) V0 (ix2 a c) = hAt V0 a c := by
  unfold hAt rH rS rfd
  rw [← v106_at, ← v123_at, ← v128_at, ← v132_at]
  simp only [← v137_at]
  rw [← v144_at]
  unfold gAtR rR
  rw [← accV_at, ← v57_2_at, ← v57_1_at]
  unfold accV
  pointwise [res_main_v157, res_main_v96]
  rfl

theorem v158_at (a : Fin 256) : res_main_v158 (F := Ideal) V0 (ix1 a) = Finset.univ.fold IntOp.minsi 2147483647#32 (hAt V0 a) := by
  have h := red_row (M := 18944) IntOp.minsi (res_main_v157 (F := Ideal) V0) (constantI S_ 32 2147483647#32) reducesTo_S256x18944_S256_d1 (by decide) h_S_ a
  unfold res_main_v158
  refine h.trans (congrArg (fun g => Finset.fold IntOp.minsi 2147483647#32 g Finset.univ) (funext fun k => v157_at V0 a k))

/-- The range of a row of hidden values. -/
def dAt (a : Fin 256) : BitVec 32 :=
  IntOp.maxsi (IntOp.subi (Finset.univ.fold IntOp.maxsi 2147483648#32 (hAt V0 a)) (Finset.univ.fold IntOp.minsi 2147483647#32 (hAt V0 a))) 1#32

theorem v162_at (a : Fin 256) : res_main_v162 (F := Ideal) V0 (ix1 a) = dAt V0 a := by
  have h := red_row (M := 18944) IntOp.maxsi (res_main_v157 (F := Ideal) V0) (constantI S_ 32 2147483648#32) reducesTo_S256x18944_S256_d1 (by decide) h_S_ a
  unfold res_main_v162 dAt
  rw [← v158_at]
  refine (congrArg (fun z => IntOp.maxsi (IntOp.subi z (res_main_v158 (F := Ideal) V0 (ix1 a))) 1#32)
    (h.trans (congrArg (fun g => Finset.fold IntOp.maxsi 2147483648#32 g Finset.univ) (funext fun k => v157_at V0 a k)))).trans ?_
  rfl

theorem v165_at (a : Fin 256) : res_main_v165 (F := Ideal) V0 (ix1 a) = kN (dAt V0 a) := by
  rw [← v162_at]; pointwise [res_main_v165]; rfl

/-- The mantissa of a hidden row's scale. -/
def mAt (a : Fin 256) : BitVec 32 := rdiv (IntOp.addi (IntOp.shli .host (dAt V0 a) (IntOp.subi 23#32 (kN (dAt V0 a)))) 32640#32) 65280#32

theorem v171_at (a : Fin 256) : res_main_v171 (F := Ideal) V0 (ix1 a) = mAt V0 a := by
  unfold mAt
  rw [← v165_at, ← v162_at]
  pointwise [res_main_v171, res_main_call9_v2, res_main_call9_v0, res_main_v170]
  rfl

theorem v176_at (a : Fin 256) (z : Fin 1) : res_main_v176 (F := Ideal) V0 (ix2 a z) = IntOp.shli .host (mAt V0 a) 8#32 := by
  rw [← v171_at]; pointwise [res_main_v176]

theorem v188_at (a : Fin 256) (c : Fin 18944) : res_main_v188 (F := Ideal) V0 (ix2 a c)
    = IntOp.addi (IntOp.shli .host (IntOp.subi (hAt V0 a c) (res_main_v158 (F := Ideal) V0 (ix1 (n0 := 256) a))) (IntOp.subi 23#32 (kN (dAt V0 a)))) (IntOp.shrsi .host (IntOp.shli .host (mAt V0 a) 8#32) 1#32) := by
  rw [← v176_at V0 a 0, ← v165_at, ← v157_at]; pointwise [res_main_v188]

theorem v194_at (a : Fin 256) (k : Fin 18944) : res_main_v194 (F := Ideal) V0 (ix2 a k)
    = FloatOps.fptosi (F := Ideal) (φ := .f32) 32 (Ideal.liftRound Int.floor (Ideal.div (FloatOps.sitofp (F := Ideal) .f32 (res_main_v188 (F := Ideal) V0 (ix2 (n0 := 256) (n1 := 18944) a k)))
      (FloatOps.sitofp (F := Ideal) .f32 (res_main_v176 (F := Ideal) V0 (ix2 (n0 := 256) (n1 := 1) a 0))))) := by
  pointwise [res_main_v194]

theorem v202_at (a : Fin 256) (k : Fin 18944) : res_main_v202 (F := Ideal) V0 (ix2 a k)
    = Scalar.select (IntOp.cmpi .slt (IntOp.subi (res_main_v188 (F := Ideal) V0 (ix2 (n0 := 256) (n1 := 18944) a k)) (IntOp.muli (res_main_v194 (F := Ideal) V0 (ix2 (n0 := 256) (n1 := 18944) a k)) (res_main_v176 (F := Ideal) V0 (ix2 (n0 := 256) (n1 := 1) a 0)))) 0#32) (IntOp.subi (res_main_v194 (F := Ideal) V0 (ix2 (n0 := 256) (n1 := 18944) a k)) 1#32) (res_main_v194 (F := Ideal) V0 (ix2 (n0 := 256) (n1 := 18944) a k)) := by
  pointwise [res_main_v202]

/-- The final code of a hidden value `h` of a row with least value `lo`, range `d` and mantissa `m`. -/
def rCode (h lo d m : BitVec 32) : BitVec 32 :=
  IntOp.minsi 255#32 (IntOp.maxsi 0#32 (rfd (IntOp.addi (IntOp.shli .host (IntOp.subi h lo) (IntOp.subi 23#32 (kN d))) (IntOp.shrsi .host (IntOp.shli .host m 8#32) 1#32)) (IntOp.shli .host m 8#32)))

/-- The final codes. -/
theorem v213_at (a : Fin 256) (k : Fin 18944) :
    trunci 8 (minsi (broadcastInDim S256x18944 ![] bcast_S_S256x18944 (id (constantI S_ 32 255#32))) (maxsi (broadcastInDim S256x18944 ![] bcast_S_S256x18944 (id (constantI S_ 32 0#32))) (select (cmpi .sge (subi (res_main_v188 (F := Ideal) V0) (muli (res_main_v202 (F := Ideal) V0) (broadcastInDim S256x18944 ![0, 1] bcast_S256x1_S256x18944_0_1 (res_main_v176 (F := Ideal) V0)))) (broadcastInDim S256x18944 ![0, 1] bcast_S256x1_S256x18944_0_1 (res_main_v176 (F := Ideal) V0))) (addi (res_main_v202 (F := Ideal) V0) (broadcastInDim S256x18944 ![] bcast_S_S256x18944 (constantI S_ 32 1#32))) (res_main_v202 (F := Ideal) V0)))) natLt_8_32 (ix2 a k)
      = (rCode (hAt V0 a k) (Finset.univ.fold IntOp.minsi 2147483647#32 (hAt V0 a)) (dAt V0 a) (mAt V0 a)).setWidth 8 := by
  unfold rCode rfd
  rw [← v158_at, ← v188_at, ← v176_at V0 a 0]
  simp only [← v194_at]
  rw [← v202_at]
  simp only [id_eq]
  pointwise []

end Cert.ReferenceIdeal.Hand
end
-- ==== Proof.ReferenceRun.lean ====
module

public import proofs.«01_k».proof.Proof.ReferenceValue
public import Idealize.ShloMosaic.Lib.ValueLayout

@[expose] public section

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.KernelIdeal.Hand (kA kN kK rM rQ)

/-! ## The reference's seven results, element by element -/

theorem xAt_arg (V0 : Valuation τ sig (Elt Ideal)) (a : Fin 256) (k : Fin 3584) :
    xAt V0 a k = (V0 (Proc.devRef .tc main_arg0) : S1x256x3584.Idx → BitVec 32) (ix3 (n0 := 1) (n1 := 256) (n2 := 3584) 0 a k) :=
  Idealize.ShloMosaic.ValueIdx.shapeCast_1ab_ab_apply _ _ a k

/-- A vector of rows set up as one column. -/
theorem col_at {α : Type} (x : S256.Idx → α) (y : S256x1.Idx) : broadcastInDim S256x1 ![0] bcast_S256_S256x1_0 x y = x (ix1 (n0 := 256) (y 0)) := by
  rw [eq_ix2 y]
  pointwise []

/-- A vector of rows known row by row, set up as one column. -/
theorem ext1 {α : Type} {x : S256.Idx → α} {g : Fin 256 → α} (h : ∀ a, x (ix1 a) = g a) :
    broadcastInDim S256x1 ![0] bcast_S256_S256x1_0 x = fun y => g (y 0) :=
  funext fun y => (col_at x y).trans (h (y 0))

/-- A matrix known at every row and column. -/
theorem ext2 {α : Type} {n : ℕ} {x : (⟨2, ![256, n]⟩ : Shape).Idx → α} {g : Fin 256 → Fin n → α} (h : ∀ a k, x (ix2 a k) = g a k) :
    x = fun y => g (y 0) (y 1) :=
  funext fun y => (congrArg x (eq_ix2 y)).trans (h (y 0) (y 1))

/-- Both again, of a value passed through the identity. -/
theorem ext1' {α : Type} {x : S256.Idx → α} {g : Fin 256 → α} (h : ∀ a, x (ix1 a) = g a) :
    broadcastInDim S256x1 ![0] bcast_S256_S256x1_0 (id x) = fun y => g (y 0) := ext1 h
theorem ext2' {α : Type} {n : ℕ} {x : (⟨2, ![256, n]⟩ : Shape).Idx → α} {g : Fin 256 → Fin n → α} (h : ∀ a k, x (ix2 a k) = g a k) :
    id x = fun y => g (y 0) (y 1) := ext2 h

section
variable (V0 : Valuation τ sig (Elt Ideal))

theorem v214_eq : broadcastInDim S256x1 ![0] bcast_S256_S256x1_0 (id (res_main_v171 (F := Ideal) V0)) = fun y => mAt V0 (y 0) :=
  ext1' (g := mAt V0) (v171_at V0)

theorem v215_eq : broadcastInDim S256x1 ![0] bcast_S256_S256x1_0 (id (subi (broadcastInDim S256 ![] bcast_S_S256 (constantI S_ 32 25#32)) (res_main_v165 (F := Ideal) V0)))
    = fun y => IntOp.subi 25#32 (kN (dAt V0 (y 0))) :=
  ext1' (g := fun a => IntOp.subi 25#32 (kN (dAt V0 a))) fun a => congrArg (IntOp.subi 25#32) (v165_at V0 a)

/-- A row's least hidden value. -/
def lowAt (a : Fin 256) : BitVec 32 := Finset.univ.fold IntOp.minsi 2147483647#32 (hAt V0 a)

theorem v216_eq : broadcastInDim S256x1 ![0] bcast_S256_S256x1_0 (id (res_main_v158 (F := Ideal) V0)) = fun y => lowAt V0 (y 0) :=
  ext1' (g := lowAt V0) (v158_at V0)

theorem v217_eq : broadcastInDim S256x1 ![0] bcast_S256_S256x1_0 (res_main_v57_1 (F := Ideal) V0) = fun y => rM (aAt V0 (y 0)) :=
  ext1 (g := fun a => rM (aAt V0 a)) (v57_1_at V0)

theorem v218_eq : broadcastInDim S256x1 ![0] bcast_S256_S256x1_0 (res_main_v57_2 (F := Ideal) V0) = fun y => kK (aAt V0 (y 0)) :=
  ext1 (g := fun a => kK (aAt V0 a)) (v57_2_at V0)

theorem v57_0_eq : res_main_v57_0 (F := Ideal) V0 = fun y : S256x3584.Idx => (rQ (xAt V0 (y 0) (y 1)) (aAt V0 (y 0))).setWidth 8 :=
  ext2 (n := 3584) (g := fun a k => (rQ (xAt V0 a k) (aAt V0 a)).setWidth 8) (v57_0_at V0)

/-- A final code. -/
def codeAt (a : Fin 256) (k : Fin 18944) : BitVec 8 := (rCode (hAt V0 a k) (lowAt V0 a) (dAt V0 a) (mAt V0 a)).setWidth 8

theorem v213_eq (x : S256x18944.Idx → BitVec 8) (h : ∀ a k, x (ix2 (n0 := 256) (n1 := 18944) a k) = codeAt V0 a k) :
    id x = fun y : S256x18944.Idx => codeAt V0 (y 0) (y 1) :=
  ext2' (n := 18944) (g := codeAt V0) h
end

variable (m : (ℓ : Loc nD τ sig) → Buf (Elt Ideal) ℓ) (ρ : Dev nD → PrngReg)

theorem runV : θ_run defs (onTc (τ := τ) (main (F := Ideal))) ⟨m, fun _ => 0, ρ⟩ (fun r => ∀ c : Dev nD,
      r.2.mem ((c.tc : Thread nD τ).loc main_v213_0) = (fun y : S256x18944.Idx => codeAt (launchContents m c) (y 0) (y 1))
      ∧ r.2.mem ((c.tc : Thread nD τ).loc main_v214) = (fun y : S256x1.Idx => mAt (launchContents m c) (y 0))
      ∧ r.2.mem ((c.tc : Thread nD τ).loc main_v215) = (fun y : S256x1.Idx => IntOp.subi 25#32 (kN (dAt (launchContents m c) (y 0))))
      ∧ r.2.mem ((c.tc : Thread nD τ).loc main_v216) = (fun y : S256x1.Idx => lowAt (launchContents m c) (y 0))
      ∧ r.2.mem ((c.tc : Thread nD τ).loc main_v57_0) = (fun y : S256x3584.Idx =>
        (rQ (xAt (launchContents m c) (y 0) (y 1)) (aAt (launchContents m c) (y 0))).setWidth 8)
      ∧ r.2.mem ((c.tc : Thread nD τ).loc main_v217) = (fun y : S256x1.Idx => rM (aAt (launchContents m c) (y 0)))
      ∧ r.2.mem ((c.tc : Thread nD τ).loc main_v218) = (fun y : S256x1.Idx => kK (aAt (launchContents m c) (y 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact (θ_run defs _ _).mono (fun r h c => ⟨(h c).1.trans (v213_eq (launchContents m c) _ (v213_at (launchContents m c))),
    (h c).2.1.trans (v214_eq (launchContents m c)), (h c).2.2.1.trans (v215_eq (launchContents m c)), (h c).2.2.2.1.trans (v216_eq (launchContents m c)),
    (h c).2.2.2.2.1.trans (v57_0_eq (launchContents m c)), (h c).2.2.2.2.2.1.trans (v217_eq (launchContents m c)),
    (h c).2.2.2.2.2.2.1.trans (v218_eq (launchContents m c)), (h c).2.2.2.2.2.2.2⟩) (run (F := Ideal) m ρ)

end Cert.ReferenceIdeal.Hand
end
-- ==== Proof.ScalarOut.lean ====
module

public import proofs.«01_k».proof.Proof.ScalarH

@[expose] public section

set_option maxRecDepth 16384

noncomputable section

namespace Cert.KernelIdeal.Hand

open Idealize.ShloMosaic

/-! ## Largest and least values -/

theorem fold_maxsi {n : ℕ} (b : BitVec 32) (f : Fin n → BitVec 32) :
    (Finset.univ.fold IntOp.maxsi b f).toInt = Finset.univ.fold max b.toInt fun k => (f k).toInt :=
  (Finset.fold_hom (m := BitVec.toInt) (fun x y => mxT x y)).symm
theorem fold_minsi {n : ℕ} (b : BitVec 32) (f : Fin n → BitVec 32) :
    (Finset.univ.fold IntOp.minsi b f).toInt = Finset.univ.fold min b.toInt fun k => (f k).toInt :=
  (Finset.fold_hom (m := BitVec.toInt) (fun x y => mnT x y)).symm

/-- The largest absolute value of a row in range. -/
theorem kA_bounds (row : Fin 3584 → BitVec 32) (h : ∀ k, -8388607 ≤ (row k).toInt ∧ (row k).toInt ≤ 8388607) :
    1 ≤ (kA row).toInt ∧ (kA row).toInt < 2 ^ 23 ∧ ∀ k, |(row k).toInt| ≤ (kA row).toInt := by
  have hab : ∀ k, (IntOp.absi (row k)).toInt = |(row k).toInt| := fun k => abT _ (by have := h k; omega)
  have e : (kA row).toInt = max (Finset.univ.fold max (-2147483648) fun k => |(row k).toInt|) 1 := by
    unfold kA
    rw [mxT, fold_maxsi, show (2147483648#32 : BitVec 32).toInt = -2147483648 by decide, show (1#32 : BitVec 32).toInt = 1 by decide]
    simp only [hab]
  have u : (Finset.univ.fold max (-2147483648) fun k => |(row k).toInt|) ≤ 8388607 :=
    (Finset.fold_max_le _).2 ⟨by norm_num, fun k _ => abs_le.2 (h k)⟩
  have l : ∀ k, |(row k).toInt| ≤ Finset.univ.fold max (-2147483648) fun k => |(row k).toInt| :=
    fun k => (Finset.le_fold_max _).2 (Or.inr ⟨k, Finset.mem_univ k, le_refl _⟩)
  rw [e]
  exact ⟨le_max_right _ _, by omega, fun k => (l k).trans (le_max_left _ _)⟩

/-! ## The product -/

theorem zf_sum {n : ℕ} (f : Fin n → ℤ) : ∑ x, zf (f x) = zf (∑ x, f x) := by
  refine Finset.induction_on (Finset.univ : Finset (Fin n)) (by simpa using zf_zero) fun a s ha ih => ?_
  rw [Finset.sum_insert ha, Finset.sum_insert ha, ih, zf_add]

theorem fts_ofInt (z : ℤ) (h1 : -2 ^ 31 ≤ z) (h2 : z < 2 ^ 31) : FloatOps.fptosi (F := Ideal) (φ := .f32) 32 (zf z) = BitVec.ofInt 32 z := by
  apply BitVec.eq_of_toInt_eq
  rw [fts z h1 h2, BitVec.toInt_ofInt]
  exact (Int.bmod_eq_of_le (by norm_num at *; omega) (by norm_num at *; omega)).symm

theorem fold_addi {n : ℕ} (q w : Fin n → BitVec 8) :
    (Finset.univ.fold IntOp.addi 0#32 fun k => IntOp.muli ((q k).signExtend 32) ((w k).signExtend 32)) = BitVec.ofInt 32 (∑ k, (q k).toInt * (w k).toInt) := by
  refine Finset.induction_on (Finset.univ : Finset (Fin n)) (by simp) fun a s ha ih => ?_
  rw [Finset.fold_insert ha, Finset.sum_insert ha, ih, BitVec.ofInt_add, BitVec.ofInt_mul]
  rfl

section
variable (B : S256x3584.Idx → EReal) (W : S3584x512.Idx → BitVec 8) (a : Fin 256) (c : Fin 512) (q w : Fin 3584 → BitVec 8)
  (hB : ∀ k, B (ix2 (n0 := 256) (n1 := 3584) a k) = zf (q k).toInt) (hW : ∀ k, W (ix2 (n0 := 3584) (n1 := 512) k c) = w k)
  (hq : ∀ k, -127 ≤ (q k).toInt ∧ (q k).toInt ≤ 127)

/-- One term of the product, by its number. -/
def term (i : ℕ) : ℤ := if h : i < 3584 then (q ⟨i, h⟩).toInt * (w ⟨i, h⟩).toInt else 0

include hq in
theorem term_bound (i : ℕ) : |term q w i| ≤ 16256 := by
  unfold term
  split_ifs with h
  · have h1 := hq ⟨i, h⟩
    have h2 := BitVec.le_toInt (w ⟨i, h⟩)
    have h3 := BitVec.toInt_lt (x := w ⟨i, h⟩)
    norm_num at h2 h3
    rw [abs_mul]
    have a1 : |(q ⟨i, h⟩).toInt| ≤ 127 := abs_le.2 h1
    have a2 : |(w ⟨i, h⟩).toInt| ≤ 128 := abs_le.2 ⟨h2, by omega⟩
    calc |(q ⟨i, h⟩).toInt| * |(w ⟨i, h⟩).toInt| ≤ 127 * 128 := mul_le_mul a1 a2 (abs_nonneg _) (by norm_num)
      _ = 16256 := by norm_num
  · norm_num

include hB hW hq in
theorem gChunk_eq (o n : ℕ) (h : o + n ≤ 3584) (hn : n ≤ 1024) : gChunk B W a c o n h = BitVec.ofInt 32 (∑ i ∈ Finset.range n, term q w (o + i)) := by
  have e : ∀ x : Fin n, B (ix2 (n0 := 256) (n1 := 3584) a ⟨o + x.val, by omega⟩)
      * FloatOps.sitofp (F := Ideal) .bf16 (W (ix2 (n0 := 3584) (n1 := 512) ⟨o + x.val, by omega⟩ c)) = zf (term q w (o + x.val)) := fun x => by
    rw [hB, hW, sit, zf_mul, term, dif_pos (by omega)]
  unfold gChunk
  rw [Finset.sum_congr rfl fun x _ => e x, zf_sum, Finset.sum_range]
  have b : |∑ x : Fin n, term q w (o + x.val)| ≤ 1024 * 16256 := by
    refine (Finset.abs_sum_le_sum_abs _ _).trans ?_
    refine (Finset.sum_le_card_nsmul _ _ 16256 fun x _ => term_bound q w hq _).trans ?_
    rw [Finset.card_univ, Fintype.card_fin, nsmul_eq_mul]
    have : (n : ℤ) ≤ 1024 := by exact_mod_cast hn
    omega
  have b' := abs_le.1 b
  exact fts_ofInt _ (by omega) (by omega)

include hB hW hq in
/-- The kernel's product, added up over four chunks in floats, is the reference's integer product. -/
theorem gAt_eq : gAt B W a c = Finset.univ.fold IntOp.addi 0#32 fun k => IntOp.muli ((q k).signExtend 32) ((w k).signExtend 32) := by
  have e : ∑ k, (q k).toInt * (w k).toInt = ∑ i ∈ Finset.range (1024 + 1024 + 1024 + 512), term q w i := by
    rw [Finset.sum_range]
    refine Finset.sum_congr rfl fun k _ => ?_
    rw [term, dif_pos k.isLt]
  unfold gAt
  rw [fold_addi, e, gChunk_eq B W a c q w hB hW hq _ _ _ (by omega), gChunk_eq B W a c q w hB hW hq _ _ _ (by omega),
    gChunk_eq B W a c q w hB hW hq _ _ _ (by omega), gChunk_eq B W a c q w hB hW hq _ _ _ (by omega),
    Finset.sum_range_add, Finset.sum_range_add, Finset.sum_range_add, BitVec.ofInt_add, BitVec.ofInt_add, BitVec.ofInt_add]
  simp only [Nat.zero_add]
  rfl
end

/-! ## The final scale -/

/-- The mantissa of the final scale is the reference's. -/
theorem kHM_eq (d : BitVec 32) (h1 : 1 ≤ d.toInt) (h2 : d.toInt < 2 ^ 23) :
    kHM d = rdiv (IntOp.addi (IntOp.shli .host d (IntOp.subi 23#32 (kN d))) 32640#32) 65280#32 ∧ 64 ≤ (kHM d).toInt ∧ (kHM d).toInt ≤ 129 := by
  obtain ⟨s, hs, e, b1, b2, -⟩ := top_bits d h1 h2
  have hV : ∀ u, (IntOp.addi (IntOp.shli u d (IntOp.subi 23#32 (kN d))) 32640#32).toInt = d.toInt * 2 ^ s + 32640 := fun u => by
    have := sl u d _ s e (by omega) (by omega) (by omega)
    rw [ad _ _ (by rw [this]; simp; omega) (by rw [this]; simp; omega), this]; rfl
  have d32 : (65280#32 : BitVec 32).toInt = 65280 := by decide
  have hr : (rdiv (IntOp.addi (IntOp.shli .host d (IntOp.subi 23#32 (kN d))) 32640#32) 65280#32).toInt = (d.toInt * 2 ^ s + 32640) / 65280 := by
    rw [rdiv_eq _ _ (by rw [hV]; omega) (by decide), hV]; rfl
  have hk : (kHM d).toInt = (d.toInt * 2 ^ s + 32640) / 65280 := by
    have hV' : (kHV d).toInt = d.toInt * 2 ^ s + 32640 := hV .vector
    generalize d.toInt * 2 ^ s = T at *
    have c2 : (T : ℝ) < 2 ^ 23 := by exact_mod_cast b2
    have c1 : (0 : ℝ) ≤ T := by exact_mod_cast (by omega : 0 ≤ T)
    unfold kHM
    rw [fdc_eq _ _ _ _ c_recip2 (by rw [hV']; omega) (by rw [hV']; omega) (by decide) (by decide) (by rw [hV', d32]; push_cast; linarith)
      (by rw [hV', d32]; push_cast; linarith), hV']; rfl
  exact ⟨BitVec.eq_of_toInt_eq (by rw [hr, hk]), by rw [hk]; omega, by rw [hk]; omega⟩

/-- Rounding to nearest finds the integer strictly less than a half away. -/
theorem round_of (r : ℝ) (n : ℤ) (h1 : (n : ℝ) - 1 / 2 < r) (h2 : r < n + 1 / 2) : Ideal.roundHalfEven r = n := by
  unfold Ideal.roundHalfEven
  simp only
  rcases lt_or_ge r n with h | h
  · have hf : ⌊r⌋ = n - 1 := Int.floor_eq_iff.2 ⟨by push_cast; linarith, by push_cast; linarith⟩
    rw [hf, if_neg (by push_cast; linarith), if_pos (by push_cast; linarith)]; omega
  · have hf : ⌊r⌋ = n := Int.floor_eq_iff.2 ⟨h, by linarith⟩
    rw [hf, if_pos (by linarith)]

/-- The kernel's rounding of a quotient: the added bit more than a ten thousandth turns a tie upward and moves nothing else. -/
theorem round_core (U m : ℤ) (hU : 0 ≤ U) (h1 : 64 ≤ m) (h2 : m ≤ 129) :
    Ideal.roundHalfEven (min ((U : ℝ) / (16 * m)) 255 + 13743895 / 2 ^ 37) = min 255 ((U + 8 * m) / (16 * m)) := by
  obtain ⟨k, hk⟩ : ∃ k, (U + 8 * m) / (16 * m) = k := ⟨_, rfl⟩
  have hm : 0 < 16 * m := by omega
  have e1 := Int.emod_add_mul_ediv (U + 8 * m) (16 * m)
  have e2 := Int.emod_nonneg (U + 8 * m) hm.ne'
  have e3 := Int.emod_lt_of_pos (U + 8 * m) hm
  rw [hk] at e1 ⊢
  generalize (U + 8 * m) % (16 * m) = z at *
  have i1 : 2 * (16 * m * k) ≤ 2 * U + 16 * m := by omega
  have i2 : 2 * U + 2 ≤ 2 * (16 * m * k) + 16 * m := by omega
  have j1 : 2 * (16 * (m : ℝ) * k) ≤ 2 * U + 16 * m := by exact_mod_cast i1
  have j2 : 2 * (U : ℝ) + 2 ≤ 2 * (16 * m * k) + 16 * m := by exact_mod_cast i2
  have m1 : (64 : ℝ) ≤ m := by exact_mod_cast h1
  have m2 : (m : ℝ) ≤ 129 := by exact_mod_cast h2
  have hmr : (0 : ℝ) < 16 * m := by linarith
  have y1 : (k : ℝ) - 1 / 2 ≤ (U : ℝ) / (16 * m) := by rw [le_div_iff₀ hmr]; linarith
  have y2 : (U : ℝ) / (16 * m) ≤ k + 1 / 2 - 1 / 2064 := by rw [div_le_iff₀ hmr]; nlinarith
  generalize (U : ℝ) / (16 * m) = y at *
  rcases le_or_gt k 255 with h | h
  · have hr : (k : ℝ) ≤ 255 := by exact_mod_cast h
    rw [min_eq_right h]
    refine round_of _ _ ?_ ?_
    · rcases min_cases y 255 with ⟨e, _⟩ | ⟨e, _⟩ <;> rw [e] <;> norm_num <;> linarith
    · rcases min_cases y 255 with ⟨e, _⟩ | ⟨e, _⟩ <;> rw [e] <;> norm_num <;> linarith
  · have hr : (256 : ℝ) ≤ k := by exact_mod_cast h
    rw [min_eq_left h.le, min_eq_right (by linarith)]
    refine round_of _ _ ?_ ?_ <;> norm_num

/-- The final code is the reference's. -/
theorem kCode_eq (h lo d m : BitVec 32) (h0 : 0 ≤ h.toInt - lo.toInt) (h1 : h.toInt - lo.toInt ≤ d.toInt) (d1 : 1 ≤ d.toInt) (d2 : d.toInt < 2 ^ 19)
    (m1 : 64 ≤ m.toInt) (m2 : m.toInt ≤ 129) :
    kCode (zf h.toInt) (zf lo.toInt) (kScale (kHN d) m) = (IntOp.minsi 255#32 (IntOp.maxsi 0#32 (rfd (IntOp.addi
      (IntOp.shli .host (IntOp.subi h lo) (IntOp.subi 23#32 (kN d))) (IntOp.shrsi .host (IntOp.shli .host m 8#32) 1#32)) (IntOp.shli .host m 8#32)))).setWidth 8 := by
  obtain ⟨s, hs, e, b1, b2, b3⟩ := top_bits d d1 (d2.trans (by norm_num))
  have hs4 : 4 ≤ s := by have := b3 19 (by norm_num) d2; omega
  obtain ⟨j, rfl⟩ : ∃ j, s = j + 4 := ⟨s - 4, by omega⟩
  have hsub := sb h lo (by omega) (by omega)
  obtain ⟨P, hP⟩ : ∃ P, h.toInt - lo.toInt = P := ⟨_, rfl⟩
  obtain ⟨U, hU⟩ : ∃ U : ℤ, P * 2 ^ j = U := ⟨_, rfl⟩
  have hU0 : 0 ≤ U := by rw [← hU]; exact mul_nonneg (by omega) (by positivity)
  have hT : P * 2 ^ (j + 4) = 16 * U := by rw [← hU]; ring
  have hTb : 16 * U < 2 ^ 23 := by
    rw [← hT]
    exact lt_of_le_of_lt (mul_le_mul_of_nonneg_right (by omega) (by positivity)) b2
  have hp' : (2 : ℤ) ^ (j + 4) ≤ 2 ^ 22 := pow_le_pow_right₀ (by norm_num) hs
  rw [hP] at hsub
  have hsv : (IntOp.shli .host (IntOp.subi h lo) (IntOp.subi 23#32 (kN d))).toInt = 16 * U := by
    rw [sl .host _ _ (j + 4) e (by omega) (by rw [hsub]; omega) (by rw [hsub, hT]; omega), hsub, hT]
  have h1s : (IntOp.shli .vector 1#32 (IntOp.subi 23#32 (kN d))).toInt = 2 ^ (j + 4) := by
    rw [sl .vector 1#32 _ (j + 4) e (by omega) (by decide) (by rw [show (1#32 : BitVec 32).toInt = 1 from rfl, one_mul]; exact lt_of_le_of_lt hp' (by norm_num))]
    exact one_mul _
  have hd : (IntOp.shli .host m 8#32).toInt = m.toInt * 256 := by
    rw [sl .host m 8#32 8 (by decide) (by omega) (by omega) (by omega)]; norm_num
  have hd1 : (IntOp.shrsi .host (IntOp.shli .host m 8#32) 1#32).toInt = m.toInt * 128 := by
    rw [sr _ _ _ 1 (by decide) (by omega), hd]; omega
  have hmm : (IntOp.muli m 256#32).toInt = m.toInt * 256 := by
    have c : (256#32 : BitVec 32).toInt = 256 := by decide
    rw [ml _ _ (by rw [c]; omega) (by rw [c]; omega), c]
  have hr : (rfd (IntOp.addi (IntOp.shli .host (IntOp.subi h lo) (IntOp.subi 23#32 (kN d))) (IntOp.shrsi .host (IntOp.shli .host m 8#32) 1#32)) (IntOp.shli .host m 8#32)).toInt
      = (U + 8 * m.toInt) / (16 * m.toInt) := by
    rw [rfd_eq _ _ (by rw [hd]; omega), ad _ _ (by rw [hsv, hd1]; omega) (by rw [hsv, hd1]; omega), hsv, hd1, hd,
      show 16 * U + m.toInt * 128 = 16 * (U + 8 * m.toInt) by ring, show m.toInt * 256 = 16 * (16 * m.toInt) by ring,
      Int.mul_ediv_mul_of_pos _ _ (by norm_num)]
  have k0 : 0 ≤ (U + 8 * m.toInt) / (16 * m.toInt) := Int.ediv_nonneg (by omega) (by omega)
  have hmr : (m.toInt : ℝ) ≠ 0 := by
    have : (64 : ℝ) ≤ m.toInt := by exact_mod_cast m1
    intro q; rw [q] at this; norm_num at this
  have hsc : kScale (kHN d) m = (((2 ^ (j + 4) : ℤ) : ℝ) / ((m.toInt * 256 : ℤ) : ℝ) : ℝ) := by
    unfold kScale
    rw [show kHN d = kN d from rfl, sit, sit, h1s, hmm, zdiv _ _ (by omega)]
  have hy : ((P : ℤ) : ℝ) * (((2 ^ (j + 4) : ℤ) : ℝ) / ((m.toInt * 256 : ℤ) : ℝ)) = (U : ℝ) / (16 * (m.toInt : ℝ)) := by
    rw [← hU]; push_cast; field_simp; ring
  unfold kCode
  rw [zf_sub, hP, hsc, c_255, c_eps, zf, zf, ← EReal.coe_mul, hy]
  rw [show min (((U : ℝ) / (16 * (m.toInt : ℝ)) : ℝ) : EReal) (((255 : ℤ) : ℝ) : EReal) = ((min ((U : ℝ) / (16 * (m.toInt : ℝ))) 255 : ℝ) : EReal) by
    push_cast; exact (EReal.coe_strictMono.monotone.map_min).symm]
  rw [← EReal.coe_add, show ∀ r : ℝ, Ideal.liftRound Ideal.roundHalfEven (r : EReal) = zf (Ideal.roundHalfEven r) from fun _ => rfl,
    round_core U _ hU0 m1 m2]
  refine congrArg (BitVec.setWidth 8) (BitVec.eq_of_toInt_eq ?_)
  have c1 : (255#32 : BitVec 32).toInt = 255 := by decide
  have c2 : (0#32 : BitVec 32).toInt = 0 := by decide
  rw [mnT, mxT, hr, c1, c2, max_eq_right k0]
  exact fts _ (by omega) (by omega)

end Cert.KernelIdeal.Hand
end
-- ==== Proof.Join.lean ====
module

public import proofs.«01_k».proof.Proof.KernelIdealValue
public import proofs.«01_k».proof.Proof.ReferenceRun
public import proofs.«01_k».proof.Proof.ScalarOut

@[expose] public section

set_option maxRecDepth 16384

noncomputable section

namespace Cert.Join

open Idealize.ShloMosaic Idealize.ShloMosaic.TcCoe Idealize.SL.Sem
open Cert.KernelIdeal.Hand
open Cert.ReferenceIdeal.Hand (xAt aAt hAt dAt mAt gAtR rAcc lowAt codeAt)

/-! ## Row by row, the kernel's values and the reference's

The kernel's side is stated over the blocks its body is given, the reference's over its buffers at the start; `Agree` says that they hold the
same numbers and that those of `x` are in range. -/

/-- The kernel's blocks hold the reference's arguments. -/
structure Agree (X : Cert.KernelIdeal.S256x3584.Idx → BitVec 32) (W1 W2 : ℕ → Cert.KernelIdeal.S3584x512.Idx → BitVec 8)
    (E1 E2 : ℕ → Cert.KernelIdeal.S1x512.Idx → BitVec 32) (V0 : Valuation Cert.ReferenceIdeal.τ Cert.ReferenceIdeal.sig (Elt Ideal)) : Prop where
  x : ∀ (a : Fin 256) (k : Fin 3584), X (ix2 a k) = xAt V0 a k
  w1 : ∀ (n : ℕ) (h : n < 37) (k : Fin 3584) (j : Fin 512), W1 n (ix2 k j)
    = (V0 (Proc.devRef .tc Cert.ReferenceIdeal.main_arg1) : Cert.ReferenceIdeal.S3584x18944.Idx → BitVec 8) (ix2 (n0 := 3584) (n1 := 18944) k ⟨512 * n + j.val, by omega⟩)
  w2 : ∀ (n : ℕ) (h : n < 37) (k : Fin 3584) (j : Fin 512), W2 n (ix2 k j)
    = (V0 (Proc.devRef .tc Cert.ReferenceIdeal.main_arg2) : Cert.ReferenceIdeal.S3584x18944.Idx → BitVec 8) (ix2 (n0 := 3584) (n1 := 18944) k ⟨512 * n + j.val, by omega⟩)
  e1 : ∀ (n : ℕ) (h : n < 37) (j : Fin 512), E1 n (ix2 0 j)
    = (V0 (Proc.devRef .tc Cert.ReferenceIdeal.main_arg3) : Cert.ReferenceIdeal.S18944.Idx → BitVec 32) (ix1 (n0 := 18944) ⟨512 * n + j.val, by omega⟩)
  e2 : ∀ (n : ℕ) (h : n < 37) (j : Fin 512), E2 n (ix2 0 j)
    = (V0 (Proc.devRef .tc Cert.ReferenceIdeal.main_arg4) : Cert.ReferenceIdeal.S18944.Idx → BitVec 32) (ix1 (n0 := 18944) ⟨512 * n + j.val, by omega⟩)
  r : ∀ (a : Fin 256) (k : Fin 3584), -8388607 ≤ (xAt V0 a k).toInt ∧ (xAt V0 a k).toInt ≤ 8388607

variable {X : Cert.KernelIdeal.S256x3584.Idx → BitVec 32} {W1 W2 : ℕ → Cert.KernelIdeal.S3584x512.Idx → BitVec 8}
  {E1 E2 : ℕ → Cert.KernelIdeal.S1x512.Idx → BitVec 32} {V0 : Valuation Cert.ReferenceIdeal.τ Cert.ReferenceIdeal.sig (Elt Ideal)}

section
variable (H : Agree X W1 W2 E1 E2 V0)
include H

theorem row_eq (a : Fin 256) : (kA fun k => X (ix2 (n0 := 256) (n1 := 3584) a k)) = aAt V0 a := by
  unfold aAt
  exact congrArg kA (funext fun k => H.x a k)

theorem bounds (a : Fin 256) : 1 ≤ (aAt V0 a).toInt ∧ (aAt V0 a).toInt < 2 ^ 23 ∧ ∀ k, |(xAt V0 a k).toInt| ≤ (aAt V0 a).toInt :=
  kA_bounds (xAt V0 a) (H.r a)

theorem XB_eq (a : Fin 256) (k : Fin 3584) : XB X (ix2 (n0 := 256) (n1 := 3584) a k) = zf (rQ (xAt V0 a k) (aAt V0 a)).toInt
    ∧ -127 ≤ (rQ (xAt V0 a k) (aAt V0 a)).toInt ∧ (rQ (xAt V0 a k) (aAt V0 a)).toInt ≤ 127 := by
  obtain ⟨h1, h2, h3⟩ := bounds H a
  have e : XB X (ix2 (n0 := 256) (n1 := 3584) a k) = kQ (xAt V0 a k) (aAt V0 a) := by
    rw [← row_eq H a, ← H.x a k]; rfl
  rw [e]
  exact kQ_eq _ _ h1 h2 (h3 k)

/-- The codes of `x`. -/
theorem XC_eq (a : Fin 256) (k : Fin 3584) : XC X (ix2 (n0 := 256) (n1 := 3584) a k) = (rQ (xAt V0 a k) (aAt V0 a)).setWidth 8 := by
  unfold XC
  rw [(XB_eq H a k).1, fts_word]

theorem XM_eq (a : Fin 256) : XM X a = rM (aAt V0 a) := by
  obtain ⟨h1, h2, -⟩ := bounds H a
  unfold XM
  rw [row_eq H a]
  exact (kM_eq _ h1 h2).1

theorem XK_eq (a : Fin 256) : XK X a = kK (aAt V0 a) := by
  unfold XK
  rw [row_eq H a]

/-- One column of the product of the codes with a weight matrix. -/
theorem gAt_join (W : Cert.KernelIdeal.S3584x512.Idx → BitVec 8) (Wr : Cert.ReferenceIdeal.S3584x18944.Idx → BitVec 8) (a : Fin 256) (c : Fin 512)
    (d : Fin 18944) (hW : ∀ k, W (ix2 (n0 := 3584) (n1 := 512) k c) = Wr (ix2 (n0 := 3584) (n1 := 18944) k d)) :
    gAt (XB X) W a c = rAcc (fun k => Cert.ReferenceIdeal.Value.res_main_v57_0 (F := Ideal) V0 (ix2 (n0 := 256) (n1 := 3584) a k))
      (fun k => Wr (ix2 (n0 := 3584) (n1 := 18944) k d)) := by
  have hq : ∀ k, ((rQ (xAt V0 a k) (aAt V0 a)).setWidth 8 : BitVec 8).toInt = (rQ (xAt V0 a k) (aAt V0 a)).toInt := fun k => by
    have := XB_eq H a k
    exact cut8 _ (by omega) (by omega)
  have e : (fun k => Cert.ReferenceIdeal.Value.res_main_v57_0 (F := Ideal) V0 (ix2 (n0 := 256) (n1 := 3584) a k))
      = fun k => (rQ (xAt V0 a k) (aAt V0 a)).setWidth 8 := funext fun k => Cert.ReferenceIdeal.Hand.v57_0_at V0 a k
  rw [e]
  exact gAt_eq (XB X) W a c _ _ (fun k => by rw [hq]; exact (XB_eq H a k).1) hW (fun k => by rw [hq]; exact (XB_eq H a k).2)

/-- A hidden value: the kernel's at block `t`, chunk `r`, lane `b`, the reference's at the column they name. -/
theorem hT_eq (t : ℕ) (ht : t < 37) (r : Fin 4) (a : Fin 256) (b : Fin 128) (d : Fin 18944) (hd : d.val = 128 * (4 * t + r.val) + b.val) :
    hT X W1 W2 E1 E2 t r a b = zf (hAt V0 a d).toInt ∧ -262017 ≤ (hAt V0 a d).toInt ∧ (hAt V0 a d).toInt ≤ 262017 := by
  have hdd : (⟨512 * t + (128 * r.val + b.val), by omega⟩ : Fin 18944) = d := Fin.ext (by simp only; omega)
  have g1 : ∀ k, W1 t (ix2 (n0 := 3584) (n1 := 512) k ⟨128 * r.val + b.val, by omega⟩)
      = (V0 (Proc.devRef .tc Cert.ReferenceIdeal.main_arg1) : Cert.ReferenceIdeal.S3584x18944.Idx → BitVec 8) (ix2 (n0 := 3584) (n1 := 18944) k d) := fun k => by
    rw [H.w1 t ht, hdd]
  have g2 : ∀ k, W2 t (ix2 (n0 := 3584) (n1 := 512) k ⟨128 * r.val + b.val, by omega⟩)
      = (V0 (Proc.devRef .tc Cert.ReferenceIdeal.main_arg2) : Cert.ReferenceIdeal.S3584x18944.Idx → BitVec 8) (ix2 (n0 := 3584) (n1 := 18944) k d) := fun k => by
    rw [H.w2 t ht, hdd]
  have e1 := H.e1 t ht ⟨128 * r.val + b.val, by omega⟩
  have e2 := H.e2 t ht ⟨128 * r.val + b.val, by omega⟩
  rw [hdd] at e1 e2
  have q : hT X W1 W2 E1 E2 t r a b = kH (kR (gAt (XB X) (W1 t) a ⟨128 * r.val + b.val, by omega⟩) (XM X a) (XK X a)
        (E1 t (ix2 (n0 := 1) (n1 := 512) 0 ⟨128 * r.val + b.val, by omega⟩)))
      (kR (gAt (XB X) (W2 t) a ⟨128 * r.val + b.val, by omega⟩) (XM X a) (XK X a)
        (E2 t (ix2 (n0 := 1) (n1 := 512) 0 ⟨128 * r.val + b.val, by omega⟩))) := rfl
  rw [q, gAt_join H _ _ a _ d g1, gAt_join H _ _ a _ d g2, XM_eq H, XK_eq H, e1, e2, (kR_eq _ _ _ _).1, (kR_eq _ _ _ _).1]
  exact kH_eq _ _ (kR_eq _ _ _ _).2.1 (kR_eq _ _ _ _).2.2 (kR_eq _ _ _ _).2.1 (kR_eq _ _ _ _).2.2
end

/-! ## The running least and greatest values -/

theorem le_mnA (z : EReal) (n : ℕ) (a : Fin 256) (b : Fin 128) :
    z ≤ mnA X W1 W2 E1 E2 n a b ↔ ∀ t < n, ∀ r, z ≤ hT X W1 W2 E1 E2 t r a b := by
  induction n with
  | zero => unfold mnA; rw [c_inf]; simp
  | succ n ih =>
    show z ≤ mn4 _ _ ↔ _
    unfold mn4
    rw [le_min_iff, le_min_iff, le_min_iff, le_min_iff, ih]
    constructor
    · rintro ⟨⟨⟨⟨h, h0⟩, h1⟩, h2⟩, h3⟩ t ht r
      rcases Nat.lt_succ_iff_lt_or_eq.1 ht with q | rfl
      · exact h t q r
      · fin_cases r
        exacts [h0, h1, h2, h3]
    · exact fun h => ⟨⟨⟨⟨fun t ht r => h t (by omega) r, h n (by omega) 0⟩, h n (by omega) 1⟩, h n (by omega) 2⟩, h n (by omega) 3⟩

theorem mxA_le (z : EReal) (n : ℕ) (a : Fin 256) (b : Fin 128) :
    mxA X W1 W2 E1 E2 n a b ≤ z ↔ ∀ t < n, ∀ r, hT X W1 W2 E1 E2 t r a b ≤ z := by
  induction n with
  | zero => unfold mxA; rw [c_ninf]; simp
  | succ n ih =>
    show mx4 _ _ ≤ z ↔ _
    unfold mx4
    rw [max_le_iff, max_le_iff, max_le_iff, max_le_iff, ih]
    constructor
    · rintro ⟨⟨⟨⟨h, h0⟩, h1⟩, h2⟩, h3⟩ t ht r
      rcases Nat.lt_succ_iff_lt_or_eq.1 ht with q | rfl
      · exact h t q r
      · fin_cases r
        exacts [h0, h1, h2, h3]
    · exact fun h => ⟨⟨⟨⟨fun t ht r => h t (by omega) r, h n (by omega) 0⟩, h n (by omega) 1⟩, h n (by omega) 2⟩, h n (by omega) 3⟩

/-- Where a column lies: its block, chunk and lane. -/
theorem column (d : Fin 18944) : d.val / 512 < 37 ∧ ∃ (r : Fin 4) (b : Fin 128), d.val = 128 * (4 * (d.val / 512) + r.val) + b.val :=
  ⟨by omega, ⟨d.val / 128 % 4, by omega⟩, ⟨d.val % 128, by omega⟩, by simp only; omega⟩

/-- A row's greatest hidden value, as the reference has it. -/
def hiAt (V0 : Valuation Cert.ReferenceIdeal.τ Cert.ReferenceIdeal.sig (Elt Ideal)) (a : Fin 256) : BitVec 32 := Finset.univ.fold IntOp.maxsi 2147483648#32 (hAt V0 a)

section
variable (H : Agree X W1 W2 E1 E2 V0)
include H

theorem h_bound (a : Fin 256) (d : Fin 18944) : -262017 ≤ (hAt V0 a d).toInt ∧ (hAt V0 a d).toInt ≤ 262017 := by
  obtain ⟨ht, r, b, hd⟩ := column d
  exact (hT_eq H _ ht r a b d hd).2

theorem lo_spec (a : Fin 256) : (∀ d, (lowAt V0 a).toInt ≤ (hAt V0 a d).toInt) ∧ ∃ d, (lowAt V0 a).toInt = (hAt V0 a d).toInt := by
  have e : (lowAt V0 a).toInt = Finset.univ.fold min 2147483647 fun d => (hAt V0 a d).toInt := by
    unfold lowAt; rw [fold_minsi]; rfl
  have l : ∀ d, (lowAt V0 a).toInt ≤ (hAt V0 a d).toInt := fun d => by
    rw [e]; exact (Finset.fold_min_le _).2 (Or.inr ⟨d, Finset.mem_univ d, le_refl _⟩)
  refine ⟨l, ?_⟩
  rcases (Finset.fold_min_le _).1 e.ge with q | ⟨d, -, q⟩
  · have := l 0
    have := h_bound H a 0
    omega
  · exact ⟨d, le_antisymm (l d) q⟩

theorem hi_spec (a : Fin 256) : (∀ d, (hAt V0 a d).toInt ≤ (hiAt V0 a).toInt) ∧ ∃ d, (hiAt V0 a).toInt = (hAt V0 a d).toInt := by
  have e : (hiAt V0 a).toInt = Finset.univ.fold max (-2147483648) fun d => (hAt V0 a d).toInt := by
    unfold hiAt; rw [fold_maxsi]; rfl
  have l : ∀ d, (hAt V0 a d).toInt ≤ (hiAt V0 a).toInt := fun d => by
    rw [e]; exact (Finset.le_fold_max _).2 (Or.inr ⟨d, Finset.mem_univ d, le_refl _⟩)
  refine ⟨l, ?_⟩
  rcases (Finset.le_fold_max _).1 e.le with q | ⟨d, -, q⟩
  · have := l 0
    have := h_bound H a 0
    omega
  · exact ⟨d, le_antisymm q (l d)⟩

theorem sLo_eq (a : Fin 256) : sLo X W1 W2 E1 E2 a = zf (lowAt V0 a).toInt := by
  obtain ⟨l, d, hd⟩ := lo_spec H a
  unfold sLo kLo
  apply le_antisymm
  · obtain ⟨ht, r, b, hc⟩ := column d
    rw [hd, ← (hT_eq H _ ht r a b d hc).1]
    exact (Finset.fold_min_le _).2 (Or.inr ⟨b, Finset.mem_univ b, (le_mnA _ _ _ _).1 (le_refl _) _ ht r⟩)
  · refine (Finset.le_fold_min _).2 ⟨by rw [c_inf]; exact le_top, fun b _ => (le_mnA _ _ _ _).2 fun t ht r => ?_⟩
    rw [(hT_eq H t ht r a b ⟨128 * (4 * t + r.val) + b.val, by omega⟩ rfl).1, zf_le]
    exact l _

theorem sHi_eq (a : Fin 256) : sHi X W1 W2 E1 E2 a = zf (hiAt V0 a).toInt := by
  obtain ⟨l, d, hd⟩ := hi_spec H a
  unfold sHi kHi
  apply le_antisymm
  · refine (Finset.fold_max_le _).2 ⟨by rw [c_ninf]; exact bot_le, fun b _ => (mxA_le _ _ _ _).2 fun t ht r => ?_⟩
    rw [(hT_eq H t ht r a b ⟨128 * (4 * t + r.val) + b.val, by omega⟩ rfl).1, zf_le]
    exact l _
  · obtain ⟨ht, r, b, hc⟩ := column d
    rw [hd, ← (hT_eq H _ ht r a b d hc).1]
    exact (Finset.le_fold_max _).2 (Or.inr ⟨b, Finset.mem_univ b, (mxA_le _ _ _ _).1 (le_refl _) _ ht r⟩)

/-- A row's least value, as the kernel writes it. -/
theorem sLo_word (a : Fin 256) : FloatOps.fptosi (F := Ideal) (φ := .f32) 32 (sLo X W1 W2 E1 E2 a) = lowAt V0 a := by
  rw [sLo_eq H, fts_word]

/-- A row's range. -/
theorem sD_eq (a : Fin 256) : sD X W1 W2 E1 E2 a = dAt V0 a := by
  unfold sD kD
  rw [sLo_eq H, sHi_eq H, fts_word, fts_word]
  rfl

theorem d_spec (a : Fin 256) : 1 ≤ (dAt V0 a).toInt ∧ (dAt V0 a).toInt < 2 ^ 19 ∧ ∀ d, (hAt V0 a d).toInt - (lowAt V0 a).toInt ≤ (dAt V0 a).toInt := by
  obtain ⟨l, i, hi⟩ := lo_spec H a
  obtain ⟨u, j, hj⟩ := hi_spec H a
  have b1 := h_bound H a i
  have b2 := h_bound H a j
  have e : (dAt V0 a).toInt = max ((hiAt V0 a).toInt - (lowAt V0 a).toInt) 1 := by
    unfold dAt
    rw [mxT]
    exact congrArg₂ max (sb (hiAt V0 a) (lowAt V0 a) (by omega) (by omega)) (by decide)
  rw [e]
  exact ⟨le_max_right _ _, by omega, fun d => by have := u d; omega⟩

theorem kHM_join (a : Fin 256) : kHM (sD X W1 W2 E1 E2 a) = mAt V0 a := by
  obtain ⟨h1, h2, -⟩ := d_spec H a
  rw [sD_eq H]
  exact (kHM_eq _ h1 (h2.trans (by norm_num))).1

/-- The final code. -/
theorem kCode_join (t : ℕ) (ht : t < 37) (r : Fin 4) (a : Fin 256) (b : Fin 128) (d : Fin 18944) (hd : d.val = 128 * (4 * t + r.val) + b.val) :
    kCode (hT X W1 W2 E1 E2 t r a b) (sLo X W1 W2 E1 E2 a) (kScale (kHN (sD X W1 W2 E1 E2 a)) (kHM (sD X W1 W2 E1 E2 a)))
      = codeAt V0 a d := by
  obtain ⟨h1, h2, h3⟩ := d_spec H a
  have hm := (kHM_eq _ h1 (h2.trans (by norm_num))).2
  have hk := kHM_join H a
  rw [hk, (hT_eq H t ht r a b d hd).1, sLo_eq H, sD_eq H]
  rw [sD_eq H] at hk
  rw [hk] at hm
  have := (lo_spec H a).1 d
  unfold codeAt
  exact kCode_eq _ _ _ _ (by omega) (h3 d) h1 h2 hm.1 hm.2
end

end Cert.Join
end
-- ==== Proof.lean ====
module

public import proofs.«01_k».proof.Defs
public import proofs.«01_k».proof.Proof.KernelFrame
public import proofs.«01_k».proof.Proof.KernelIdealFrame
public import proofs.«01_k».proof.Proof.BlockReads
public import proofs.«01_k».proof.Proof.ReferenceRun
public import proofs.«01_k».proof.Proof.Join
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Idealize.ShloMosaic.StableHlo
open Cert.KernelIdeal.Hand Cert.Join
open Cert.ReferenceIdeal.Hand (xAt aAt hAt dAt mAt lowAt codeAt xAt_arg runV)

theorem facts_pre : Cert.Pre_x_in_range.Facts := ⟨by decide⟩

theorem frame_r : Cert.quiescent_ReferenceIdeal := by
  intro m ρ _
  exact (θ_run Cert.ReferenceIdeal.defs _ _).mono (fun r h => ⟨fun c => (h c).2.2.2.2.2.2.2,
    sem_eq_zero_of_no_sems (by decide) r.2⟩) (Cert.ReferenceIdeal.Value.run (F := Ideal) m ρ)

/-- The precondition, element by element. -/
theorem pre_at [h : Cert.Pre_x_in_range.Facts] (m : (ℓ : Loc Cert.KernelIdeal.nD Cert.KernelIdeal.τ Cert.KernelIdeal.sig) → Buf (Elt Ideal) ℓ)
    (hp : Cert.Pre_KernelIdeal_x_in_range m) (c : Dev Cert.KernelIdeal.nD) (y : Cert.KernelIdeal.S1x256x3584.Idx) :
    -8388607 ≤ ((m ((c.tc : Thread Cert.KernelIdeal.nD Cert.KernelIdeal.τ).loc Cert.KernelIdeal.main_arg0) : Cert.KernelIdeal.S1x256x3584.Idx → BitVec 32) y).toInt
    ∧ ((m ((c.tc : Thread Cert.KernelIdeal.nD Cert.KernelIdeal.τ).loc Cert.KernelIdeal.main_arg0) : Cert.KernelIdeal.S1x256x3584.Idx → BitVec 32) y).toInt ≤ 8388607 := by
  have q := congrFun (hp c) y
  generalize (m ((c.tc : Thread Cert.KernelIdeal.nD Cert.KernelIdeal.τ).loc Cert.KernelIdeal.main_arg0) : Cert.KernelIdeal.S1x256x3584.Idx → BitVec 32) = x at q ⊢
  have q' : IntOp.andi (IntOp.cmpi .sge (x y) 4286578689#32) (IntOp.cmpi .sle (x y) 8388607#32) = 1#1 := q
  have c1 : (4286578689#32 : BitVec 32).toInt = -8388607 := by decide
  have c2 : (8388607#32 : BitVec 32).toInt = 8388607 := by decide
  unfold IntOp.andi IntOp.cmpi at q'
  simp only [BitVec.sle_eq_decide, c1, c2] at q'
  by_cases h1 : -8388607 ≤ (x y).toInt
  · by_cases h2 : (x y).toInt ≤ 8388607
    · exact ⟨h1, h2⟩
    · simp [h2] at q'
  · simp [h1] at q'

theorem algebraic [hPre : Cert.Pre_x_in_range.Facts] : Cert.algebraic_KernelIdeal_ReferenceIdeal_pre_x_in_range := by
  intro m g m' g' hp hargs
  refine ⟨_, _, _, _, _, _, _, ?_, runV m' g'⟩
  refine (θ_run Cert.KernelIdeal.defs _ _).mono (fun r h c => ?_) (valueV m g)
  obtain ⟨⟨f6, f7, f8, f9, f10, f11, f12⟩, k0, k1, k2, k3, k4⟩ := h c
  obtain ⟨a0, a1, a2, a3, a4⟩ := hargs c
  have e0 : ∀ a k, xAt (launchContents m' c) a k
      = (m ((c.tc : Thread Cert.KernelIdeal.nD Cert.KernelIdeal.τ).loc Cert.KernelIdeal.main_arg0) : Cert.KernelIdeal.S1x256x3584.Idx → BitVec 32) (ix3 (n0 := 1) (n1 := 256) (n2 := 3584) 0 a k) :=
    fun a k => (xAt_arg (launchContents m' c) a k).trans (congrFun a0 _)
  have H : Agree (bX m c) (bW1 m c) (bW2 m c) (bE1 m c) (bE2 m c) (launchContents m' c) :=
    { x := fun a k => (bX_at m c a k).trans (e0 a k).symm
      w1 := fun n hn k j => (bW1_at m c n hn k j).trans (congrFun a1 _).symm
      w2 := fun n hn k j => (bW2_at m c n hn k j).trans (congrFun a2 _).symm
      e1 := fun n hn j => (bE1_at m c n hn j).trans (congrFun a3 _).symm
      e2 := fun n hn j => (bE2_at m c n hn j).trans (congrFun a4 _).symm
      r := fun a k => by rw [e0]; exact pre_at m hp c _ }
  refine ⟨?_, ?_, ?_, ?_, ?_, ?_, ?_, k0, k1, k2, k3, k4⟩
  · funext y
    obtain ⟨ht, q, b, hd⟩ := column (y 1)
    have hj : 4 * ((y 1 : Fin 18944).val / 512) + q.val < 148 := by omega
    have hf := f6 _ q ⟨_, hj⟩ (y 0) b ht rfl
    have hy : (⟨128 * (4 * ((y 1 : Fin 18944).val / 512) + q.val) + b.val, by omega⟩ : Fin 18944) = y 1 := Fin.ext hd.symm
    rw [hy, kCode_join H _ ht q (y 0) b (y 1) hd] at hf
    conv_lhs => rw [eq_ix2 y]
    exact hf
  · funext y
    conv_lhs => rw [eq_ix2 y]
    exact (f7 (y 0) (y 1)).trans (kHM_join H (y 0))
  · funext y
    conv_lhs => rw [eq_ix2 y]
    exact (f8 (y 0) (y 1)).trans (congrArg (fun d => IntOp.subi 25#32 (kN d)) (sD_eq H (y 0)))
  · funext y
    conv_lhs => rw [eq_ix2 y]
    exact (f9 (y 0) (y 1)).trans (sLo_word H (y 0))
  · rw [f10]
    funext y
    conv_lhs => rw [eq_ix2 y]
    exact XC_eq H (y 0) (y 1)
  · rw [f11]
    exact funext fun y => XM_eq H (y 0)
  · rw [f12]
    exact funext fun y => XK_eq H (y 0)

theorem claim : Cert.Claim := ⟨Cert.Kernel.Gen.facts, Cert.KernelIdeal.Gen.facts, Cert.ReferenceIdeal.Gen.facts, facts_pre,
  fun m ρ _ => Cert.Kernel.Hand.frame_main (F := Bits) m ρ, fun m ρ _ => Cert.KernelIdeal.Hand.frame_main (F := Ideal) m ρ,
  fun m ρ _ => Cert.KernelIdeal.Hand.frame_main (F := Ideal) m ρ, frame_r, fun m ρ _ => frame_r m ρ trivial, trivial,
  algebraic (hPre := facts_pre)⟩

end Cert.Proof

end
